-- ==== Defs.lean ====
def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite [hPre_finite : Cert.Pre_finite.Facts] (m : (ℓ : Loc Cert.UpIdeal.nD Cert.UpIdeal.τ Cert.UpIdeal.sig) → Buf (Elt Ideal) ℓ) : Prop :=
  ∀ c : Dev Cert.UpIdeal.nD,
    (Cert.Pre_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7))).1 = (fun _ => 1#1)
    ∧ (Cert.Pre_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7))).2.1 = (fun _ => 1#1)
    ∧ (Cert.Pre_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7))).2.2.1 = (fun _ => 1#1)
    ∧ (Cert.Pre_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7))).2.2.2.1 = (fun _ => 1#1)
    ∧ (Cert.Pre_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7))).2.2.2.2.1 = (fun _ => 1#1)
    ∧ (Cert.Pre_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7))).2.2.2.2.2.1 = (fun _ => 1#1)
    ∧ (Cert.Pre_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7))).2.2.2.2.2.2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_finite [hPre_finite : Cert.Pre_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7))).1 = (fun _ => 1#1)
    ∧ (Cert.Pre_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7))).2.1 = (fun _ => 1#1)
    ∧ (Cert.Pre_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7))).2.2.1 = (fun _ => 1#1)
    ∧ (Cert.Pre_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7))).2.2.2.1 = (fun _ => 1#1)
    ∧ (Cert.Pre_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7))).2.2.2.2.1 = (fun _ => 1#1)
    ∧ (Cert.Pre_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7))).2.2.2.2.2.1 = (fun _ => 1#1)
    ∧ (Cert.Pre_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7))).2.2.2.2.2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0)
      ∧ r.2.mem ((c.tc : Thread Cert.QuantRefIdeal.nD Cert.QuantRefIdeal.τ).loc Cert.QuantRefIdeal.main_arg1) = m ((c.tc : Thread Cert.QuantRefIdeal.nD Cert.QuantRefIdeal.τ).loc Cert.QuantRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6)
      ∧ r.2.mem ((c.tc : Thread Cert.Up.nD Cert.Up.τ).loc Cert.Up.main_arg7) = m ((c.tc : Thread Cert.Up.nD Cert.Up.τ).loc Cert.Up.main_arg7))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
      ∧ r.2.mem ((c.tc : Thread Cert.UpIdeal.nD Cert.UpIdeal.τ).loc Cert.UpIdeal.main_arg7) = m ((c.tc : Thread Cert.UpIdeal.nD Cert.UpIdeal.τ).loc Cert.UpIdeal.main_arg7))
      ∧ r.2.sem = fun _ => 0)

def quiescent_UpIdeal_pre_finite [hUpIdeal : Cert.UpIdeal.Facts] [hPre_finite : Cert.Pre_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
      ∧ r.2.mem ((c.tc : Thread Cert.UpIdeal.nD Cert.UpIdeal.τ).loc Cert.UpIdeal.main_arg7) = m ((c.tc : Thread Cert.UpIdeal.nD Cert.UpIdeal.τ).loc Cert.UpIdeal.main_arg7))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6)
      ∧ r.2.mem ((c.tc : Thread Cert.UpRefIdeal.nD Cert.UpRefIdeal.τ).loc Cert.UpRefIdeal.main_arg7) = m ((c.tc : Thread Cert.UpRefIdeal.nD Cert.UpRefIdeal.τ).loc Cert.UpRefIdeal.main_arg7))
      ∧ r.2.sem = fun _ => 0)

def quiescent_UpRefIdeal_pre_finite [hUpRefIdeal : Cert.UpRefIdeal.Facts] [hPre_finite : Cert.Pre_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6)
      ∧ r.2.mem ((c.tc : Thread Cert.UpRefIdeal.nD Cert.UpRefIdeal.τ).loc Cert.UpRefIdeal.main_arg7) = m ((c.tc : Thread Cert.UpRefIdeal.nD Cert.UpRefIdeal.τ).loc Cert.UpRefIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def preserves_Quant_QuantIdeal : Prop :=
  True

def algebraic_QuantIdeal_QuantRefIdeal [hQuantIdeal : Cert.QuantIdeal.Facts] [hQuantRefIdeal : Cert.QuantRefIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)
      ∧ m' ((c.tc : Thread Cert.QuantRefIdeal.nD Cert.QuantRefIdeal.τ).loc Cert.QuantRefIdeal.main_arg1) = m ((c.tc : Thread Cert.QuantIdeal.nD Cert.QuantIdeal.τ).loc Cert.QuantIdeal.main_arg1)) →
    ∃ (v0 : (c : Dev Cert.QuantIdeal.nD) → Buf (Elt Ideal) ((c.tc : Thread Cert.QuantIdeal.nD Cert.QuantIdeal.τ).loc Cert.QuantIdeal.main_v3)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v3) = v0 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v2) = v0 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0)
          ∧ r.2.mem ((c.tc : Thread Cert.QuantRefIdeal.nD Cert.QuantRefIdeal.τ).loc Cert.QuantRefIdeal.main_arg1) = m' ((c.tc : Thread Cert.QuantRefIdeal.nD Cert.QuantRefIdeal.τ).loc Cert.QuantRefIdeal.main_arg1))

def preserves_Up_UpIdeal : Prop :=
  True

def algebraic_UpIdeal_UpRefIdeal_pre_finite [hUpIdeal : Cert.UpIdeal.Facts] [hUpRefIdeal : Cert.UpRefIdeal.Facts] [hPre_finite : Cert.Pre_finite.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_finite m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)
      ∧ m' ((c.tc : Thread Cert.UpRefIdeal.nD Cert.UpRefIdeal.τ).loc Cert.UpRefIdeal.main_arg7) = m ((c.tc : Thread Cert.UpIdeal.nD Cert.UpIdeal.τ).loc Cert.UpIdeal.main_arg7)) →
    ∃ (v0 : (c : Dev Cert.UpIdeal.nD) → Buf (Elt Ideal) ((c.tc : Thread Cert.UpIdeal.nD Cert.UpIdeal.τ).loc Cert.UpIdeal.main_v23)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v23) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
          ∧ r.2.mem ((c.tc : Thread Cert.UpIdeal.nD Cert.UpIdeal.τ).loc Cert.UpIdeal.main_arg7) = m ((c.tc : Thread Cert.UpIdeal.nD Cert.UpIdeal.τ).loc Cert.UpIdeal.main_arg7))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v8) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6)
          ∧ r.2.mem ((c.tc : Thread Cert.UpRefIdeal.nD Cert.UpRefIdeal.τ).loc Cert.UpRefIdeal.main_arg7) = m' ((c.tc : Thread Cert.UpRefIdeal.nD Cert.UpRefIdeal.τ).loc Cert.UpRefIdeal.main_arg7))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def Claim : Prop :=
  ∃ (hQuant : Cert.Quant.Facts) (hQuantIdeal : Cert.QuantIdeal.Facts) (hQuantRefIdeal : Cert.QuantRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hPre_finite : Cert.Pre_finite.Facts),
    quiescent_Quant (hQuant := hQuant)
    ∧ quiescent_QuantIdeal (hQuantIdeal := hQuantIdeal)
    ∧ quiescent_QuantRefIdeal (hQuantRefIdeal := hQuantRefIdeal)
    ∧ quiescent_Up (hUp := hUp)
    ∧ quiescent_UpIdeal (hUpIdeal := hUpIdeal)
    ∧ quiescent_UpIdeal_pre_finite (hUpIdeal := hUpIdeal) (hPre_finite := hPre_finite)
    ∧ quiescent_UpRefIdeal (hUpRefIdeal := hUpRefIdeal)
    ∧ quiescent_UpRefIdeal_pre_finite (hUpRefIdeal := hUpRefIdeal) (hPre_finite := hPre_finite)
    ∧ quiescent_Down (hDown := hDown)
    ∧ quiescent_DownIdeal (hDownIdeal := hDownIdeal)
    ∧ quiescent_DownRefIdeal (hDownRefIdeal := hDownRefIdeal)
    ∧ preserves_Quant_QuantIdeal
    ∧ algebraic_QuantIdeal_QuantRefIdeal (hQuantIdeal := hQuantIdeal) (hQuantRefIdeal := hQuantRefIdeal)
    ∧ preserves_Up_UpIdeal
    ∧ algebraic_UpIdeal_UpRefIdeal_pre_finite (hUpIdeal := hUpIdeal) (hUpRefIdeal := hUpRefIdeal) (hPre_finite := hPre_finite)
    ∧ preserves_Down_DownIdeal
    ∧ algebraic_DownIdeal_DownRefIdeal (hDownIdeal := hDownIdeal) (hDownRefIdeal := hDownRefIdeal)
-- ==== Pre_finite.lean ====
abbrev S16384x3072 : Shape := ⟨2, ![16384, 3072]⟩
abbrev S3072x15360 : Shape := ⟨2, ![3072, 15360]⟩
abbrev S15360 : Shape := ⟨1, ![15360]⟩
abbrev S3x3x15360 : Shape := ⟨3, ![3, 3, 15360]⟩
abbrev S1 : Shape := ⟨1, ![1]⟩
abbrev S_ : Shape := ⟨0, ![]⟩

class Facts : Prop where
  bcast_S_S16384x3072 : S_.BroadcastsInDim S16384x3072 (![] : Fin 0 → Fin S16384x3072.rank)
  bcast_S_S3072x15360 : S_.BroadcastsInDim S3072x15360 (![] : Fin 0 → Fin S3072x15360.rank)
  bcast_S_S15360 : S_.BroadcastsInDim S15360 (![] : Fin 0 → Fin S15360.rank)
  bcast_S_S3x3x15360 : S_.BroadcastsInDim S3x3x15360 (![] : Fin 0 → Fin S3x3x15360.rank)
  bcast_S_S1 : S_.BroadcastsInDim S1 (![] : Fin 0 → Fin S1.rank)

variable [Facts]

def fn_part1 {F : FTy → Type} [FloatOps F] (main_arg6 : FVec F S1 .f32) (main_v2 : IVec S16384x3072 1) (main_v5 : IVec S3072x15360 1) (main_v8 : IVec S15360 1) (main_v11 : IVec S15360 1) (main_v14 : IVec S3x3x15360 1) (main_v17 : IVec S15360 1) : IVec S16384x3072 1 × IVec S3072x15360 1 × IVec S15360 1 × IVec S15360 1 × IVec S3x3x15360 1 × IVec S15360 1 × IVec S1 1 :=
  let main_v18 : FVec F S1 .f32 := subf main_arg6 main_arg6
  let main_cst_5 : FVec F S_ .f32 := constant S_ .f32 0x00000000#32
  let main_v19 : FVec F S1 .f32 := broadcastInDim S1 ![] bcast_S_S1 main_cst_5
  let main_v20 : IVec S1 1 := cmpf .oeq main_v18 main_v19
  (main_v2, main_v5, main_v8, main_v11, main_v14, main_v17, main_v20)

def fn {F : FTy → Type} [FloatOps F] (main_arg0 : FVec F S16384x3072 .f32) (main_arg1 : FVec F S3072x15360 .f32) (main_arg2 : FVec F S15360 .f32) (main_arg3 : FVec F S15360 .f32) (main_arg4 : FVec F S3x3x15360 .bf16) (main_arg5 : FVec F S15360 .f32) (main_arg6 : FVec F S1 .f32) (main_arg7 : FVec F S1 .f32) : IVec S16384x3072 1 × IVec S3072x15360 1 × IVec S15360 1 × IVec S15360 1 × IVec S3x3x15360 1 × IVec S15360 1 × IVec S1 1 :=
  let main_v0 : FVec F S16384x3072 .f32 := subf main_arg0 main_arg0
  let main_cst : FVec F S_ .f32 := constant S_ .f32 0x00000000#32
  let main_v1 : FVec F S16384x3072 .f32 := broadcastInDim S16384x3072 ![] bcast_S_S16384x3072 main_cst
  let main_v2 : IVec S16384x3072 1 := cmpf .oeq main_v0 main_v1
  let main_v3 : FVec F S3072x15360 .f32 := subf main_arg1 main_arg1
  let main_cst_0 : FVec F S_ .f32 := constant S_ .f32 0x00000000#32
  let main_v4 : FVec F S3072x15360 .f32 := broadcastInDim S3072x15360 ![] bcast_S_S3072x15360 main_cst_0
  let main_v5 : IVec S3072x15360 1 := cmpf .oeq main_v3 main_v4
  let main_v6 : FVec F S15360 .f32 := subf main_arg2 main_arg2
  let main_cst_1 : FVec F S_ .f32 := constant S_ .f32 0x00000000#32
  let main_v7 : FVec F S15360 .f32 := broadcastInDim S15360 ![] bcast_S_S15360 main_cst_1
  let main_v8 : IVec S15360 1 := cmpf .oeq main_v6 main_v7
  let main_v9 : FVec F S15360 .f32 := subf main_arg3 main_arg3
  let main_cst_2 : FVec F S_ .f32 := constant S_ .f32 0x00000000#32
  let main_v10 : FVec F S15360 .f32 := broadcastInDim S15360 ![] bcast_S_S15360 main_cst_2
  let main_v11 : IVec S15360 1 := cmpf .oeq main_v9 main_v10
  let main_v12 : FVec F S3x3x15360 .bf16 := subf main_arg4 main_arg4
  let main_cst_3 : FVec F S_ .bf16 := constant S_ .bf16 0x0000#16
  let main_v13 : FVec F S3x3x15360 .bf16 := broadcastInDim S3x3x15360 ![] bcast_S_S3x3x15360 main_cst_3
  let main_v14 : IVec S3x3x15360 1 := cmpf .oeq main_v12 main_v13
  let main_v15 : FVec F S15360 .f32 := subf main_arg5 main_arg5
  let main_cst_4 : FVec F S_ .f32 := constant S_ .f32 0x00000000#32
  let main_v16 : FVec F S15360 .f32 := broadcastInDim S15360 ![] bcast_S_S15360 main_cst_4
  let main_v17 : IVec S15360 1 := cmpf .oeq main_v15 main_v16
  fn_part1 (F := F) main_arg6 main_v2 main_v5 main_v8 main_v11 main_v14 main_v17
-- ==== Quant.lean ====
abbrev S2x8192x3072 : Shape := ⟨3, ![2, 8192, 3072]⟩
abbrev S1 : Shape := ⟨1, ![1]⟩
abbrev S16384x3072 : Shape := ⟨2, ![16384, 3072]⟩
abbrev S_ : Shape := ⟨0, ![]⟩
abbrev S1024x3072 : Shape := ⟨2, ![1024, 3072]⟩

abbrev nBuf : Space → Nat
  | .hbm => 7
  | .vmem => 4
  | .smem => 1
  | _ => 0

abbrev bufTy : (tb : Table) → Fin (tcTables nBuf tb) → BufTy
  | .hbm, ⟨0, _⟩ => ⟨S2x8192x3072, .bf16⟩
  | .hbm, ⟨1, _⟩ => ⟨S1, .f32⟩
  | .hbm, ⟨2, _⟩ => ⟨S16384x3072, .bf16⟩
  | .hbm, ⟨3, _⟩ => ⟨S_, .f32⟩
  | .hbm, ⟨4, _⟩ => ⟨S1, .f32⟩
  | .hbm, ⟨5, _⟩ => ⟨S1, .f32⟩
  | .hbm, ⟨6, _⟩ => ⟨S16384x3072, .fp8e4m3⟩
  | .local _ .vmem, ⟨0, _⟩ => ⟨S1024x3072, .bf16⟩
  | .local _ .vmem, ⟨1, _⟩ => ⟨S1024x3072, .bf16⟩
  | .local _ .vmem, ⟨2, _⟩ => ⟨S1024x3072, .fp8e4m3⟩
  | .local _ .vmem, ⟨3, _⟩ => ⟨S1024x3072, .fp8e4m3⟩
  | .local _ .smem, ⟨0, _⟩ => ⟨S1, .f32⟩
  | _, _ => ⟨S2x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x3072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantRefIdeal.lean ====
abbrev S2x8192x3072 : Shape := ⟨3, ![2, 8192, 3072]⟩
abbrev S1 : Shape := ⟨1, ![1]⟩
abbrev S16384x3072 : Shape := ⟨2, ![16384, 3072]⟩
abbrev S1x1 : Shape := ⟨2, ![1, 1]⟩

abbrev nBuf : Space → Nat
  | .hbm => 5
  | .vmem => 3
  | .smem => 0
  | _ => 0

abbrev bufTy : (tb : Table) → Fin (tcTables nBuf tb) → BufTy
  | .hbm, ⟨0, _⟩ => ⟨S2x8192x3072, .bf16⟩
  | .hbm, ⟨1, _⟩ => ⟨S1, .f32⟩
  | .hbm, ⟨2, _⟩ => ⟨S16384x3072, .bf16⟩
  | .hbm, ⟨3, _⟩ => ⟨S1x1, .f32⟩
  | .hbm, ⟨4, _⟩ => ⟨S16384x3072, .fp8e4m3⟩
  | .local _ .vmem, ⟨0, _⟩ => ⟨S16384x3072, .bf16⟩
  | .local _ .vmem, ⟨1, _⟩ => ⟨S1x1, .f32⟩
  | .local _ .vmem, ⟨2, _⟩ => ⟨S16384x3072, .fp8e4m3⟩
  | _, _ => ⟨S2x8192x3072, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16384x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Up.lean ====
abbrev S16384x3072 : Shape := ⟨2, ![16384, 3072]⟩
abbrev S3072x15360 : Shape := ⟨2, ![3072, 15360]⟩
abbrev S15360 : Shape := ⟨1, ![15360]⟩
abbrev S3x3x15360 : Shape := ⟨3, ![3, 3, 15360]⟩
abbrev S1 : Shape := ⟨1, ![1]⟩
abbrev S_ : Shape := ⟨0, ![]⟩
abbrev S1x15360 : Shape := ⟨2, ![1, 15360]⟩
abbrev S7680 : Shape := ⟨1, ![7680]⟩
abbrev S9x1x15360 : Shape := ⟨3, ![9, 1, 15360]⟩
abbrev S1x1x15360 : Shape := ⟨3, ![1, 1, 15360]⟩
abbrev S9x16x15360 : Shape := ⟨3, ![9, 16, 15360]⟩
abbrev S16384x7680 : Shape := ⟨2, ![16384, 7680]⟩
abbrev S1024x3072 : Shape := ⟨2, ![1024, 3072]⟩
abbrev S3072x512 : Shape := ⟨2, ![3072, 512]⟩
abbrev S1x512 : Shape := ⟨2, ![1, 512]⟩
abbrev S9x16x512 : Shape := ⟨3, ![9, 16, 512]⟩
abbrev S1024x512 : Shape := ⟨2, ![1024, 512]⟩
abbrev S8x4x144x128 : Shape := ⟨4, ![8, 4, 144, 128]⟩
abbrev S2x3x8x8x128x128 : Shape := ⟨6, ![2, 3, 8, 8, 128, 128]⟩
abbrev S3x8x128x128 : Shape := ⟨4, ![3, 8, 128, 128]⟩
abbrev S256x3072 : Shape := ⟨2, ![256, 3072]⟩
abbrev S3072x256 : Shape := ⟨2, ![3072, 256]⟩
abbrev S256x256 : Shape := ⟨2, ![256, 256]⟩
abbrev S256x128 : Shape := ⟨2, ![256, 128]⟩
abbrev S1x128 : Shape := ⟨2, ![1, 128]⟩
abbrev S128x128 : Shape := ⟨2, ![128, 128]⟩
abbrev S1x1x1x1x128x128 : Shape := ⟨6, ![1, 1, 1, 1, 128, 128]⟩
abbrev S1x1x128x128 : Shape := ⟨4, ![1, 1, 128, 128]⟩
abbrev S1x3x8x1x128x128 : Shape := ⟨6, ![1, 3, 8, 1, 128, 128]⟩
abbrev S1x16x128 : Shape := ⟨3, ![1, 16, 128]⟩
abbrev S16x128 : Shape := ⟨2, ![16, 128]⟩
abbrev S1x1x16x128 : Shape := ⟨4, ![1, 1, 16, 128]⟩
abbrev S1x1x1x1x16x128 : Shape := ⟨6, ![1, 1, 1, 1, 16, 128]⟩
abbrev S32x128 : Shape := ⟨2, ![32, 128]⟩

abbrev nBuf : Space → Nat
  | .hbm => 37
  | .vmem => 28
  | .smem => 1
  | _ => 0

abbrev bufTy : (tb : Table) → Fin (tcTables nBuf tb) → BufTy
  | .hbm, ⟨0, _⟩ => ⟨S16384x3072, .f32⟩
  | .hbm, ⟨1, _⟩ => ⟨S3072x15360, .f32⟩
  | .hbm, ⟨2, _⟩ => ⟨S15360, .f32⟩
  | .hbm, ⟨3, _⟩ => ⟨S15360, .f32⟩
  | .hbm, ⟨4, _⟩ => ⟨S3x3x15360, .bf16⟩
  | .hbm, ⟨5, _⟩ => ⟨S15360, .f32⟩
  | .hbm, ⟨6, _⟩ => ⟨S1, .f32⟩
  | .hbm, ⟨7, _⟩ => ⟨S1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S15360, .f32⟩
  | .hbm, ⟨12, _⟩ => ⟨S15360, .f32⟩
  | .hbm, ⟨13, _⟩ => ⟨S1x15360, .f32⟩
  | .hbm, ⟨14, _⟩ => ⟨S_, .f32⟩
  | .hbm, ⟨15, _⟩ => ⟨S15360, .f32⟩
  | .hbm, ⟨16, _⟩ => ⟨S15360, .f32⟩
  | .hbm, ⟨17, _⟩ => ⟨S1x15360, .f32⟩
  | .hbm, ⟨18, _⟩ => ⟨S_, .f32⟩
  | .hbm, ⟨19, _⟩ => ⟨S7680, .f32⟩
  | .hbm, ⟨20, _⟩ => ⟨S_, .f32⟩
  | .hbm, ⟨21, _⟩ => ⟨S7680, .f32⟩
  | .hbm, ⟨22, _⟩ => ⟨S15360, .f32⟩
  | .hbm, ⟨23, _⟩ => ⟨S9x1x15360, .bf16⟩
  | .hbm, ⟨24, _⟩ => ⟨S15360, .bf16⟩
  | .hbm, ⟨25, _⟩ => ⟨S1x1x15360, .bf16⟩
  | .hbm, ⟨26, _⟩ => ⟨S9x1x15360, .bf16⟩
  | .hbm, ⟨27, _⟩ => ⟨S9x1x15360, .bf16⟩
  | .hbm, ⟨28, _⟩ => ⟨S9x16x15360, .bf16⟩
  | .hbm, ⟨29, _⟩ => ⟨S15360, .f32⟩
  | .hbm, ⟨30, _⟩ => ⟨S1x15360, .f32⟩
  | .hbm, ⟨31, _⟩ => ⟨S16384x3072, .fp8e4m3⟩
  | .hbm, ⟨32, _⟩ => ⟨S3072x15360, .fp8e4m3⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S16384x7680, .fp8e4m3⟩
  | .local _ .vmem, ⟨0, _⟩ => ⟨S1024x3072, .fp8e4m3⟩
  | .local _ .vmem, ⟨1, _⟩ => ⟨S1024x3072, .fp8e4m3⟩
  | .local _ .vmem, ⟨2, _⟩ => ⟨S3072x512, .fp8e4m3⟩
  | .local _ .vmem, ⟨3, _⟩ => ⟨S3072x512, .fp8e4m3⟩
  | .local _ .vmem, ⟨4, _⟩ => ⟨S3072x512, .fp8e4m3⟩
  | .local _ .vmem, ⟨5, _⟩ => ⟨S3072x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S9x16x512, .bf16⟩
  | .local _ .vmem, ⟨15, _⟩ => ⟨S9x16x512, .bf16⟩
  | .local _ .vmem, ⟨16, _⟩ => ⟨S9x16x512, .bf16⟩
  | .local _ .vmem, ⟨17, _⟩ => ⟨S9x16x512, .bf16⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1024x512, .fp8e4m3⟩
  | .local _ .vmem, ⟨23, _⟩ => ⟨S1024x512, .fp8e4m3⟩
  | .local _ .vmem, ⟨24, _⟩ => ⟨S8x4x144x128, .f32⟩
  | .local _ .vmem, ⟨25, _⟩ => ⟨S2x3x8x8x128x128, .bf16⟩
  | .local _ .vmem, ⟨26, _⟩ => ⟨S3x8x128x128, .bf16⟩
  | .local _ .vmem, ⟨27, _⟩ => ⟨S3x8x128x128, .bf16⟩
  | .local _ .smem, ⟨0, _⟩ => ⟨S1, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![241], ![false]⟩

@[reducible] def k0_t1_loop : Scf.Loop 32 :=
  let c0_i32_1 : BitVec 32 := 0#32
  let c4_i32 : BitVec 32 := 4#32
  let v5 : BitVec 32 := Scalar.addi c0_i32_1 c4_i32
  let c1_i32 : BitVec 32 := 1#32
  ⟨c0_i32_1, v5, c1_i32⟩
def k0_off1 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c256_i32 : BitVec 32 := 256#32
  let v27 : BitVec 32 := Scalar.muli arg18 c256_i32
  let v28 : Index := Scalar.indexCast v27
  let c0_27 : Index := 0#32
  ![v28.toNat, 0]
def k0_off2 (i : grid0.Coords) (k0_t1 : Fin k0_t1_loop.trips) (c0_i32_36 : BitVec 32) : Fin 6 → Nat :=
  let arg0 : BitVec 32 := BitVec.ofNat 32 (i 0).val
  let c2_i32 : BitVec 32 := 2#32
  let v0 : BitVec 32 := Scalar.remsi arg0 c2_i32
  let v50 : Index := Scalar.indexCast v0
  let c1 : Index := 1#32
  let c0_37 : Index := 0#32
  let c0_i32_1 : BitVec 32 := 0#32
  let c1_i32 : BitVec 32 := 1#32
  let arg18 : BitVec 32 := Scf.iv c0_i32_1 c1_i32 k0_t1
  let c2_i32_35 : BitVec 32 := 2#32
  let v46 : BitVec 32 := Scalar.muli arg18 c2_i32_35
  let v47 : BitVec 32 := Scalar.addi v46 c0_i32_36
  let v51 : Index := Scalar.indexCast v47
  let c0_38 : Index := 0#32
  let c0_39 : Index := 0#32
  ![v50.toNat, 1, 0, v51.toNat, 0, 0]
def k0_off3 (k0_t1 : Fin k0_t1_loop.trips) (c0_i32_36 : BitVec 32) : Fin 4 → Nat :=
  let c0_41 : Index := 0#32
  let c0_i32_1 : BitVec 32 := 0#32
  let c1_i32 : BitVec 32 := 1#32
  let arg18 : BitVec 32 := Scf.iv c0_i32_1 c1_i32 k0_t1
  let c2_i32_35 : BitVec 32 := 2#32
  let v46 : BitVec 32 := Scalar.muli arg18 c2_i32_35
  let v47 : BitVec 32 := Scalar.addi v46 c0_i32_36
  let c4_i32_40 : BitVec 32 := 4#32
  let v55 : BitVec 32 := Scalar.remsi v47 c4_i32_40
  let v56 : Index := Scalar.indexCast v55
  let c8 : Index := 8#32
  let c0_42 : Index := 0#32
  ![0, v56.toNat, 8, 0]
def k0_off4 (k0_t1 : Fin k0_t1_loop.trips) (c0_i32_36 : BitVec 32) : Fin 4 → Nat :=
  let c0_44 : Index := 0#32
  let c0_i32_1 : BitVec 32 := 0#32
  let c1_i32 : BitVec 32 := 1#32
  let arg18 : BitVec 32 := Scf.iv c0_i32_1 c1_i32 k0_t1
  let c2_i32_35 : BitVec 32 := 2#32
  let v46 : BitVec 32 := Scalar.muli arg18 c2_i32_35
  let v47 : BitVec 32 := Scalar.addi v46 c0_i32_36
  let c4_i32_43 : BitVec 32 := 4#32
  let v60 : BitVec 32 := Scalar.remsi v47 c4_i32_43
  let v61 : Index := Scalar.indexCast v60
  let c7_45 : Index := 7#32
  let c0_46 : Index := 0#32
  ![0, v61.toNat, 7, 0]
def k0_off5 (i : grid0.Coords) (k0_t1 : Fin k0_t1_loop.trips) (c0_i32_36 : BitVec 32) : Fin 6 → Nat :=
  let arg0 : BitVec 32 := BitVec.ofNat 32 (i 0).val
  let c2_i32 : BitVec 32 := 2#32
  let v0 : BitVec 32 := Scalar.remsi arg0 c2_i32
  let v65 : Index := Scalar.indexCast v0
  let c0_47 : Index := 0#32
  let c0_48 : Index := 0#32
  let c0_i32_1 : BitVec 32 := 0#32
  let c1_i32 : BitVec 32 := 1#32
  let arg18 : BitVec 32 := Scf.iv c0_i32_1 c1_i32 k0_t1
  let c2_i32_35 : BitVec 32 := 2#32
  let v46 : BitVec 32 := Scalar.muli arg18 c2_i32_35
  let v47 : BitVec 32 := Scalar.addi v46 c0_i32_36
  let v66 : Index := Scalar.indexCast v47
  let c0_49 : Index := 0#32
  let c0_50 : Index := 0#32
  ![v65.toNat, 0, 0, v66.toNat, 0, 0]
def k0_off6 (k0_t1 : Fin k0_t1_loop.trips) (c0_i32_36 : BitVec 32) : Fin 4 → Nat :=
  let c0_52 : Index := 0#32
  let c0_i32_1 : BitVec 32 := 0#32
  let c1_i32 : BitVec 32 := 1#32
  let arg18 : BitVec 32 := Scf.iv c0_i32_1 c1_i32 k0_t1
  let c2_i32_35 : BitVec 32 := 2#32
  let v46 : BitVec 32 := Scalar.muli arg18 c2_i32_35
  let v47 : BitVec 32 := Scalar.addi v46 c0_i32_36
  let c4_i32_51 : BitVec 32 := 4#32
  let v70 : BitVec 32 := Scalar.remsi v47 c4_i32_51
  let v71 : Index := Scalar.indexCast v70
  let c9 : Index := 9#32
  let c0_53 : Index := 0#32
  ![0, v71.toNat, 9, 0]
def k0_off7 (i : grid0.Coords) (k0_t1 : Fin k0_t1_loop.trips) (c0_i32_36 : BitVec 32) : Fin 6 → Nat :=
  let arg0 : BitVec 32 := BitVec.ofNat 32 (i 0).val
  let c2_i32 : BitVec 32 := 2#32
  let v0 : BitVec 32 := Scalar.remsi arg0 c2_i32
  let v75 : Index := Scalar.indexCast v0
  let c2 : Index := 2#32
  let c0_54 : Index := 0#32
  let c0_i32_1 : BitVec 32 := 0#32
  let c1_i32 : BitVec 32 := 1#32
  let arg18 : BitVec 32 := Scf.iv c0_i32_1 c1_i32 k0_t1
  let c2_i32_35 : BitVec 32 := 2#32
  let v46 : BitVec 32 := Scalar.muli arg18 c2_i32_35
  let v47 : BitVec 32 := Scalar.addi v46 c0_i32_36
  let v76 : Index := Scalar.indexCast v47
  let c0_55 : Index := 0#32
  let c0_56 : Index := 0#32
  ![v75.toNat, 2, 0, v76.toNat, 0, 0]
def k0_off8 (i : grid0.Coords) (k0_t1 : Fin k0_t1_loop.trips) (c0_i32_87 : BitVec 32) : Fin 6 → Nat :=
  let arg0 : BitVec 32 := BitVec.ofNat 32 (i 0).val
  let c2_i32 : BitVec 32 := 2#32
  let v0 : BitVec 32 := Scalar.remsi arg0 c2_i32
  let v130 : Index := Scalar.indexCast v0
  let c1_88 : Index := 1#32
  let c1_89 : Index := 1#32
  let c0_i32_1 : BitVec 32 := 0#32
  let c1_i32 : BitVec 32 := 1#32
  let arg18 : BitVec 32 := Scf.iv c0_i32_1 c1_i32 k0_t1
  let c2_i32_86 : BitVec 32 := 2#32
  let v126 : BitVec 32 := Scalar.muli arg18 c2_i32_86
  let v127 : BitVec 32 := Scalar.addi v126 c0_i32_87
  let v131 : Index := Scalar.indexCast v127
  let c0_90 : Index := 0#32
  let c0_91 : Index := 0#32
  ![v130.toNat, 1, 1, v131.toNat, 0, 0]
def k0_off9 (k0_t1 : Fin k0_t1_loop.trips) (c0_i32_87 : BitVec 32) : Fin 4 → Nat :=
  let c1_93 : Index := 1#32
  let c0_i32_1 : BitVec 32 := 0#32
  let c1_i32 : BitVec 32 := 1#32
  let arg18 : BitVec 32 := Scf.iv c0_i32_1 c1_i32 k0_t1
  let c2_i32_86 : BitVec 32 := 2#32
  let v126 : BitVec 32 := Scalar.muli arg18 c2_i32_86
  let v127 : BitVec 32 := Scalar.addi v126 c0_i32_87
  let c4_i32_92 : BitVec 32 := 4#32
  let v135 : BitVec 32 := Scalar.remsi v127 c4_i32_92
  let v136 : Index := Scalar.indexCast v135
  let c8_94 : Index := 8#32
  let c0_95 : Index := 0#32
  ![1, v136.toNat, 8, 0]
def k0_off10 (k0_t1 : Fin k0_t1_loop.trips) (c0_i32_87 : BitVec 32) : Fin 4 → Nat :=
  let c1_97 : Index := 1#32
  let c0_i32_1 : BitVec 32 := 0#32
  let c1_i32 : BitVec 32 := 1#32
  let arg18 : BitVec 32 := Scf.iv c0_i32_1 c1_i32 k0_t1
  let c2_i32_86 : BitVec 32 := 2#32
  let v126 : BitVec 32 := Scalar.muli arg18 c2_i32_86
  let v127 : BitVec 32 := Scalar.addi v126 c0_i32_87
  let c4_i32_96 : BitVec 32 := 4#32
  let v140 : BitVec 32 := Scalar.remsi v127 c4_i32_96
  let v141 : Index := Scalar.indexCast v140
  let c7_98 : Index := 7#32
  let c0_99 : Index := 0#32
  ![1, v141.toNat, 7, 0]
def k0_off11 (i : grid0.Coords) (k0_t1 : Fin k0_t1_loop.trips) (c0_i32_87 : BitVec 32) : Fin 6 → Nat :=
  let arg0 : BitVec 32 := BitVec.ofNat 32 (i 0).val
  let c2_i32 : BitVec 32 := 2#32
  let v0 : BitVec 32 := Scalar.remsi arg0 c2_i32
  let v145 : Index := Scalar.indexCast v0
  let c0_100 : Index := 0#32
  let c1_101 : Index := 1#32
  let c0_i32_1 : BitVec 32 := 0#32
  let c1_i32 : BitVec 32 := 1#32
  let arg18 : BitVec 32 := Scf.iv c0_i32_1 c1_i32 k0_t1
  let c2_i32_86 : BitVec 32 := 2#32
  let v126 : BitVec 32 := Scalar.muli arg18 c2_i32_86
  let v127 : BitVec 32 := Scalar.addi v126 c0_i32_87
  let v146 : Index := Scalar.indexCast v127
  let c0_102 : Index := 0#32
  let c0_103 : Index := 0#32
  ![v145.toNat, 0, 1, v146.toNat, 0, 0]
def k0_off12 (k0_t1 : Fin k0_t1_loop.trips) (c0_i32_87 : BitVec 32) : Fin 4 → Nat :=
  let c1_105 : Index := 1#32
  let c0_i32_1 : BitVec 32 := 0#32
  let c1_i32 : BitVec 32 := 1#32
  let arg18 : BitVec 32 := Scf.iv c0_i32_1 c1_i32 k0_t1
  let c2_i32_86 : BitVec 32 := 2#32
  let v126 : BitVec 32 := Scalar.muli arg18 c2_i32_86
  let v127 : BitVec 32 := Scalar.addi v126 c0_i32_87
  let c4_i32_104 : BitVec 32 := 4#32
  let v150 : BitVec 32 := Scalar.remsi v127 c4_i32_104
  let v151 : Index := Scalar.indexCast v150
  let c9_106 : Index := 9#32
  let c0_107 : Index := 0#32
  ![1, v151.toNat, 9, 0]
def k0_off13 (i : grid0.Coords) (k0_t1 : Fin k0_t1_loop.trips) (c0_i32_87 : BitVec 32) : Fin 6 → Nat :=
  let arg0 : BitVec 32 := BitVec.ofNat 32 (i 0).val
  let c2_i32 : BitVec 32 := 2#32
  let v0 : BitVec 32 := Scalar.remsi arg0 c2_i32
  let v155 : Index := Scalar.indexCast v0
  let c2_108 : Index := 2#32
  let c1_109 : Index := 1#32
  let c0_i32_1 : BitVec 32 := 0#32
  let c1_i32 : BitVec 32 := 1#32
  let arg18 : BitVec 32 := Scf.iv c0_i32_1 c1_i32 k0_t1
  let c2_i32_86 : BitVec 32 := 2#32
  let v126 : BitVec 32 := Scalar.muli arg18 c2_i32_86
  let v127 : BitVec 32 := Scalar.addi v126 c0_i32_87
  let v156 : Index := Scalar.indexCast v127
  let c0_110 : Index := 0#32
  let c0_111 : Index := 0#32
  ![v155.toNat, 2, 1, v156.toNat, 0, 0]
def k0_off14 (i : grid0.Coords) (k0_t1 : Fin k0_t1_loop.trips) (c0_i32_145 : BitVec 32) : Fin 6 → Nat :=
  let arg0 : BitVec 32 := BitVec.ofNat 32 (i 0).val
  let c2_i32 : BitVec 32 := 2#32
  let v0 : BitVec 32 := Scalar.remsi arg0 c2_i32
  let v213 : Index := Scalar.indexCast v0
  let c1_146 : Index := 1#32
  let c2_147 : Index := 2#32
  let c0_i32_1 : BitVec 32 := 0#32
  let c1_i32 : BitVec 32 := 1#32
  let arg18 : BitVec 32 := Scf.iv c0_i32_1 c1_i32 k0_t1
  let c2_i32_144 : BitVec 32 := 2#32
  let v209 : BitVec 32 := Scalar.muli arg18 c2_i32_144
  let v210 : BitVec 32 := Scalar.addi v209 c0_i32_145
  let v214 : Index := Scalar.indexCast v210
  let c0_148 : Index := 0#32
  let c0_149 : Index := 0#32
  ![v213.toNat, 1, 2, v214.toNat, 0, 0]
def k0_off15 (k0_t1 : Fin k0_t1_loop.trips) (c0_i32_145 : BitVec 32) : Fin 4 → Nat :=
  let c2_151 : Index := 2#32
  let c0_i32_1 : BitVec 32 := 0#32
  let c1_i32 : BitVec 32 := 1#32
  let arg18 : BitVec 32 := Scf.iv c0_i32_1 c1_i32 k0_t1
  let c2_i32_144 : BitVec 32 := 2#32
  let v209 : BitVec 32 := Scalar.muli arg18 c2_i32_144
  let v210 : BitVec 32 := Scalar.addi v209 c0_i32_145
  let c4_i32_150 : BitVec 32 := 4#32
  let v218 : BitVec 32 := Scalar.remsi v210 c4_i32_150
  let v219 : Index := Scalar.indexCast v218
  let c8_152 : Index := 8#32
  let c0_153 : Index := 0#32
  ![2, v219.toNat, 8, 0]
def k0_off16 (k0_t1 : Fin k0_t1_loop.trips) (c0_i32_145 : BitVec 32) : Fin 4 → Nat :=
  let c2_155 : Index := 2#32
  let c0_i32_1 : BitVec 32 := 0#32
  let c1_i32 : BitVec 32 := 1#32
  let arg18 : BitVec 32 := Scf.iv c0_i32_1 c1_i32 k0_t1
  let c2_i32_144 : BitVec 32 := 2#32
  let v209 : BitVec 32 := Scalar.muli arg18 c2_i32_144
  let v210 : BitVec 32 := Scalar.addi v209 c0_i32_145
  let c4_i32_154 : BitVec 32 := 4#32
  let v223 : BitVec 32 := Scalar.remsi v210 c4_i32_154
  let v224 : Index := Scalar.indexCast v223
  let c7_156 : Index := 7#32
  let c0_157 : Index := 0#32
  ![2, v224.toNat, 7, 0]
def k0_off17 (i : grid0.Coords) (k0_t1 : Fin k0_t1_loop.trips) (c0_i32_145 : BitVec 32) : Fin 6 → Nat :=
  let arg0 : BitVec 32 := BitVec.ofNat 32 (i 0).val
  let c2_i32 : BitVec 32 := 2#32
  let v0 : BitVec 32 := Scalar.remsi arg0 c2_i32
  let v228 : Index := Scalar.indexCast v0
  let c0_158 : Index := 0#32
  let c2_159 : Index := 2#32
  let c0_i32_1 : BitVec 32 := 0#32
  let c1_i32 : BitVec 32 := 1#32
  let arg18 : BitVec 32 := Scf.iv c0_i32_1 c1_i32 k0_t1
  let c2_i32_144 : BitVec 32 := 2#32
  let v209 : BitVec 32 := Scalar.muli arg18 c2_i32_144
  let v210 : BitVec 32 := Scalar.addi v209 c0_i32_145
  let v229 : Index := Scalar.indexCast v210
  let c0_160 : Index := 0#32
  let c0_161 : Index := 0#32
  ![v228.toNat, 0, 2, v229.toNat, 0, 0]
def k0_off18 (k0_t1 : Fin k0_t1_loop.trips) (c0_i32_145 : BitVec 32) : Fin 4 → Nat :=
  let c2_163 : Index := 2#32
  let c0_i32_1 : BitVec 32 := 0#32
  let c1_i32 : BitVec 32 := 1#32
  let arg18 : BitVec 32 := Scf.iv c0_i32_1 c1_i32 k0_t1
  let c2_i32_144 : BitVec 32 := 2#32
  let v209 : BitVec 32 := Scalar.muli arg18 c2_i32_144
  let v210 : BitVec 32 := Scalar.addi v209 c0_i32_145
  let c4_i32_162 : BitVec 32 := 4#32
  let v233 : BitVec 32 := Scalar.remsi v210 c4_i32_162
  let v234 : Index := Scalar.indexCast v233
  let c9_164 : Index := 9#32
  let c0_165 : Index := 0#32
  ![2, v234.toNat, 9, 0]
def k0_off19 (i : grid0.Coords) (k0_t1 : Fin k0_t1_loop.trips) (c0_i32_145 : BitVec 32) : Fin 6 → Nat :=
  let arg0 : BitVec 32 := BitVec.ofNat 32 (i 0).val
  let c2_i32 : BitVec 32 := 2#32
  let v0 : BitVec 32 := Scalar.remsi arg0 c2_i32
  let v238 : Index := Scalar.indexCast v0
  let c2_166 : Index := 2#32
  let c2_167 : Index := 2#32
  let c0_i32_1 : BitVec 32 := 0#32
  let c1_i32 : BitVec 32 := 1#32
  let arg18 : BitVec 32 := Scf.iv c0_i32_1 c1_i32 k0_t1
  let c2_i32_144 : BitVec 32 := 2#32
  let v209 : BitVec 32 := Scalar.muli arg18 c2_i32_144
  let v210 : BitVec 32 := Scalar.addi v209 c0_i32_145
  let v239 : Index := Scalar.indexCast v210
  let c0_168 : Index := 0#32
  let c0_169 : Index := 0#32
  ![v238.toNat, 2, 2, v239.toNat, 0, 0]
def k0_off20 (i : grid0.Coords) (k0_t1 : Fin k0_t1_loop.trips) (c0_i32_200 : BitVec 32) : Fin 6 → Nat :=
  let arg0 : BitVec 32 := BitVec.ofNat 32 (i 0).val
  let c2_i32 : BitVec 32 := 2#32
  let v0 : BitVec 32 := Scalar.remsi arg0 c2_i32
  let v293 : Index := Scalar.indexCast v0
  let c1_201 : Index := 1#32
  let c3 : Index := 3#32
  let c0_i32_1 : BitVec 32 := 0#32
  let c1_i32 : BitVec 32 := 1#32
  let arg18 : BitVec 32 := Scf.iv c0_i32_1 c1_i32 k0_t1
  let c2_i32_199 : BitVec 32 := 2#32
  let v289 : BitVec 32 := Scalar.muli arg18 c2_i32_199
  let v290 : BitVec 32 := Scalar.addi v289 c0_i32_200
  let v294 : Index := Scalar.indexCast v290
  let c0_202 : Index := 0#32
  let c0_203 : Index := 0#32
  ![v293.toNat, 1, 3, v294.toNat, 0, 0]
def k0_off21 (k0_t1 : Fin k0_t1_loop.trips) (c0_i32_200 : BitVec 32) : Fin 4 → Nat :=
  let c3_205 : Index := 3#32
  let c0_i32_1 : BitVec 32 := 0#32
  let c1_i32 : BitVec 32 := 1#32
  let arg18 : BitVec 32 := Scf.iv c0_i32_1 c1_i32 k0_t1
  let c2_i32_199 : BitVec 32 := 2#32
  let v289 : BitVec 32 := Scalar.muli arg18 c2_i32_199
  let v290 : BitVec 32 := Scalar.addi v289 c0_i32_200
  let c4_i32_204 : BitVec 32 := 4#32
  let v298 : BitVec 32 := Scalar.remsi v290 c4_i32_204
  let v299 : Index := Scalar.indexCast v298
  let c8_206 : Index := 8#32
  let c0_207 : Index := 0#32
  ![3, v299.toNat, 8, 0]
def k0_off22 (k0_t1 : Fin k0_t1_loop.trips) (c0_i32_200 : BitVec 32) : Fin 4 → Nat :=
  let c3_209 : Index := 3#32
  let c0_i32_1 : BitVec 32 := 0#32
  let c1_i32 : BitVec 32 := 1#32
  let arg18 : BitVec 32 := Scf.iv c0_i32_1 c1_i32 k0_t1
  let c2_i32_199 : BitVec 32 := 2#32
  let v289 : BitVec 32 := Scalar.muli arg18 c2_i32_199
  let v290 : BitVec 32 := Scalar.addi v289 c0_i32_200
  let c4_i32_208 : BitVec 32 := 4#32
  let v303 : BitVec 32 := Scalar.remsi v290 c4_i32_208
  let v304 : Index := Scalar.indexCast v303
  let c7_210 : Index := 7#32
  let c0_211 : Index := 0#32
  ![3, v304.toNat, 7, 0]
def k0_off23 (i : grid0.Coords) (k0_t1 : Fin k0_t1_loop.trips) (c0_i32_200 : BitVec 32) : Fin 6 → Nat :=
  let arg0 : BitVec 32 := BitVec.ofNat 32 (i 0).val
  let c2_i32 : BitVec 32 := 2#32
  let v0 : BitVec 32 := Scalar.remsi arg0 c2_i32
  let v308 : Index := Scalar.indexCast v0
  let c0_212 : Index := 0#32
  let c3_213 : Index := 3#32
  let c0_i32_1 : BitVec 32 := 0#32
  let c1_i32 : BitVec 32 := 1#32
  let arg18 : BitVec 32 := Scf.iv c0_i32_1 c1_i32 k0_t1
  let c2_i32_199 : BitVec 32 := 2#32
  let v289 : BitVec 32 := Scalar.muli arg18 c2_i32_199
  let v290 : BitVec 32 := Scalar.addi v289 c0_i32_200
  let v309 : Index := Scalar.indexCast v290
  let c0_214 : Index := 0#32
  let c0_215 : Index := 0#32
  ![v308.toNat, 0, 3, v309.toNat, 0, 0]
def k0_off24 (k0_t1 : Fin k0_t1_loop.trips) (c0_i32_200 : BitVec 32) : Fin 4 → Nat :=
  let c3_217 : Index := 3#32
  let c0_i32_1 : BitVec 32 := 0#32
  let c1_i32 : BitVec 32 := 1#32
  let arg18 : BitVec 32 := Scf.iv c0_i32_1 c1_i32 k0_t1
  let c2_i32_199 : BitVec 32 := 2#32
  let v289 : BitVec 32 := Scalar.muli arg18 c2_i32_199
  let v290 : BitVec 32 := Scalar.addi v289 c0_i32_200
  let c4_i32_216 : BitVec 32 := 4#32
  let v313 : BitVec 32 := Scalar.remsi v290 c4_i32_216
  let v314 : Index := Scalar.indexCast v313
  let c9_218 : Index := 9#32
  let c0_219 : Index := 0#32
  ![3, v314.toNat, 9, 0]
def k0_off25 (i : grid0.Coords) (k0_t1 : Fin k0_t1_loop.trips) (c0_i32_200 : BitVec 32) : Fin 6 → Nat :=
  let arg0 : BitVec 32 := BitVec.ofNat 32 (i 0).val
  let c2_i32 : BitVec 32 := 2#32
  let v0 : BitVec 32 := Scalar.remsi arg0 c2_i32
  let v318 : Index := Scalar.indexCast v0
  let c2_220 : Index := 2#32
  let c3_221 : Index := 3#32
  let c0_i32_1 : BitVec 32 := 0#32
  let c1_i32 : BitVec 32 := 1#32
  let arg18 : BitVec 32 := Scf.iv c0_i32_1 c1_i32 k0_t1
  let c2_i32_199 : BitVec 32 := 2#32
  let v289 : BitVec 32 := Scalar.muli arg18 c2_i32_199
  let v290 : BitVec 32 := Scalar.addi v289 c0_i32_200
  let v319 : Index := Scalar.indexCast v290
  let c0_222 : Index := 0#32
  let c0_223 : Index := 0#32
  ![v318.toNat, 2, 3, v319.toNat, 0, 0]
def k0_off26 (i : grid0.Coords) (k0_t1 : Fin k0_t1_loop.trips) (c0_i32_258 : BitVec 32) : Fin 6 → Nat :=
  let arg0 : BitVec 32 := BitVec.ofNat 32 (i 0).val
  let c2_i32 : BitVec 32 := 2#32
  let v0 : BitVec 32 := Scalar.remsi arg0 c2_i32
  let v376 : Index := Scalar.indexCast v0
  let c1_259 : Index := 1#32
  let c4 : Index := 4#32
  let c0_i32_1 : BitVec 32 := 0#32
  let c1_i32 : BitVec 32 := 1#32
  let arg18 : BitVec 32 := Scf.iv c0_i32_1 c1_i32 k0_t1
  let c2_i32_257 : BitVec 32 := 2#32
  let v372 : BitVec 32 := Scalar.muli arg18 c2_i32_257
  let v373 : BitVec 32 := Scalar.addi v372 c0_i32_258
  let v377 : Index := Scalar.indexCast v373
  let c0_260 : Index := 0#32
  let c0_261 : Index := 0#32
  ![v376.toNat, 1, 4, v377.toNat, 0, 0]
def k0_off27 (k0_t1 : Fin k0_t1_loop.trips) (c0_i32_258 : BitVec 32) : Fin 4 → Nat :=
  let c4_263 : Index := 4#32
  let c0_i32_1 : BitVec 32 := 0#32
  let c1_i32 : BitVec 32 := 1#32
  let arg18 : BitVec 32 := Scf.iv c0_i32_1 c1_i32 k0_t1
  let c2_i32_257 : BitVec 32 := 2#32
  let v372 : BitVec 32 := Scalar.muli arg18 c2_i32_257
  let v373 : BitVec 32 := Scalar.addi v372 c0_i32_258
  let c4_i32_262 : BitVec 32 := 4#32
  let v381 : BitVec 32 := Scalar.remsi v373 c4_i32_262
  let v382 : Index := Scalar.indexCast v381
  let c8_264 : Index := 8#32
  let c0_265 : Index := 0#32
  ![4, v382.toNat, 8, 0]
def k0_off28 (k0_t1 : Fin k0_t1_loop.trips) (c0_i32_258 : BitVec 32) : Fin 4 → Nat :=
  let c4_267 : Index := 4#32
  let c0_i32_1 : BitVec 32 := 0#32
  let c1_i32 : BitVec 32 := 1#32
  let arg18 : BitVec 32 := Scf.iv c0_i32_1 c1_i32 k0_t1
  let c2_i32_257 : BitVec 32 := 2#32
  let v372 : BitVec 32 := Scalar.muli arg18 c2_i32_257
  let v373 : BitVec 32 := Scalar.addi v372 c0_i32_258
  let c4_i32_266 : BitVec 32 := 4#32
  let v386 : BitVec 32 := Scalar.remsi v373 c4_i32_266
  let v387 : Index := Scalar.indexCast v386
  let c7_268 : Index := 7#32
  let c0_269 : Index := 0#32
  ![4, v387.toNat, 7, 0]
def k0_off29 (i : grid0.Coords) (k0_t1 : Fin k0_t1_loop.trips) (c0_i32_258 : BitVec 32) : Fin 6 → Nat :=
  let arg0 : BitVec 32 := BitVec.ofNat 32 (i 0).val
  let c2_i32 : BitVec 32 := 2#32
  let v0 : BitVec 32 := Scalar.remsi arg0 c2_i32
  let v391 : Index := Scalar.indexCast v0
  let c0_270 : Index := 0#32
  let c4_271 : Index := 4#32
  let c0_i32_1 : BitVec 32 := 0#32
  let c1_i32 : BitVec 32 := 1#32
  let arg18 : BitVec 32 := Scf.iv c0_i32_1 c1_i32 k0_t1
  let c2_i32_257 : BitVec 32 := 2#32
  let v372 : BitVec 32 := Scalar.muli arg18 c2_i32_257
  let v373 : BitVec 32 := Scalar.addi v372 c0_i32_258
  let v392 : Index := Scalar.indexCast v373
  let c0_272 : Index := 0#32
  let c0_273 : Index := 0#32
  ![v391.toNat, 0, 4, v392.toNat, 0, 0]
def k0_off30 (k0_t1 : Fin k0_t1_loop.trips) (c0_i32_258 : BitVec 32) : Fin 4 → Nat :=
  let c4_275 : Index := 4#32
  let c0_i32_1 : BitVec 32 := 0#32
  let c1_i32 : BitVec 32 := 1#32
  let arg18 : BitVec 32 := Scf.iv c0_i32_1 c1_i32 k0_t1
  let c2_i32_257 : BitVec 32 := 2#32
  let v372 : BitVec 32 := Scalar.muli arg18 c2_i32_257
  let v373 : BitVec 32 := Scalar.addi v372 c0_i32_258
  let c4_i32_274 : BitVec 32 := 4#32
  let v396 : BitVec 32 := Scalar.remsi v373 c4_i32_274
  let v397 : Index := Scalar.indexCast v396
  let c9_276 : Index := 9#32
  let c0_277 : Index := 0#32
  ![4, v397.toNat, 9, 0]
def k0_off31 (i : grid0.Coords) (k0_t1 : Fin k0_t1_loop.trips) (c0_i32_258 : BitVec 32) : Fin 6 → Nat :=
  let arg0 : BitVec 32 := BitVec.ofNat 32 (i 0).val
  let c2_i32 : BitVec 32 := 2#32
  let v0 : BitVec 32 := Scalar.remsi arg0 c2_i32
  let v401 : Index := Scalar.indexCast v0
  let c2_278 : Index := 2#32
  let c4_279 : Index := 4#32
  let c0_i32_1 : BitVec 32 := 0#32
  let c1_i32 : BitVec 32 := 1#32
  let arg18 : BitVec 32 := Scf.iv c0_i32_1 c1_i32 k0_t1
  let c2_i32_257 : BitVec 32 := 2#32
  let v372 : BitVec 32 := Scalar.muli arg18 c2_i32_257
  let v373 : BitVec 32 := Scalar.addi v372 c0_i32_258
  let v402 : Index := Scalar.indexCast v373
  let c0_280 : Index := 0#32
  let c0_281 : Index := 0#32
  ![v401.toNat, 2, 4, v402.toNat, 0, 0]
def k0_off32 (i : grid0.Coords) (k0_t1 : Fin k0_t1_loop.trips) (c0_i32_313 : BitVec 32) : Fin 6 → Nat :=
  let arg0 : BitVec 32 := BitVec.ofNat 32 (i 0).val
  let c2_i32 : BitVec 32 := 2#32
  let v0 : BitVec 32 := Scalar.remsi arg0 c2_i32
  let v456 : Index := Scalar.indexCast v0
  let c1_314 : Index := 1#32
  let c5 : Index := 5#32
  let c0_i32_1 : BitVec 32 := 0#32
  let c1_i32 : BitVec 32 := 1#32
  let arg18 : BitVec 32 := Scf.iv c0_i32_1 c1_i32 k0_t1
  let c2_i32_312 : BitVec 32 := 2#32
  let v452 : BitVec 32 := Scalar.muli arg18 c2_i32_312
  let v453 : BitVec 32 := Scalar.addi v452 c0_i32_313
  let v457 : Index := Scalar.indexCast v453
  let c0_315 : Index := 0#32
  let c0_316 : Index := 0#32
  ![v456.toNat, 1, 5, v457.toNat, 0, 0]
def k0_off33 (k0_t1 : Fin k0_t1_loop.trips) (c0_i32_313 : BitVec 32) : Fin 4 → Nat :=
  let c5_318 : Index := 5#32
  let c0_i32_1 : BitVec 32 := 0#32
  let c1_i32 : BitVec 32 := 1#32
  let arg18 : BitVec 32 := Scf.iv c0_i32_1 c1_i32 k0_t1
  let c2_i32_312 : BitVec 32 := 2#32
  let v452 : BitVec 32 := Scalar.muli arg18 c2_i32_312
  let v453 : BitVec 32 := Scalar.addi v452 c0_i32_313
  let c4_i32_317 : BitVec 32 := 4#32
  let v461 : BitVec 32 := Scalar.remsi v453 c4_i32_317
  let v462 : Index := Scalar.indexCast v461
  let c8_319 : Index := 8#32
  let c0_320 : Index := 0#32
  ![5, v462.toNat, 8, 0]
def k0_off34 (k0_t1 : Fin k0_t1_loop.trips) (c0_i32_313 : BitVec 32) : Fin 4 → Nat :=
  let c5_322 : Index := 5#32
  let c0_i32_1 : BitVec 32 := 0#32
  let c1_i32 : BitVec 32 := 1#32
  let arg18 : BitVec 32 := Scf.iv c0_i32_1 c1_i32 k0_t1
  let c2_i32_312 : BitVec 32 := 2#32
  let v452 : BitVec 32 := Scalar.muli arg18 c2_i32_312
  let v453 : BitVec 32 := Scalar.addi v452 c0_i32_313
  let c4_i32_321 : BitVec 32 := 4#32
  let v466 : BitVec 32 := Scalar.remsi v453 c4_i32_321
  let v467 : Index := Scalar.indexCast v466
  let c7_323 : Index := 7#32
  let c0_324 : Index := 0#32
  ![5, v467.toNat, 7, 0]
def k0_off35 (i : grid0.Coords) (k0_t1 : Fin k0_t1_loop.trips) (c0_i32_313 : BitVec 32) : Fin 6 → Nat :=
  let arg0 : BitVec 32 := BitVec.ofNat 32 (i 0).val
  let c2_i32 : BitVec 32 := 2#32
  let v0 : BitVec 32 := Scalar.remsi arg0 c2_i32
  let v471 : Index := Scalar.indexCast v0
  let c0_325 : Index := 0#32
  let c5_326 : Index := 5#32
  let c0_i32_1 : BitVec 32 := 0#32
  let c1_i32 : BitVec 32 := 1#32
  let arg18 : BitVec 32 := Scf.iv c0_i32_1 c1_i32 k0_t1
  let c2_i32_312 : BitVec 32 := 2#32
  let v452 : BitVec 32 := Scalar.muli arg18 c2_i32_312
  let v453 : BitVec 32 := Scalar.addi v452 c0_i32_313
  let v472 : Index := Scalar.indexCast v453
  let c0_327 : Index := 0#32
  let c0_328 : Index := 0#32
  ![v471.toNat, 0, 5, v472.toNat, 0, 0]
def k0_off36 (k0_t1 : Fin k0_t1_loop.trips) (c0_i32_313 : BitVec 32) : Fin 4 → Nat :=
  let c5_330 : Index := 5#32
  let c0_i32_1 : BitVec 32 := 0#32
  let c1_i32 : BitVec 32 := 1#32
  let arg18 : BitVec 32 := Scf.iv c0_i32_1 c1_i32 k0_t1
  let c2_i32_312 : BitVec 32 := 2#32
  let v452 : BitVec 32 := Scalar.muli arg18 c2_i32_312
  let v453 : BitVec 32 := Scalar.addi v452 c0_i32_313
  let c4_i32_329 : BitVec 32 := 4#32
  let v476 : BitVec 32 := Scalar.remsi v453 c4_i32_329
  let v477 : Index := Scalar.indexCast v476
  let c9_331 : Index := 9#32
  let c0_332 : Index := 0#32
  ![5, v477.toNat, 9, 0]
def k0_off37 (i : grid0.Coords) (k0_t1 : Fin k0_t1_loop.trips) (c0_i32_313 : BitVec 32) : Fin 6 → Nat :=
  let arg0 : BitVec 32 := BitVec.ofNat 32 (i 0).val
  let c2_i32 : BitVec 32 := 2#32
  let v0 : BitVec 32 := Scalar.remsi arg0 c2_i32
  let v481 : Index := Scalar.indexCast v0
  let c2_333 : Index := 2#32
  let c5_334 : Index := 5#32
  let c0_i32_1 : BitVec 32 := 0#32
  let c1_i32 : BitVec 32 := 1#32
  let arg18 : BitVec 32 := Scf.iv c0_i32_1 c1_i32 k0_t1
  let c2_i32_312 : BitVec 32 := 2#32
  let v452 : BitVec 32 := Scalar.muli arg18 c2_i32_312
  let v453 : BitVec 32 := Scalar.addi v452 c0_i32_313
  let v482 : Index := Scalar.indexCast v453
  let c0_335 : Index := 0#32
  let c0_336 : Index := 0#32
  ![v481.toNat, 2, 5, v482.toNat, 0, 0]
def k0_off38 (i : grid0.Coords) (k0_t1 : Fin k0_t1_loop.trips) (c0_i32_371 : BitVec 32) : Fin 6 → Nat :=
  let arg0 : BitVec 32 := BitVec.ofNat 32 (i 0).val
  let c2_i32 : BitVec 32 := 2#32
  let v0 : BitVec 32 := Scalar.remsi arg0 c2_i32
  let v539 : Index := Scalar.indexCast v0
  let c1_372 : Index := 1#32
  let c6 : Index := 6#32
  let c0_i32_1 : BitVec 32 := 0#32
  let c1_i32 : BitVec 32 := 1#32
  let arg18 : BitVec 32 := Scf.iv c0_i32_1 c1_i32 k0_t1
  let c2_i32_370 : BitVec 32 := 2#32
  let v535 : BitVec 32 := Scalar.muli arg18 c2_i32_370
  let v536 : BitVec 32 := Scalar.addi v535 c0_i32_371
  let v540 : Index := Scalar.indexCast v536
  let c0_373 : Index := 0#32
  let c0_374 : Index := 0#32
  ![v539.toNat, 1, 6, v540.toNat, 0, 0]
def k0_off39 (k0_t1 : Fin k0_t1_loop.trips) (c0_i32_371 : BitVec 32) : Fin 4 → Nat :=
  let c6_376 : Index := 6#32
  let c0_i32_1 : BitVec 32 := 0#32
  let c1_i32 : BitVec 32 := 1#32
  let arg18 : BitVec 32 := Scf.iv c0_i32_1 c1_i32 k0_t1
  let c2_i32_370 : BitVec 32 := 2#32
  let v535 : BitVec 32 := Scalar.muli arg18 c2_i32_370
  let v536 : BitVec 32 := Scalar.addi v535 c0_i32_371
  let c4_i32_375 : BitVec 32 := 4#32
  let v544 : BitVec 32 := Scalar.remsi v536 c4_i32_375
  let v545 : Index := Scalar.indexCast v544
  let c8_377 : Index := 8#32
  let c0_378 : Index := 0#32
  ![6, v545.toNat, 8, 0]
def k0_off40 (k0_t1 : Fin k0_t1_loop.trips) (c0_i32_371 : BitVec 32) : Fin 4 → Nat :=
  let c6_380 : Index := 6#32
  let c0_i32_1 : BitVec 32 := 0#32
  let c1_i32 : BitVec 32 := 1#32
  let arg18 : BitVec 32 := Scf.iv c0_i32_1 c1_i32 k0_t1
  let c2_i32_370 : BitVec 32 := 2#32
  let v535 : BitVec 32 := Scalar.muli arg18 c2_i32_370
  let v536 : BitVec 32 := Scalar.addi v535 c0_i32_371
  let c4_i32_379 : BitVec 32 := 4#32
  let v549 : BitVec 32 := Scalar.remsi v536 c4_i32_379
  let v550 : Index := Scalar.indexCast v549
  let c7_381 : Index := 7#32
  let c0_382 : Index := 0#32
  ![6, v550.toNat, 7, 0]
def k0_off41 (i : grid0.Coords) (k0_t1 : Fin k0_t1_loop.trips) (c0_i32_371 : BitVec 32) : Fin 6 → Nat :=
  let arg0 : BitVec 32 := BitVec.ofNat 32 (i 0).val
  let c2_i32 : BitVec 32 := 2#32
  let v0 : BitVec 32 := Scalar.remsi arg0 c2_i32
  let v554 : Index := Scalar.indexCast v0
  let c0_383 : Index := 0#32
  let c6_384 : Index := 6#32
  let c0_i32_1 : BitVec 32 := 0#32
  let c1_i32 : BitVec 32 := 1#32
  let arg18 : BitVec 32 := Scf.iv c0_i32_1 c1_i32 k0_t1
  let c2_i32_370 : BitVec 32 := 2#32
  let v535 : BitVec 32 := Scalar.muli arg18 c2_i32_370
  let v536 : BitVec 32 := Scalar.addi v535 c0_i32_371
  let v555 : Index := Scalar.indexCast v536
  let c0_385 : Index := 0#32
  let c0_386 : Index := 0#32
  ![v554.toNat, 0, 6, v555.toNat, 0, 0]
def k0_off42 (k0_t1 : Fin k0_t1_loop.trips) (c0_i32_371 : BitVec 32) : Fin 4 → Nat :=
  let c6_388 : Index := 6#32
  let c0_i32_1 : BitVec 32 := 0#32
  let c1_i32 : BitVec 32 := 1#32
  let arg18 : BitVec 32 := Scf.iv c0_i32_1 c1_i32 k0_t1
  let c2_i32_370 : BitVec 32 := 2#32
  let v535 : BitVec 32 := Scalar.muli arg18 c2_i32_370
  let v536 : BitVec 32 := Scalar.addi v535 c0_i32_371
  let c4_i32_387 : BitVec 32 := 4#32
  let v559 : BitVec 32 := Scalar.remsi v536 c4_i32_387
  let v560 : Index := Scalar.indexCast v559
  let c9_389 : Index := 9#32
  let c0_390 : Index := 0#32
  ![6, v560.toNat, 9, 0]
def k0_off43 (i : grid0.Coords) (k0_t1 : Fin k0_t1_loop.trips) (c0_i32_371 : BitVec 32) : Fin 6 → Nat :=
  let arg0 : BitVec 32 := BitVec.ofNat 32 (i 0).val
  let c2_i32 : BitVec 32 := 2#32
  let v0 : BitVec 32 := Scalar.remsi arg0 c2_i32
  let v564 : Index := Scalar.indexCast v0
  let c2_391 : Index := 2#32
  let c6_392 : Index := 6#32
  let c0_i32_1 : BitVec 32 := 0#32
  let c1_i32 : BitVec 32 := 1#32
  let arg18 : BitVec 32 := Scf.iv c0_i32_1 c1_i32 k0_t1
  let c2_i32_370 : BitVec 32 := 2#32
  let v535 : BitVec 32 := Scalar.muli arg18 c2_i32_370
  let v536 : BitVec 32 := Scalar.addi v535 c0_i32_371
  let v565 : Index := Scalar.indexCast v536
  let c0_393 : Index := 0#32
  let c0_394 : Index := 0#32
  ![v564.toNat, 2, 6, v565.toNat, 0, 0]
def k0_off44 (i : grid0.Coords) (k0_t1 : Fin k0_t1_loop.trips) (c0_i32_426 : BitVec 32) : Fin 6 → Nat :=
  let arg0 : BitVec 32 := BitVec.ofNat 32 (i 0).val
  let c2_i32 : BitVec 32 := 2#32
  let v0 : BitVec 32 := Scalar.remsi arg0 c2_i32
  let v619 : Index := Scalar.indexCast v0
  let c1_427 : Index := 1#32
  let c7_428 : Index := 7#32
  let c0_i32_1 : BitVec 32 := 0#32
  let c1_i32 : BitVec 32 := 1#32
  let arg18 : BitVec 32 := Scf.iv c0_i32_1 c1_i32 k0_t1
  let c2_i32_425 : BitVec 32 := 2#32
  let v615 : BitVec 32 := Scalar.muli arg18 c2_i32_425
  let v616 : BitVec 32 := Scalar.addi v615 c0_i32_426
  let v620 : Index := Scalar.indexCast v616
  let c0_429 : Index := 0#32
  let c0_430 : Index := 0#32
  ![v619.toNat, 1, 7, v620.toNat, 0, 0]
def k0_off45 (k0_t1 : Fin k0_t1_loop.trips) (c0_i32_426 : BitVec 32) : Fin 4 → Nat :=
  let c7_432 : Index := 7#32
  let c0_i32_1 : BitVec 32 := 0#32
  let c1_i32 : BitVec 32 := 1#32
  let arg18 : BitVec 32 := Scf.iv c0_i32_1 c1_i32 k0_t1
  let c2_i32_425 : BitVec 32 := 2#32
  let v615 : BitVec 32 := Scalar.muli arg18 c2_i32_425
  let v616 : BitVec 32 := Scalar.addi v615 c0_i32_426
  let c4_i32_431 : BitVec 32 := 4#32
  let v624 : BitVec 32 := Scalar.remsi v616 c4_i32_431
  let v625 : Index := Scalar.indexCast v624
  let c8_433 : Index := 8#32
  let c0_434 : Index := 0#32
  ![7, v625.toNat, 8, 0]
def k0_off46 (k0_t1 : Fin k0_t1_loop.trips) (c0_i32_426 : BitVec 32) : Fin 4 → Nat :=
  let c7_436 : Index := 7#32
  let c0_i32_1 : BitVec 32 := 0#32
  let c1_i32 : BitVec 32 := 1#32
  let arg18 : BitVec 32 := Scf.iv c0_i32_1 c1_i32 k0_t1
  let c2_i32_425 : BitVec 32 := 2#32
  let v615 : BitVec 32 := Scalar.muli arg18 c2_i32_425
  let v616 : BitVec 32 := Scalar.addi v615 c0_i32_426
  let c4_i32_435 : BitVec 32 := 4#32
  let v629 : BitVec 32 := Scalar.remsi v616 c4_i32_435
  let v630 : Index := Scalar.indexCast v629
  let c7_437 : Index := 7#32
  let c0_438 : Index := 0#32
  ![7, v630.toNat, 7, 0]
def k0_off47 (i : grid0.Coords) (k0_t1 : Fin k0_t1_loop.trips) (c0_i32_426 : BitVec 32) : Fin 6 → Nat :=
  let arg0 : BitVec 32 := BitVec.ofNat 32 (i 0).val
  let c2_i32 : BitVec 32 := 2#32
  let v0 : BitVec 32 := Scalar.remsi arg0 c2_i32
  let v634 : Index := Scalar.indexCast v0
  let c0_439 : Index := 0#32
  let c7_440 : Index := 7#32
  let c0_i32_1 : BitVec 32 := 0#32
  let c1_i32 : BitVec 32 := 1#32
  let arg18 : BitVec 32 := Scf.iv c0_i32_1 c1_i32 k0_t1
  let c2_i32_425 : BitVec 32 := 2#32
  let v615 : BitVec 32 := Scalar.muli arg18 c2_i32_425
  let v616 : BitVec 32 := Scalar.addi v615 c0_i32_426
  let v635 : Index := Scalar.indexCast v616
  let c0_441 : Index := 0#32
  let c0_442 : Index := 0#32
  ![v634.toNat, 0, 7, v635.toNat, 0, 0]
def k0_off48 (k0_t1 : Fin k0_t1_loop.trips) (c0_i32_426 : BitVec 32) : Fin 4 → Nat :=
  let c7_444 : Index := 7#32
  let c0_i32_1 : BitVec 32 := 0#32
  let c1_i32 : BitVec 32 := 1#32
  let arg18 : BitVec 32 := Scf.iv c0_i32_1 c1_i32 k0_t1
  let c2_i32_425 : BitVec 32 := 2#32
  let v615 : BitVec 32 := Scalar.muli arg18 c2_i32_425
  let v616 : BitVec 32 := Scalar.addi v615 c0_i32_426
  let c4_i32_443 : BitVec 32 := 4#32
  let v639 : BitVec 32 := Scalar.remsi v616 c4_i32_443
  let v640 : Index := Scalar.indexCast v639
  let c9_445 : Index := 9#32
  let c0_446 : Index := 0#32
  ![7, v640.toNat, 9, 0]
def k0_off49 (i : grid0.Coords) (k0_t1 : Fin k0_t1_loop.trips) (c0_i32_426 : BitVec 32) : Fin 6 → Nat :=
  let arg0 : BitVec 32 := BitVec.ofNat 32 (i 0).val
  let c2_i32 : BitVec 32 := 2#32
  let v0 : BitVec 32 := Scalar.remsi arg0 c2_i32
  let v644 : Index := Scalar.indexCast v0
  let c2_447 : Index := 2#32
  let c7_448 : Index := 7#32
  let c0_i32_1 : BitVec 32 := 0#32
  let c1_i32 : BitVec 32 := 1#32
  let arg18 : BitVec 32 := Scf.iv c0_i32_1 c1_i32 k0_t1
  let c2_i32_425 : BitVec 32 := 2#32
  let v615 : BitVec 32 := Scalar.muli arg18 c2_i32_425
  let v616 : BitVec 32 := Scalar.addi v615 c0_i32_426
  let v645 : Index := Scalar.indexCast v616
  let c0_449 : Index := 0#32
  let c0_450 : Index := 0#32
  ![v644.toNat, 2, 7, v645.toNat, 0, 0]
def k0_off50 (i : grid0.Coords) : Fin 6 → Nat :=
  let arg0 : BitVec 32 := BitVec.ofNat 32 (i 0).val
  let c2_i32 : BitVec 32 := 2#32
  let v0 : BitVec 32 := Scalar.remsi arg0 c2_i32
  let v9 : Index := Scalar.indexCast v0
  let c0 : Index := 0#32
  let c0_5 : Index := 0#32
  let c0_6 : Index := 0#32
  let c0_7 : Index := 0#32
  let c0_8 : Index := 0#32
  ![v9.toNat, 0, 0, 0, 0, 0]
@[reducible] def k0_t2_loop : Scf.Loop 32 :=
  let c0_i32_14 : BitVec 32 := 0#32
  let c4_i32_15 : BitVec 32 := 4#32
  let v18 : BitVec 32 := Scalar.addi c0_i32_14 c4_i32_15
  let c1_i32_16 : BitVec 32 := 1#32
  ⟨c0_i32_14, v18, c1_i32_16⟩
def k0_off51 (k0_t2 : Fin k0_t2_loop.trips) : Fin 2 → Nat :=
  let c0_27 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v28 : Index := Scalar.indexCast v27
  ![0, v28.toNat]
@[reducible] def k0_t3_loop : Scf.Loop 32 :=
  let c0_i32_29 : BitVec 32 := 0#32
  let c4_i32_30 : BitVec 32 := 4#32
  let v34 : BitVec 32 := Scalar.addi c0_i32_29 c4_i32_30
  let c1_i32_31 : BitVec 32 := 1#32
  ⟨c0_i32_29, v34, c1_i32_31⟩
def k0_off52 (k0_t2 : Fin k0_t2_loop.trips) : Fin 3 → Nat :=
  let c0_42 : Index := 0#32
  let c0_43 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v39 : Index := Scalar.indexCast v27
  ![0, 0, v39.toNat]
def k0_off53 (k0_t2 : Fin k0_t2_loop.trips) (k0_t3 : Fin k0_t3_loop.trips) (c0_i32_41 : BitVec 32) : Fin 4 → Nat :=
  let c0_45 : Index := 0#32
  let c0_i32_14 : BitVec 32 := 0#32
  let c1_i32_16 : BitVec 32 := 1#32
  let arg18 : BitVec 32 := Scf.iv c0_i32_14 c1_i32_16 k0_t2
  let v43 : Index := Scalar.indexCast arg18
  let c16_i32_44 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v42 : BitVec 32 := Scalar.muli c16_i32_44 v38
  let v44 : Index := Scalar.indexCast v42
  let c0_46 : Index := 0#32
  ![0, v43.toNat, v44.toNat, 0]
def k0_off54 (k0_t2 : Fin k0_t2_loop.trips) : Fin 3 → Nat :=
  let c1 : Index := 1#32
  let c0_47 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v50 : Index := Scalar.indexCast v27
  ![1, 0, v50.toNat]
def k0_off55 (k0_t2 : Fin k0_t2_loop.trips) (k0_t3 : Fin k0_t3_loop.trips) (c0_i32_41 : BitVec 32) : Fin 4 → Nat :=
  let c1_49 : Index := 1#32
  let c0_i32_14 : BitVec 32 := 0#32
  let c1_i32_16 : BitVec 32 := 1#32
  let arg18 : BitVec 32 := Scf.iv c0_i32_14 c1_i32_16 k0_t2
  let v54 : Index := Scalar.indexCast arg18
  let c16_i32_48 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v53 : BitVec 32 := Scalar.muli c16_i32_48 v38
  let v55 : Index := Scalar.indexCast v53
  let c0_50 : Index := 0#32
  ![1, v54.toNat, v55.toNat, 0]
def k0_off56 (k0_t2 : Fin k0_t2_loop.trips) : Fin 3 → Nat :=
  let c2 : Index := 2#32
  let c0_51 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v62 : Index := Scalar.indexCast v27
  ![2, 0, v62.toNat]
def k0_off57 (k0_t2 : Fin k0_t2_loop.trips) (k0_t3 : Fin k0_t3_loop.trips) (c0_i32_41 : BitVec 32) : Fin 4 → Nat :=
  let c2_53 : Index := 2#32
  let c0_i32_14 : BitVec 32 := 0#32
  let c1_i32_16 : BitVec 32 := 1#32
  let arg18 : BitVec 32 := Scf.iv c0_i32_14 c1_i32_16 k0_t2
  let v66 : Index := Scalar.indexCast arg18
  let c16_i32_52 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v65 : BitVec 32 := Scalar.muli c16_i32_52 v38
  let v67 : Index := Scalar.indexCast v65
  let c0_54 : Index := 0#32
  ![2, v66.toNat, v67.toNat, 0]
def k0_off58 (k0_t2 : Fin k0_t2_loop.trips) : Fin 3 → Nat :=
  let c3 : Index := 3#32
  let c0_55 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v74 : Index := Scalar.indexCast v27
  ![3, 0, v74.toNat]
def k0_off59 (i : grid0.Coords) (k0_t2 : Fin k0_t2_loop.trips) (k0_t3 : Fin k0_t3_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v78 : Index := Scalar.indexCast v6
  let c0_57 : Index := 0#32
  let c0_i32_14 : BitVec 32 := 0#32
  let c1_i32_16 : BitVec 32 := 1#32
  let arg18 : BitVec 32 := Scf.iv c0_i32_14 c1_i32_16 k0_t2
  let v79 : Index := Scalar.indexCast arg18
  let c0_58 : Index := 0#32
  let c16_i32_56 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v77 : BitVec 32 := Scalar.muli c16_i32_56 v38
  let v80 : Index := Scalar.indexCast v77
  let c0_59 : Index := 0#32
  ![v78.toNat, 0, v79.toNat, 0, v80.toNat, 0]
def k0_off60 (k0_t2 : Fin k0_t2_loop.trips) : Fin 3 → Nat :=
  let c4 : Index := 4#32
  let c0_60 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v87 : Index := Scalar.indexCast v27
  ![4, 0, v87.toNat]
def k0_off61 (i : grid0.Coords) (k0_t2 : Fin k0_t2_loop.trips) (k0_t3 : Fin k0_t3_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v91 : Index := Scalar.indexCast v6
  let c1_62 : Index := 1#32
  let c0_i32_14 : BitVec 32 := 0#32
  let c1_i32_16 : BitVec 32 := 1#32
  let arg18 : BitVec 32 := Scf.iv c0_i32_14 c1_i32_16 k0_t2
  let v92 : Index := Scalar.indexCast arg18
  let c0_63 : Index := 0#32
  let c16_i32_61 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v90 : BitVec 32 := Scalar.muli c16_i32_61 v38
  let v93 : Index := Scalar.indexCast v90
  let c0_64 : Index := 0#32
  ![v91.toNat, 1, v92.toNat, 0, v93.toNat, 0]
def k0_off62 (k0_t2 : Fin k0_t2_loop.trips) : Fin 3 → Nat :=
  let c5 : Index := 5#32
  let c0_65 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v100 : Index := Scalar.indexCast v27
  ![5, 0, v100.toNat]
def k0_off63 (i : grid0.Coords) (k0_t2 : Fin k0_t2_loop.trips) (k0_t3 : Fin k0_t3_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v104 : Index := Scalar.indexCast v6
  let c2_67 : Index := 2#32
  let c0_i32_14 : BitVec 32 := 0#32
  let c1_i32_16 : BitVec 32 := 1#32
  let arg18 : BitVec 32 := Scf.iv c0_i32_14 c1_i32_16 k0_t2
  let v105 : Index := Scalar.indexCast arg18
  let c0_68 : Index := 0#32
  let c16_i32_66 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v103 : BitVec 32 := Scalar.muli c16_i32_66 v38
  let v106 : Index := Scalar.indexCast v103
  let c0_69 : Index := 0#32
  ![v104.toNat, 2, v105.toNat, 0, v106.toNat, 0]
def k0_off64 (k0_t2 : Fin k0_t2_loop.trips) : Fin 3 → Nat :=
  let c6 : Index := 6#32
  let c0_70 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v113 : Index := Scalar.indexCast v27
  ![6, 0, v113.toNat]
def k0_off65 (i : grid0.Coords) (k0_t2 : Fin k0_t2_loop.trips) (k0_t3 : Fin k0_t3_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v117 : Index := Scalar.indexCast v6
  let c0_72 : Index := 0#32
  let c0_i32_14 : BitVec 32 := 0#32
  let c1_i32_16 : BitVec 32 := 1#32
  let arg18 : BitVec 32 := Scf.iv c0_i32_14 c1_i32_16 k0_t2
  let v118 : Index := Scalar.indexCast arg18
  let c1_73 : Index := 1#32
  let c16_i32_71 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v116 : BitVec 32 := Scalar.muli c16_i32_71 v38
  let v119 : Index := Scalar.indexCast v116
  let c0_74 : Index := 0#32
  ![v117.toNat, 0, v118.toNat, 1, v119.toNat, 0]
def k0_off66 (k0_t2 : Fin k0_t2_loop.trips) : Fin 3 → Nat :=
  let c7_75 : Index := 7#32
  let c0_76 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v126 : Index := Scalar.indexCast v27
  ![7, 0, v126.toNat]
def k0_off67 (i : grid0.Coords) (k0_t2 : Fin k0_t2_loop.trips) (k0_t3 : Fin k0_t3_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v130 : Index := Scalar.indexCast v6
  let c1_78 : Index := 1#32
  let c0_i32_14 : BitVec 32 := 0#32
  let c1_i32_16 : BitVec 32 := 1#32
  let arg18 : BitVec 32 := Scf.iv c0_i32_14 c1_i32_16 k0_t2
  let v131 : Index := Scalar.indexCast arg18
  let c1_79 : Index := 1#32
  let c16_i32_77 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v129 : BitVec 32 := Scalar.muli c16_i32_77 v38
  let v132 : Index := Scalar.indexCast v129
  let c0_80 : Index := 0#32
  ![v130.toNat, 1, v131.toNat, 1, v132.toNat, 0]
def k0_off68 (k0_t2 : Fin k0_t2_loop.trips) : Fin 3 → Nat :=
  let c8 : Index := 8#32
  let c0_81 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v139 : Index := Scalar.indexCast v27
  ![8, 0, v139.toNat]
def k0_off69 (i : grid0.Coords) (k0_t2 : Fin k0_t2_loop.trips) (k0_t3 : Fin k0_t3_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v143 : Index := Scalar.indexCast v6
  let c2_83 : Index := 2#32
  let c0_i32_14 : BitVec 32 := 0#32
  let c1_i32_16 : BitVec 32 := 1#32
  let arg18 : BitVec 32 := Scf.iv c0_i32_14 c1_i32_16 k0_t2
  let v144 : Index := Scalar.indexCast arg18
  let c1_84 : Index := 1#32
  let c16_i32_82 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v142 : BitVec 32 := Scalar.muli c16_i32_82 v38
  let v145 : Index := Scalar.indexCast v142
  let c0_85 : Index := 0#32
  ![v143.toNat, 2, v144.toNat, 1, v145.toNat, 0]
def k0_off70 (k0_t2 : Fin k0_t2_loop.trips) (k0_t3 : Fin k0_t3_loop.trips) (c0_i32_41 : BitVec 32) : Fin 4 → Nat :=
  let c0_90 : Index := 0#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v159 : Index := Scalar.indexCast v154
  let c16_i32_89 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v158 : BitVec 32 := Scalar.muli c16_i32_89 v38
  let v160 : Index := Scalar.indexCast v158
  let c0_91 : Index := 0#32
  ![0, v159.toNat, v160.toNat, 0]
def k0_off71 (k0_t2 : Fin k0_t2_loop.trips) (k0_t3 : Fin k0_t3_loop.trips) (c0_i32_41 : BitVec 32) : Fin 4 → Nat :=
  let c1_95 : Index := 1#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v170 : Index := Scalar.indexCast v154
  let c16_i32_94 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v169 : BitVec 32 := Scalar.muli c16_i32_94 v38
  let v171 : Index := Scalar.indexCast v169
  let c0_96 : Index := 0#32
  ![1, v170.toNat, v171.toNat, 0]
def k0_off72 (k0_t2 : Fin k0_t2_loop.trips) (k0_t3 : Fin k0_t3_loop.trips) (c0_i32_41 : BitVec 32) : Fin 4 → Nat :=
  let c2_100 : Index := 2#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v182 : Index := Scalar.indexCast v154
  let c16_i32_99 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v181 : BitVec 32 := Scalar.muli c16_i32_99 v38
  let v183 : Index := Scalar.indexCast v181
  let c0_101 : Index := 0#32
  ![2, v182.toNat, v183.toNat, 0]
def k0_off73 (i : grid0.Coords) (k0_t2 : Fin k0_t2_loop.trips) (k0_t3 : Fin k0_t3_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v194 : Index := Scalar.indexCast v6
  let c0_105 : Index := 0#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v195 : Index := Scalar.indexCast v154
  let c0_106 : Index := 0#32
  let c16_i32_104 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v193 : BitVec 32 := Scalar.muli c16_i32_104 v38
  let v196 : Index := Scalar.indexCast v193
  let c0_107 : Index := 0#32
  ![v194.toNat, 0, v195.toNat, 0, v196.toNat, 0]
def k0_off74 (i : grid0.Coords) (k0_t2 : Fin k0_t2_loop.trips) (k0_t3 : Fin k0_t3_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v207 : Index := Scalar.indexCast v6
  let c1_111 : Index := 1#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v208 : Index := Scalar.indexCast v154
  let c0_112 : Index := 0#32
  let c16_i32_110 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v206 : BitVec 32 := Scalar.muli c16_i32_110 v38
  let v209 : Index := Scalar.indexCast v206
  let c0_113 : Index := 0#32
  ![v207.toNat, 1, v208.toNat, 0, v209.toNat, 0]
def k0_off75 (i : grid0.Coords) (k0_t2 : Fin k0_t2_loop.trips) (k0_t3 : Fin k0_t3_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v220 : Index := Scalar.indexCast v6
  let c2_117 : Index := 2#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v221 : Index := Scalar.indexCast v154
  let c0_118 : Index := 0#32
  let c16_i32_116 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v219 : BitVec 32 := Scalar.muli c16_i32_116 v38
  let v222 : Index := Scalar.indexCast v219
  let c0_119 : Index := 0#32
  ![v220.toNat, 2, v221.toNat, 0, v222.toNat, 0]
def k0_off76 (i : grid0.Coords) (k0_t2 : Fin k0_t2_loop.trips) (k0_t3 : Fin k0_t3_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v233 : Index := Scalar.indexCast v6
  let c0_123 : Index := 0#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v234 : Index := Scalar.indexCast v154
  let c1_124 : Index := 1#32
  let c16_i32_122 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v232 : BitVec 32 := Scalar.muli c16_i32_122 v38
  let v235 : Index := Scalar.indexCast v232
  let c0_125 : Index := 0#32
  ![v233.toNat, 0, v234.toNat, 1, v235.toNat, 0]
def k0_off77 (i : grid0.Coords) (k0_t2 : Fin k0_t2_loop.trips) (k0_t3 : Fin k0_t3_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v246 : Index := Scalar.indexCast v6
  let c1_129 : Index := 1#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v247 : Index := Scalar.indexCast v154
  let c1_130 : Index := 1#32
  let c16_i32_128 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v245 : BitVec 32 := Scalar.muli c16_i32_128 v38
  let v248 : Index := Scalar.indexCast v245
  let c0_131 : Index := 0#32
  ![v246.toNat, 1, v247.toNat, 1, v248.toNat, 0]
def k0_off78 (i : grid0.Coords) (k0_t2 : Fin k0_t2_loop.trips) (k0_t3 : Fin k0_t3_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v259 : Index := Scalar.indexCast v6
  let c2_135 : Index := 2#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v260 : Index := Scalar.indexCast v154
  let c1_136 : Index := 1#32
  let c16_i32_134 : BitVec 32 := 16#32
  let c0_i32_29 : BitVec 32 := 0#32
  let c1_i32_31 : BitVec 32 := 1#32
  let arg19 : BitVec 32 := Scf.iv c0_i32_29 c1_i32_31 k0_t3
  let c2_i32_40 : BitVec 32 := 2#32
  let v37 : BitVec 32 := Scalar.muli arg19 c2_i32_40
  let v38 : BitVec 32 := Scalar.addi v37 c0_i32_41
  let v258 : BitVec 32 := Scalar.muli c16_i32_134 v38
  let v261 : Index := Scalar.indexCast v258
  let c0_137 : Index := 0#32
  ![v259.toNat, 2, v260.toNat, 1, v261.toNat, 0]
def k0_off79 (k0_t2 : Fin k0_t2_loop.trips) (k0_t3 : Fin k0_t3_loop.trips) : Fin 2 → Nat :=
  let c0_i32_247 : BitVec 32 := 0#32
  let c0_i32_29 : BitVec 32 := 0#32
  let c1_i32_31 : BitVec 32 := 1#32
  let arg19 : BitVec 32 := Scf.iv c0_i32_29 c1_i32_31 k0_t3
  let c32_i32 : BitVec 32 := 32#32
  let v525 : BitVec 32 := Scalar.muli arg19 c32_i32
  let v526 : BitVec 32 := Scalar.addi c0_i32_247 v525
  let v527 : Index := Scalar.indexCast v526
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v528 : Index := Scalar.indexCast v27
  ![v527.toNat, v528.toNat]
@[reducible] def k0_t4_loop : Scf.Loop 32 :=
  let c1_i32_33 : BitVec 32 := 1#32
  let c6_i32 : BitVec 32 := 6#32
  let v35 : BitVec 32 := Scalar.addi c1_i32_33 c6_i32
  let c1_i32_34 : BitVec 32 := 1#32
  ⟨c1_i32_33, v35, c1_i32_34⟩
@[reducible] def k0_t5_loop : Scf.Loop 32 :=
  let c0_i32_40 : BitVec 32 := 0#32
  let c4_i32_41 : BitVec 32 := 4#32
  let v37 : BitVec 32 := Scalar.addi c0_i32_40 c4_i32_41
  let c1_i32_42 : BitVec 32 := 1#32
  ⟨c0_i32_40, v37, c1_i32_42⟩
def k0_off80 (k0_t2 : Fin k0_t2_loop.trips) : Fin 3 → Nat :=
  let c0_46 : Index := 0#32
  let c0_47 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v40 : Index := Scalar.indexCast v27
  ![0, 0, v40.toNat]
def k0_off81 (i : grid0.Coords) (k0_t2 : Fin k0_t2_loop.trips) (k0_t4 : Fin k0_t4_loop.trips) (k0_t5 : Fin k0_t5_loop.trips) (c0_i32_48 : BitVec 32) (c0_i32_45 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v46 : Index := Scalar.indexCast v6
  let c0_51 : Index := 0#32
  let c0_i32_14 : BitVec 32 := 0#32
  let c1_i32_16 : BitVec 32 := 1#32
  let arg18 : BitVec 32 := Scf.iv c0_i32_14 c1_i32_16 k0_t2
  let v47 : Index := Scalar.indexCast arg18
  let c1_i32_33 : BitVec 32 := 1#32
  let c1_i32_34 : BitVec 32 := 1#32
  let arg19 : BitVec 32 := Scf.iv c1_i32_33 c1_i32_34 k0_t4
  let v43 : BitVec 32 := Scalar.addi arg19 c0_i32_48
  let c1_i32_49 : BitVec 32 := 1#32
  let v44 : BitVec 32 := Scalar.subi v43 c1_i32_49
  let v48 : Index := Scalar.indexCast v44
  let c16_i32_50 : BitVec 32 := 16#32
  let c0_i32_40 : BitVec 32 := 0#32
  let c1_i32_42 : BitVec 32 := 1#32
  let arg20 : BitVec 32 := Scf.iv c0_i32_40 c1_i32_42 k0_t5
  let c2_i32_44 : BitVec 32 := 2#32
  let v38 : BitVec 32 := Scalar.muli arg20 c2_i32_44
  let v39 : BitVec 32 := Scalar.addi v38 c0_i32_45
  let v45 : BitVec 32 := Scalar.muli c16_i32_50 v39
  let v49 : Index := Scalar.indexCast v45
  let c0_52 : Index := 0#32
  ![v46.toNat, 0, v47.toNat, v48.toNat, v49.toNat, 0]
def k0_off82 (k0_t2 : Fin k0_t2_loop.trips) : Fin 3 → Nat :=
  let c1 : Index := 1#32
  let c0_53 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v55 : Index := Scalar.indexCast v27
  ![1, 0, v55.toNat]
def k0_off83 (i : grid0.Coords) (k0_t2 : Fin k0_t2_loop.trips) (k0_t4 : Fin k0_t4_loop.trips) (k0_t5 : Fin k0_t5_loop.trips) (c0_i32_54 : BitVec 32) (c0_i32_45 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v61 : Index := Scalar.indexCast v6
  let c1_57 : Index := 1#32
  let c0_i32_14 : BitVec 32 := 0#32
  let c1_i32_16 : BitVec 32 := 1#32
  let arg18 : BitVec 32 := Scf.iv c0_i32_14 c1_i32_16 k0_t2
  let v62 : Index := Scalar.indexCast arg18
  let c1_i32_33 : BitVec 32 := 1#32
  let c1_i32_34 : BitVec 32 := 1#32
  let arg19 : BitVec 32 := Scf.iv c1_i32_33 c1_i32_34 k0_t4
  let v58 : BitVec 32 := Scalar.addi arg19 c0_i32_54
  let c1_i32_55 : BitVec 32 := 1#32
  let v59 : BitVec 32 := Scalar.subi v58 c1_i32_55
  let v63 : Index := Scalar.indexCast v59
  let c16_i32_56 : BitVec 32 := 16#32
  let c0_i32_40 : BitVec 32 := 0#32
  let c1_i32_42 : BitVec 32 := 1#32
  let arg20 : BitVec 32 := Scf.iv c0_i32_40 c1_i32_42 k0_t5
  let c2_i32_44 : BitVec 32 := 2#32
  let v38 : BitVec 32 := Scalar.muli arg20 c2_i32_44
  let v39 : BitVec 32 := Scalar.addi v38 c0_i32_45
  let v60 : BitVec 32 := Scalar.muli c16_i32_56 v39
  let v64 : Index := Scalar.indexCast v60
  let c0_58 : Index := 0#32
  ![v61.toNat, 1, v62.toNat, v63.toNat, v64.toNat, 0]
def k0_off84 (k0_t2 : Fin k0_t2_loop.trips) : Fin 3 → Nat :=
  let c2 : Index := 2#32
  let c0_59 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v71 : Index := Scalar.indexCast v27
  ![2, 0, v71.toNat]
def k0_off85 (i : grid0.Coords) (k0_t2 : Fin k0_t2_loop.trips) (k0_t4 : Fin k0_t4_loop.trips) (k0_t5 : Fin k0_t5_loop.trips) (c0_i32_60 : BitVec 32) (c0_i32_45 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v77 : Index := Scalar.indexCast v6
  let c2_63 : Index := 2#32
  let c0_i32_14 : BitVec 32 := 0#32
  let c1_i32_16 : BitVec 32 := 1#32
  let arg18 : BitVec 32 := Scf.iv c0_i32_14 c1_i32_16 k0_t2
  let v78 : Index := Scalar.indexCast arg18
  let c1_i32_33 : BitVec 32 := 1#32
  let c1_i32_34 : BitVec 32 := 1#32
  let arg19 : BitVec 32 := Scf.iv c1_i32_33 c1_i32_34 k0_t4
  let v74 : BitVec 32 := Scalar.addi arg19 c0_i32_60
  let c1_i32_61 : BitVec 32 := 1#32
  let v75 : BitVec 32 := Scalar.subi v74 c1_i32_61
  let v79 : Index := Scalar.indexCast v75
  let c16_i32_62 : BitVec 32 := 16#32
  let c0_i32_40 : BitVec 32 := 0#32
  let c1_i32_42 : BitVec 32 := 1#32
  let arg20 : BitVec 32 := Scf.iv c0_i32_40 c1_i32_42 k0_t5
  let c2_i32_44 : BitVec 32 := 2#32
  let v38 : BitVec 32 := Scalar.muli arg20 c2_i32_44
  let v39 : BitVec 32 := Scalar.addi v38 c0_i32_45
  let v76 : BitVec 32 := Scalar.muli c16_i32_62 v39
  let v80 : Index := Scalar.indexCast v76
  let c0_64 : Index := 0#32
  ![v77.toNat, 2, v78.toNat, v79.toNat, v80.toNat, 0]
def k0_off86 (k0_t2 : Fin k0_t2_loop.trips) : Fin 3 → Nat :=
  let c3 : Index := 3#32
  let c0_65 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v87 : Index := Scalar.indexCast v27
  ![3, 0, v87.toNat]
def k0_off87 (k0_t2 : Fin k0_t2_loop.trips) : Fin 3 → Nat :=
  let c4 : Index := 4#32
  let c0_71 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v103 : Index := Scalar.indexCast v27
  ![4, 0, v103.toNat]
def k0_off88 (k0_t2 : Fin k0_t2_loop.trips) : Fin 3 → Nat :=
  let c5 : Index := 5#32
  let c0_77 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v119 : Index := Scalar.indexCast v27
  ![5, 0, v119.toNat]
def k0_off89 (k0_t2 : Fin k0_t2_loop.trips) : Fin 3 → Nat :=
  let c6 : Index := 6#32
  let c0_83 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v135 : Index := Scalar.indexCast v27
  ![6, 0, v135.toNat]
def k0_off90 (k0_t2 : Fin k0_t2_loop.trips) : Fin 3 → Nat :=
  let c7_89 : Index := 7#32
  let c0_90 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v151 : Index := Scalar.indexCast v27
  ![7, 0, v151.toNat]
def k0_off91 (k0_t2 : Fin k0_t2_loop.trips) : Fin 3 → Nat :=
  let c8 : Index := 8#32
  let c0_96 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v167 : Index := Scalar.indexCast v27
  ![8, 0, v167.toNat]
def k0_off92 (i : grid0.Coords) (k0_t2 : Fin k0_t2_loop.trips) (k0_t4 : Fin k0_t4_loop.trips) (k0_t5 : Fin k0_t5_loop.trips) (c0_i32_105 : BitVec 32) (c0_i32_45 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v192 : Index := Scalar.indexCast v6
  let c0_108 : Index := 0#32
  let c4_i32_102 : BitVec 32 := 4#32
  let c0_i32_14 : BitVec 32 := 0#32
  let c1_i32_16 : BitVec 32 := 1#32
  let arg18 : BitVec 32 := Scf.iv c0_i32_14 c1_i32_16 k0_t2
  let v185 : BitVec 32 := Scalar.addi c4_i32_102 arg18
  let v193 : Index := Scalar.indexCast v185
  let c1_i32_33 : BitVec 32 := 1#32
  let c1_i32_34 : BitVec 32 := 1#32
  let arg19 : BitVec 32 := Scf.iv c1_i32_33 c1_i32_34 k0_t4
  let v189 : BitVec 32 := Scalar.addi arg19 c0_i32_105
  let c1_i32_106 : BitVec 32 := 1#32
  let v190 : BitVec 32 := Scalar.subi v189 c1_i32_106
  let v194 : Index := Scalar.indexCast v190
  let c16_i32_107 : BitVec 32 := 16#32
  let c0_i32_40 : BitVec 32 := 0#32
  let c1_i32_42 : BitVec 32 := 1#32
  let arg20 : BitVec 32 := Scf.iv c0_i32_40 c1_i32_42 k0_t5
  let c2_i32_44 : BitVec 32 := 2#32
  let v38 : BitVec 32 := Scalar.muli arg20 c2_i32_44
  let v39 : BitVec 32 := Scalar.addi v38 c0_i32_45
  let v191 : BitVec 32 := Scalar.muli c16_i32_107 v39
  let v195 : Index := Scalar.indexCast v191
  let c0_109 : Index := 0#32
  ![v192.toNat, 0, v193.toNat, v194.toNat, v195.toNat, 0]
def k0_off93 (i : grid0.Coords) (k0_t2 : Fin k0_t2_loop.trips) (k0_t4 : Fin k0_t4_loop.trips) (k0_t5 : Fin k0_t5_loop.trips) (c0_i32_112 : BitVec 32) (c0_i32_45 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v207 : Index := Scalar.indexCast v6
  let c1_115 : Index := 1#32
  let c4_i32_102 : BitVec 32 := 4#32
  let c0_i32_14 : BitVec 32 := 0#32
  let c1_i32_16 : BitVec 32 := 1#32
  let arg18 : BitVec 32 := Scf.iv c0_i32_14 c1_i32_16 k0_t2
  let v185 : BitVec 32 := Scalar.addi c4_i32_102 arg18
  let v208 : Index := Scalar.indexCast v185
  let c1_i32_33 : BitVec 32 := 1#32
  let c1_i32_34 : BitVec 32 := 1#32
  let arg19 : BitVec 32 := Scf.iv c1_i32_33 c1_i32_34 k0_t4
  let v204 : BitVec 32 := Scalar.addi arg19 c0_i32_112
  let c1_i32_113 : BitVec 32 := 1#32
  let v205 : BitVec 32 := Scalar.subi v204 c1_i32_113
  let v209 : Index := Scalar.indexCast v205
  let c16_i32_114 : BitVec 32 := 16#32
  let c0_i32_40 : BitVec 32 := 0#32
  let c1_i32_42 : BitVec 32 := 1#32
  let arg20 : BitVec 32 := Scf.iv c0_i32_40 c1_i32_42 k0_t5
  let c2_i32_44 : BitVec 32 := 2#32
  let v38 : BitVec 32 := Scalar.muli arg20 c2_i32_44
  let v39 : BitVec 32 := Scalar.addi v38 c0_i32_45
  let v206 : BitVec 32 := Scalar.muli c16_i32_114 v39
  let v210 : Index := Scalar.indexCast v206
  let c0_116 : Index := 0#32
  ![v207.toNat, 1, v208.toNat, v209.toNat, v210.toNat, 0]
def k0_off94 (i : grid0.Coords) (k0_t2 : Fin k0_t2_loop.trips) (k0_t4 : Fin k0_t4_loop.trips) (k0_t5 : Fin k0_t5_loop.trips) (c0_i32_119 : BitVec 32) (c0_i32_45 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v223 : Index := Scalar.indexCast v6
  let c2_122 : Index := 2#32
  let c4_i32_102 : BitVec 32 := 4#32
  let c0_i32_14 : BitVec 32 := 0#32
  let c1_i32_16 : BitVec 32 := 1#32
  let arg18 : BitVec 32 := Scf.iv c0_i32_14 c1_i32_16 k0_t2
  let v185 : BitVec 32 := Scalar.addi c4_i32_102 arg18
  let v224 : Index := Scalar.indexCast v185
  let c1_i32_33 : BitVec 32 := 1#32
  let c1_i32_34 : BitVec 32 := 1#32
  let arg19 : BitVec 32 := Scf.iv c1_i32_33 c1_i32_34 k0_t4
  let v220 : BitVec 32 := Scalar.addi arg19 c0_i32_119
  let c1_i32_120 : BitVec 32 := 1#32
  let v221 : BitVec 32 := Scalar.subi v220 c1_i32_120
  let v225 : Index := Scalar.indexCast v221
  let c16_i32_121 : BitVec 32 := 16#32
  let c0_i32_40 : BitVec 32 := 0#32
  let c1_i32_42 : BitVec 32 := 1#32
  let arg20 : BitVec 32 := Scf.iv c0_i32_40 c1_i32_42 k0_t5
  let c2_i32_44 : BitVec 32 := 2#32
  let v38 : BitVec 32 := Scalar.muli arg20 c2_i32_44
  let v39 : BitVec 32 := Scalar.addi v38 c0_i32_45
  let v222 : BitVec 32 := Scalar.muli c16_i32_121 v39
  let v226 : Index := Scalar.indexCast v222
  let c0_123 : Index := 0#32
  ![v223.toNat, 2, v224.toNat, v225.toNat, v226.toNat, 0]
def k0_off95 (k0_t2 : Fin k0_t2_loop.trips) (k0_t4 : Fin k0_t4_loop.trips) (k0_t5 : Fin k0_t5_loop.trips) : Fin 2 → Nat :=
  let c1_i32_33 : BitVec 32 := 1#32
  let c1_i32_34 : BitVec 32 := 1#32
  let arg19 : BitVec 32 := Scf.iv c1_i32_33 c1_i32_34 k0_t4
  let c128_i32_299 : BitVec 32 := 128#32
  let v646 : BitVec 32 := Scalar.muli arg19 c128_i32_299
  let c0_i32_40 : BitVec 32 := 0#32
  let c1_i32_42 : BitVec 32 := 1#32
  let arg20 : BitVec 32 := Scf.iv c0_i32_40 c1_i32_42 k0_t5
  let c32_i32 : BitVec 32 := 32#32
  let v647 : BitVec 32 := Scalar.muli arg20 c32_i32
  let v648 : BitVec 32 := Scalar.addi v646 v647
  let v649 : Index := Scalar.indexCast v648
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v650 : Index := Scalar.indexCast v27
  ![v649.toNat, v650.toNat]
@[reducible] def k0_t6_loop : Scf.Loop 32 :=
  let c0_i32_36 : BitVec 32 := 0#32
  let c4_i32_37 : BitVec 32 := 4#32
  let v36 : BitVec 32 := Scalar.addi c0_i32_36 c4_i32_37
  let c1_i32_38 : BitVec 32 := 1#32
  ⟨c0_i32_36, v36, c1_i32_38⟩
def k0_off96 (k0_t2 : Fin k0_t2_loop.trips) : Fin 3 → Nat :=
  let c0_42 : Index := 0#32
  let c0_43 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v39 : Index := Scalar.indexCast v27
  ![0, 0, v39.toNat]
def k0_off97 (i : grid0.Coords) (k0_t2 : Fin k0_t2_loop.trips) (k0_t6 : Fin k0_t6_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v43 : Index := Scalar.indexCast v6
  let c0_45 : Index := 0#32
  let c0_i32_14 : BitVec 32 := 0#32
  let c1_i32_16 : BitVec 32 := 1#32
  let arg18 : BitVec 32 := Scf.iv c0_i32_14 c1_i32_16 k0_t2
  let v44 : Index := Scalar.indexCast arg18
  let c6 : Index := 6#32
  let c16_i32_44 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v42 : BitVec 32 := Scalar.muli c16_i32_44 v38
  let v45 : Index := Scalar.indexCast v42
  let c0_46 : Index := 0#32
  ![v43.toNat, 0, v44.toNat, 6, v45.toNat, 0]
def k0_off98 (k0_t2 : Fin k0_t2_loop.trips) : Fin 3 → Nat :=
  let c1 : Index := 1#32
  let c0_47 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v51 : Index := Scalar.indexCast v27
  ![1, 0, v51.toNat]
def k0_off99 (i : grid0.Coords) (k0_t2 : Fin k0_t2_loop.trips) (k0_t6 : Fin k0_t6_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v55 : Index := Scalar.indexCast v6
  let c1_49 : Index := 1#32
  let c0_i32_14 : BitVec 32 := 0#32
  let c1_i32_16 : BitVec 32 := 1#32
  let arg18 : BitVec 32 := Scf.iv c0_i32_14 c1_i32_16 k0_t2
  let v56 : Index := Scalar.indexCast arg18
  let c6_50 : Index := 6#32
  let c16_i32_48 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v54 : BitVec 32 := Scalar.muli c16_i32_48 v38
  let v57 : Index := Scalar.indexCast v54
  let c0_51 : Index := 0#32
  ![v55.toNat, 1, v56.toNat, 6, v57.toNat, 0]
def k0_off100 (k0_t2 : Fin k0_t2_loop.trips) : Fin 3 → Nat :=
  let c2 : Index := 2#32
  let c0_52 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v64 : Index := Scalar.indexCast v27
  ![2, 0, v64.toNat]
def k0_off101 (i : grid0.Coords) (k0_t2 : Fin k0_t2_loop.trips) (k0_t6 : Fin k0_t6_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v68 : Index := Scalar.indexCast v6
  let c2_54 : Index := 2#32
  let c0_i32_14 : BitVec 32 := 0#32
  let c1_i32_16 : BitVec 32 := 1#32
  let arg18 : BitVec 32 := Scf.iv c0_i32_14 c1_i32_16 k0_t2
  let v69 : Index := Scalar.indexCast arg18
  let c6_55 : Index := 6#32
  let c16_i32_53 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v67 : BitVec 32 := Scalar.muli c16_i32_53 v38
  let v70 : Index := Scalar.indexCast v67
  let c0_56 : Index := 0#32
  ![v68.toNat, 2, v69.toNat, 6, v70.toNat, 0]
def k0_off102 (k0_t2 : Fin k0_t2_loop.trips) : Fin 3 → Nat :=
  let c3 : Index := 3#32
  let c0_57 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v77 : Index := Scalar.indexCast v27
  ![3, 0, v77.toNat]
def k0_off103 (i : grid0.Coords) (k0_t2 : Fin k0_t2_loop.trips) (k0_t6 : Fin k0_t6_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v81 : Index := Scalar.indexCast v6
  let c0_59 : Index := 0#32
  let c0_i32_14 : BitVec 32 := 0#32
  let c1_i32_16 : BitVec 32 := 1#32
  let arg18 : BitVec 32 := Scf.iv c0_i32_14 c1_i32_16 k0_t2
  let v82 : Index := Scalar.indexCast arg18
  let c7_60 : Index := 7#32
  let c16_i32_58 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v80 : BitVec 32 := Scalar.muli c16_i32_58 v38
  let v83 : Index := Scalar.indexCast v80
  let c0_61 : Index := 0#32
  ![v81.toNat, 0, v82.toNat, 7, v83.toNat, 0]
def k0_off104 (k0_t2 : Fin k0_t2_loop.trips) : Fin 3 → Nat :=
  let c4 : Index := 4#32
  let c0_62 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v90 : Index := Scalar.indexCast v27
  ![4, 0, v90.toNat]
def k0_off105 (i : grid0.Coords) (k0_t2 : Fin k0_t2_loop.trips) (k0_t6 : Fin k0_t6_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v94 : Index := Scalar.indexCast v6
  let c1_64 : Index := 1#32
  let c0_i32_14 : BitVec 32 := 0#32
  let c1_i32_16 : BitVec 32 := 1#32
  let arg18 : BitVec 32 := Scf.iv c0_i32_14 c1_i32_16 k0_t2
  let v95 : Index := Scalar.indexCast arg18
  let c7_65 : Index := 7#32
  let c16_i32_63 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v93 : BitVec 32 := Scalar.muli c16_i32_63 v38
  let v96 : Index := Scalar.indexCast v93
  let c0_66 : Index := 0#32
  ![v94.toNat, 1, v95.toNat, 7, v96.toNat, 0]
def k0_off106 (k0_t2 : Fin k0_t2_loop.trips) : Fin 3 → Nat :=
  let c5 : Index := 5#32
  let c0_67 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v103 : Index := Scalar.indexCast v27
  ![5, 0, v103.toNat]
def k0_off107 (i : grid0.Coords) (k0_t2 : Fin k0_t2_loop.trips) (k0_t6 : Fin k0_t6_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v107 : Index := Scalar.indexCast v6
  let c2_69 : Index := 2#32
  let c0_i32_14 : BitVec 32 := 0#32
  let c1_i32_16 : BitVec 32 := 1#32
  let arg18 : BitVec 32 := Scf.iv c0_i32_14 c1_i32_16 k0_t2
  let v108 : Index := Scalar.indexCast arg18
  let c7_70 : Index := 7#32
  let c16_i32_68 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v106 : BitVec 32 := Scalar.muli c16_i32_68 v38
  let v109 : Index := Scalar.indexCast v106
  let c0_71 : Index := 0#32
  ![v107.toNat, 2, v108.toNat, 7, v109.toNat, 0]
def k0_off108 (k0_t2 : Fin k0_t2_loop.trips) : Fin 3 → Nat :=
  let c6_72 : Index := 6#32
  let c0_73 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v116 : Index := Scalar.indexCast v27
  ![6, 0, v116.toNat]
def k0_off109 (k0_t2 : Fin k0_t2_loop.trips) (k0_t6 : Fin k0_t6_loop.trips) (c0_i32_41 : BitVec 32) : Fin 4 → Nat :=
  let c0_75 : Index := 0#32
  let c0_i32_14 : BitVec 32 := 0#32
  let c1_i32_16 : BitVec 32 := 1#32
  let arg18 : BitVec 32 := Scf.iv c0_i32_14 c1_i32_16 k0_t2
  let v120 : Index := Scalar.indexCast arg18
  let c16_i32_74 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v119 : BitVec 32 := Scalar.muli c16_i32_74 v38
  let v121 : Index := Scalar.indexCast v119
  let c0_76 : Index := 0#32
  ![0, v120.toNat, v121.toNat, 0]
def k0_off110 (k0_t2 : Fin k0_t2_loop.trips) : Fin 3 → Nat :=
  let c7_77 : Index := 7#32
  let c0_78 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v128 : Index := Scalar.indexCast v27
  ![7, 0, v128.toNat]
def k0_off111 (k0_t2 : Fin k0_t2_loop.trips) (k0_t6 : Fin k0_t6_loop.trips) (c0_i32_41 : BitVec 32) : Fin 4 → Nat :=
  let c1_80 : Index := 1#32
  let c0_i32_14 : BitVec 32 := 0#32
  let c1_i32_16 : BitVec 32 := 1#32
  let arg18 : BitVec 32 := Scf.iv c0_i32_14 c1_i32_16 k0_t2
  let v132 : Index := Scalar.indexCast arg18
  let c16_i32_79 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v131 : BitVec 32 := Scalar.muli c16_i32_79 v38
  let v133 : Index := Scalar.indexCast v131
  let c0_81 : Index := 0#32
  ![1, v132.toNat, v133.toNat, 0]
def k0_off112 (k0_t2 : Fin k0_t2_loop.trips) : Fin 3 → Nat :=
  let c8 : Index := 8#32
  let c0_82 : Index := 0#32
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v140 : Index := Scalar.indexCast v27
  ![8, 0, v140.toNat]
def k0_off113 (k0_t2 : Fin k0_t2_loop.trips) (k0_t6 : Fin k0_t6_loop.trips) (c0_i32_41 : BitVec 32) : Fin 4 → Nat :=
  let c2_84 : Index := 2#32
  let c0_i32_14 : BitVec 32 := 0#32
  let c1_i32_16 : BitVec 32 := 1#32
  let arg18 : BitVec 32 := Scf.iv c0_i32_14 c1_i32_16 k0_t2
  let v144 : Index := Scalar.indexCast arg18
  let c16_i32_83 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v143 : BitVec 32 := Scalar.muli c16_i32_83 v38
  let v145 : Index := Scalar.indexCast v143
  let c0_85 : Index := 0#32
  ![2, v144.toNat, v145.toNat, 0]
def k0_off114 (i : grid0.Coords) (k0_t2 : Fin k0_t2_loop.trips) (k0_t6 : Fin k0_t6_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v159 : Index := Scalar.indexCast v6
  let c0_90 : Index := 0#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v160 : Index := Scalar.indexCast v154
  let c6_91 : Index := 6#32
  let c16_i32_89 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v158 : BitVec 32 := Scalar.muli c16_i32_89 v38
  let v161 : Index := Scalar.indexCast v158
  let c0_92 : Index := 0#32
  ![v159.toNat, 0, v160.toNat, 6, v161.toNat, 0]
def k0_off115 (i : grid0.Coords) (k0_t2 : Fin k0_t2_loop.trips) (k0_t6 : Fin k0_t6_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v171 : Index := Scalar.indexCast v6
  let c1_96 : Index := 1#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v172 : Index := Scalar.indexCast v154
  let c6_97 : Index := 6#32
  let c16_i32_95 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v170 : BitVec 32 := Scalar.muli c16_i32_95 v38
  let v173 : Index := Scalar.indexCast v170
  let c0_98 : Index := 0#32
  ![v171.toNat, 1, v172.toNat, 6, v173.toNat, 0]
def k0_off116 (i : grid0.Coords) (k0_t2 : Fin k0_t2_loop.trips) (k0_t6 : Fin k0_t6_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v184 : Index := Scalar.indexCast v6
  let c2_102 : Index := 2#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v185 : Index := Scalar.indexCast v154
  let c6_103 : Index := 6#32
  let c16_i32_101 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v183 : BitVec 32 := Scalar.muli c16_i32_101 v38
  let v186 : Index := Scalar.indexCast v183
  let c0_104 : Index := 0#32
  ![v184.toNat, 2, v185.toNat, 6, v186.toNat, 0]
def k0_off117 (i : grid0.Coords) (k0_t2 : Fin k0_t2_loop.trips) (k0_t6 : Fin k0_t6_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v197 : Index := Scalar.indexCast v6
  let c0_108 : Index := 0#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v198 : Index := Scalar.indexCast v154
  let c7_109 : Index := 7#32
  let c16_i32_107 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v196 : BitVec 32 := Scalar.muli c16_i32_107 v38
  let v199 : Index := Scalar.indexCast v196
  let c0_110 : Index := 0#32
  ![v197.toNat, 0, v198.toNat, 7, v199.toNat, 0]
def k0_off118 (i : grid0.Coords) (k0_t2 : Fin k0_t2_loop.trips) (k0_t6 : Fin k0_t6_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v210 : Index := Scalar.indexCast v6
  let c1_114 : Index := 1#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v211 : Index := Scalar.indexCast v154
  let c7_115 : Index := 7#32
  let c16_i32_113 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v209 : BitVec 32 := Scalar.muli c16_i32_113 v38
  let v212 : Index := Scalar.indexCast v209
  let c0_116 : Index := 0#32
  ![v210.toNat, 1, v211.toNat, 7, v212.toNat, 0]
def k0_off119 (i : grid0.Coords) (k0_t2 : Fin k0_t2_loop.trips) (k0_t6 : Fin k0_t6_loop.trips) (c0_i32_41 : BitVec 32) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v223 : Index := Scalar.indexCast v6
  let c2_120 : Index := 2#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v224 : Index := Scalar.indexCast v154
  let c7_121 : Index := 7#32
  let c16_i32_119 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v222 : BitVec 32 := Scalar.muli c16_i32_119 v38
  let v225 : Index := Scalar.indexCast v222
  let c0_122 : Index := 0#32
  ![v223.toNat, 2, v224.toNat, 7, v225.toNat, 0]
def k0_off120 (k0_t2 : Fin k0_t2_loop.trips) (k0_t6 : Fin k0_t6_loop.trips) (c0_i32_41 : BitVec 32) : Fin 4 → Nat :=
  let c0_126 : Index := 0#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v236 : Index := Scalar.indexCast v154
  let c16_i32_125 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v235 : BitVec 32 := Scalar.muli c16_i32_125 v38
  let v237 : Index := Scalar.indexCast v235
  let c0_127 : Index := 0#32
  ![0, v236.toNat, v237.toNat, 0]
def k0_off121 (k0_t2 : Fin k0_t2_loop.trips) (k0_t6 : Fin k0_t6_loop.trips) (c0_i32_41 : BitVec 32) : Fin 4 → Nat :=
  let c1_131 : Index := 1#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v248 : Index := Scalar.indexCast v154
  let c16_i32_130 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v247 : BitVec 32 := Scalar.muli c16_i32_130 v38
  let v249 : Index := Scalar.indexCast v247
  let c0_132 : Index := 0#32
  ![1, v248.toNat, v249.toNat, 0]
def k0_off122 (k0_t2 : Fin k0_t2_loop.trips) (k0_t6 : Fin k0_t6_loop.trips) (c0_i32_41 : BitVec 32) : Fin 4 → Nat :=
  let c2_136 : Index := 2#32
  let c4_i32_86 : BitVec 32 := 4#32
  let c0_i32_14 : BitVec 32 := 0#32
  let c1_i32_16 : BitVec 32 := 1#32
  let arg18 : BitVec 32 := Scf.iv c0_i32_14 c1_i32_16 k0_t2
  let v154 : BitVec 32 := Scalar.addi c4_i32_86 arg18
  let v260 : Index := Scalar.indexCast v154
  let c16_i32_135 : BitVec 32 := 16#32
  let c0_i32_36 : BitVec 32 := 0#32
  let c1_i32_38 : BitVec 32 := 1#32
  let arg19 : BitVec 32 := Scf.iv c0_i32_36 c1_i32_38 k0_t6
  let c2_i32_40 : BitVec 32 := 2#32
  let v37 : BitVec 32 := Scalar.muli arg19 c2_i32_40
  let v38 : BitVec 32 := Scalar.addi v37 c0_i32_41
  let v259 : BitVec 32 := Scalar.muli c16_i32_135 v38
  let v261 : Index := Scalar.indexCast v259
  let c0_137 : Index := 0#32
  ![2, v260.toNat, v261.toNat, 0]
def k0_off123 (k0_t2 : Fin k0_t2_loop.trips) (k0_t6 : Fin k0_t6_loop.trips) : Fin 2 → Nat :=
  let c896_i32 : BitVec 32 := 896#32
  let c0_i32_36 : BitVec 32 := 0#32
  let c1_i32_38 : BitVec 32 := 1#32
  let arg19 : BitVec 32 := Scf.iv c0_i32_36 c1_i32_38 k0_t6
  let c32_i32 : BitVec 32 := 32#32
  let v525 : BitVec 32 := Scalar.muli arg19 c32_i32
  let v526 : BitVec 32 := Scalar.addi c896_i32 v525
  let v527 : Index := Scalar.indexCast v526
  let c0_i32_14 : BitVec 32 := 0#32
  let c1_i32_16 : BitVec 32 := 1#32
  let arg18 : BitVec 32 := Scf.iv c0_i32_14 c1_i32_16 k0_t2
  let c128_i32 : BitVec 32 := 128#32
  let v27 : BitVec 32 := Scalar.muli arg18 c128_i32
  let v528 : Index := Scalar.indexCast v27
  ![v527.toNat, v528.toNat]
def k0_off124 (i : grid0.Coords) : Fin 6 → Nat :=
  let c1_i32_3 : BitVec 32 := 1#32
  let arg0 : BitVec 32 := BitVec.ofNat 32 (i 0).val
  let c2_i32 : BitVec 32 := 2#32
  let v0 : BitVec 32 := Scalar.remsi arg0 c2_i32
  let v6 : BitVec 32 := Scalar.subi c1_i32_3 v0
  let v19 : Index := Scalar.indexCast v6
  let c0_18 : Index := 0#32
  let c0_19 : Index := 0#32
  let c7 : Index := 7#32
  let c0_20 : Index := 0#32
  let c0_21 : Index := 0#32
  ![v19.toNat, 0, 0, 7, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c239_i32 : BitVec 32 := 239#32
  let v0 : BitVec 32 := Scalar.minsi arg0 c239_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_2 (i : grid0.Coords) : Fin 2 → Nat :=
  let arg0 : BitVec 32 := BitVec.ofNat 32 (i 0).val
  let c239_i32 : BitVec 32 := 239#32
  let v0 : BitVec 32 := Scalar.minsi arg0 c239_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_3 (i : grid0.Coords) : Fin 2 → Nat :=
  let arg0 : BitVec 32 := BitVec.ofNat 32 (i 0).val
  let c239_i32 : BitVec 32 := 239#32
  let v0 : BitVec 32 := Scalar.minsi arg0 c239_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32 : BitVec 32 := 15#32
  let v18 : BitVec 32 := Scalar.addi v17 c15_i32
  let c0_i32_4 : BitVec 32 := 0#32
  let c0_i32_5 : BitVec 32 := 0#32
  ![c0_i32_4.toNat, v18.toNat]

def cc0_transform_4 (i : grid0.Coords) : Fin 2 → Nat :=
  let arg0 : BitVec 32 := BitVec.ofNat 32 (i 0).val
  let c239_i32 : BitVec 32 := 239#32
  let v0 : BitVec 32 := Scalar.minsi arg0 c239_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi v17 c0_i32_4
  let c0_i32_5 : BitVec 32 := 0#32
  let c0_i32_6 : BitVec 32 := 0#32
  ![c0_i32_5.toNat, v18.toNat]

def cc0_transform_5 (i : grid0.Coords) : Fin 2 → Nat :=
  let arg0 : BitVec 32 := BitVec.ofNat 32 (i 0).val
  let c239_i32 : BitVec 32 := 239#32
  let v0 : BitVec 32 := Scalar.minsi arg0 c239_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32 : BitVec 32 := 15#32
  let v18 : BitVec 32 := Scalar.addi v17 c15_i32
  let c0_i32_4 : BitVec 32 := 0#32
  let c0_i32_5 : BitVec 32 := 0#32
  ![c0_i32_4.toNat, v18.toNat]

def cc0_transform_6 (i : grid0.Coords) : Fin 2 → Nat :=
  let arg0 : BitVec 32 := BitVec.ofNat 32 (i 0).val
  let c239_i32 : BitVec 32 := 239#32
  let v0 : BitVec 32 := Scalar.minsi arg0 c239_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi v17 c0_i32_4
  let c0_i32_5 : BitVec 32 := 0#32
  let c0_i32_6 : BitVec 32 := 0#32
  ![c0_i32_5.toNat, v18.toNat]

def cc0_transform_7 (i : grid0.Coords) : Fin 2 → Nat :=
  let arg0 : BitVec 32 := BitVec.ofNat 32 (i 0).val
  let c239_i32 : BitVec 32 := 239#32
  let v0 : BitVec 32 := Scalar.minsi arg0 c239_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32 : BitVec 32 := 15#32
  let v18 : BitVec 32 := Scalar.addi v17 c15_i32
  let c0_i32_4 : BitVec 32 := 0#32
  let c0_i32_5 : BitVec 32 := 0#32
  ![c0_i32_4.toNat, v18.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![c0_i32_6.toNat, c0_i32_7.toNat, v18.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c15_i32 : BitVec 32 := 15#32
  let v19 : BitVec 32 := Scalar.addi v18 c15_i32
  let c0_i32_6 : BitVec 32 := 0#32
  let c0_i32_7 : BitVec 32 := 0#32
  let c0_i32_8 : BitVec 32 := 0#32
  ![c0_i32_6.toNat, c0_i32_7.toNat, v19.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 32 := Scalar.addi v18 c0_i32_6
  let c0_i32_7 : BitVec 32 := 0#32
  let c0_i32_8 : BitVec 32 := 0#32
  ![c0_i32_7.toNat, v19.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c15_i32 : BitVec 32 := 15#32
  let v19 : BitVec 32 := Scalar.addi v18 c15_i32
  let c0_i32_6 : BitVec 32 := 0#32
  let c0_i32_7 : BitVec 32 := 0#32
  ![c0_i32_6.toNat, v19.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c16_i32_7 : BitVec 32 := 16#32
  let v14 : BitVec 32 := Scalar.divsi v13 c16_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c16_i32_7 c0_i32_10
  let v21 : BitVec 32 := Scalar.extui v20
  let c0_i32_11 : BitVec 32 := 0#32
  let v22 : BitVec 1 := Scalar.cmpi .slt c16_i32_7 c0_i32_11
  let v23 : BitVec 32 := Scalar.extui v22
  let v24 : BitVec 32 := Scalar.subi v21 v23
  let v25 : BitVec 1 := Scalar.cmpi .ne v19 v24
  let v26 : BitVec 32 := Scalar.remsi v13 c16_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3072x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S9x16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S9x16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== UpRefIdeal.lean ====
abbrev S16384x3072 : Shape := ⟨2, ![16384, 3072]⟩
abbrev S3072x15360 : Shape := ⟨2, ![3072, 15360]⟩
abbrev S15360 : Shape := ⟨1, ![15360]⟩
abbrev S3x3x15360 : Shape := ⟨3, ![3, 3, 15360]⟩
abbrev S1 : Shape := ⟨1, ![1]⟩
abbrev S1x15360 : Shape := ⟨2, ![1, 15360]⟩
abbrev S1x1 : Shape := ⟨2, ![1, 1]⟩
abbrev S9x1x1x1x15360 : Shape := ⟨5, ![9, 1, 1, 1, 15360]⟩
abbrev S16384x7680 : Shape := ⟨2, ![16384, 7680]⟩
abbrev S16384x15360 : Shape := ⟨2, ![16384, 15360]⟩
abbrev S2x64x128x15360 : Shape := ⟨4, ![2, 64, 128, 15360]⟩
abbrev S2x1x128x15360 : Shape := ⟨4, ![2, 1, 128, 15360]⟩
abbrev S2x66x1x15360 : Shape := ⟨4, ![2, 66, 1, 15360]⟩
abbrev S2x66x128x15360 : Shape := ⟨4, ![2, 66, 128, 15360]⟩
abbrev S2x66x130x15360 : Shape := ⟨4, ![2, 66, 130, 15360]⟩
abbrev S1x1x1x1x15360 : Shape := ⟨5, ![1, 1, 1, 1, 15360]⟩
abbrev S1x1x1x15360 : Shape := ⟨4, ![1, 1, 1, 15360]⟩

abbrev nBuf : Space → Nat
  | .hbm => 17
  | .vmem => 9
  | .smem => 0
  | _ => 0

abbrev bufTy : (tb : Table) → Fin (tcTables nBuf tb) → BufTy
  | .hbm, ⟨0, _⟩ => ⟨S16384x3072, .f32⟩
  | .hbm, ⟨1, _⟩ => ⟨S3072x15360, .f32⟩
  | .hbm, ⟨2, _⟩ => ⟨S15360, .f32⟩
  | .hbm, ⟨3, _⟩ => ⟨S15360, .f32⟩
  | .hbm, ⟨4, _⟩ => ⟨S3x3x15360, .bf16⟩
  | .hbm, ⟨5, _⟩ => ⟨S15360, .f32⟩
  | .hbm, ⟨6, _⟩ => ⟨S1, .f32⟩
  | .hbm, ⟨7, _⟩ => ⟨S1, .f32⟩
  | .hbm, ⟨8, _⟩ => ⟨S16384x3072, .fp8e4m3⟩
  | .hbm, ⟨9, _⟩ => ⟨S3072x15360, .fp8e4m3⟩
  | .hbm, ⟨10, _⟩ => ⟨S1x15360, .f32⟩
  | .hbm, ⟨11, _⟩ => ⟨S1x15360, .f32⟩
  | .hbm, ⟨12, _⟩ => ⟨S1x1, .f32⟩
  | .hbm, ⟨13, _⟩ => ⟨S9x1x1x1x15360, .bf16⟩
  | .hbm, ⟨14, _⟩ => ⟨S1x15360, .f32⟩
  | .hbm, ⟨15, _⟩ => ⟨S1x1, .f32⟩
  | .hbm, ⟨16, _⟩ => ⟨S16384x7680, .fp8e4m3⟩
  | .local _ .vmem, ⟨0, _⟩ => ⟨S16384x3072, .fp8e4m3⟩
  | .local _ .vmem, ⟨1, _⟩ => ⟨S3072x15360, .fp8e4m3⟩
  | .local _ .vmem, ⟨2, _⟩ => ⟨S1x15360, .f32⟩
  | .local _ .vmem, ⟨3, _⟩ => ⟨S1x15360, .f32⟩
  | .local _ .vmem, ⟨4, _⟩ => ⟨S1x1, .f32⟩
  | .local _ .vmem, ⟨5, _⟩ => ⟨S9x1x1x1x15360, .bf16⟩
  | .local _ .vmem, ⟨6, _⟩ => ⟨S1x15360, .f32⟩
  | .local _ .vmem, ⟨7, _⟩ => ⟨S1x1, .f32⟩
  | .local _ .vmem, ⟨8, _⟩ => ⟨S16384x7680, .fp8e4m3⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x15360 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x15360 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x15360 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x1x1x1x15360 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x15360 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x7680 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Down.lean ====
abbrev S2x8192x3072 : Shape := ⟨3, ![2, 8192, 3072]⟩
abbrev S2x8192x7680 : Shape := ⟨3, ![2, 8192, 7680]⟩
abbrev S7680x3072 : Shape := ⟨2, ![7680, 3072]⟩
abbrev S3072 : Shape := ⟨1, ![3072]⟩
abbrev S1 : Shape := ⟨1, ![1]⟩
abbrev S16384x3072 : Shape := ⟨2, ![16384, 3072]⟩
abbrev S16384x7680 : Shape := ⟨2, ![16384, 7680]⟩
abbrev S_ : Shape := ⟨0, ![]⟩
abbrev S1x3072 : Shape := ⟨2, ![1, 3072]⟩
abbrev S512x7680 : Shape := ⟨2, ![512, 7680]⟩
abbrev S7680x1024 : Shape := ⟨2, ![7680, 1024]⟩
abbrev S1x1024 : Shape := ⟨2, ![1, 1024]⟩
abbrev S512x1024 : Shape := ⟨2, ![512, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2x8192x3072, .bf16⟩
  | .hbm, ⟨1, _⟩ => ⟨S2x8192x7680, .fp8e4m3⟩
  | .hbm, ⟨2, _⟩ => ⟨S7680x3072, .fp8e4m3⟩
  | .hbm, ⟨3, _⟩ => ⟨S3072, .f32⟩
  | .hbm, ⟨4, _⟩ => ⟨S1, .f32⟩
  | .hbm, ⟨5, _⟩ => ⟨S16384x3072, .bf16⟩
  | .hbm, ⟨6, _⟩ => ⟨S16384x7680, .fp8e4m3⟩
  | .hbm, ⟨7, _⟩ => ⟨S_, .f32⟩
  | .hbm, ⟨8, _⟩ => ⟨S3072, .f32⟩
  | .hbm, ⟨9, _⟩ => ⟨S3072, .f32⟩
  | .hbm, ⟨10, _⟩ => ⟨S1x3072, .f32⟩
  | .hbm, ⟨11, _⟩ => ⟨S16384x3072, .bf16⟩
  | .local _ .vmem, ⟨0, _⟩ => ⟨S512x7680, .fp8e4m3⟩
  | .local _ .vmem, ⟨1, _⟩ => ⟨S512x7680, .fp8e4m3⟩
  | .local _ .vmem, ⟨2, _⟩ => ⟨S7680x1024, .fp8e4m3⟩
  | .local _ .vmem, ⟨3, _⟩ => ⟨S7680x1024, .fp8e4m3⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S2x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7680 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S7680x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S2x8192x3072 : Shape := ⟨3, ![2, 8192, 3072]⟩
abbrev S2x8192x7680 : Shape := ⟨3, ![2, 8192, 7680]⟩
abbrev S7680x3072 : Shape := ⟨2, ![7680, 3072]⟩
abbrev S3072 : Shape := ⟨1, ![3072]⟩
abbrev S1 : Shape := ⟨1, ![1]⟩
abbrev S16384x3072 : Shape := ⟨2, ![16384, 3072]⟩
abbrev S16384x7680 : Shape := ⟨2, ![16384, 7680]⟩
abbrev S1x3072 : Shape := ⟨2, ![1, 3072]⟩
abbrev S1x1 : Shape := ⟨2, ![1, 1]⟩

abbrev nBuf : Space → Nat
  | .hbm => 10
  | .vmem => 6
  | .smem => 0
  | _ => 0

abbrev bufTy : (tb : Table) → Fin (tcTables nBuf tb) → BufTy
  | .hbm, ⟨0, _⟩ => ⟨S2x8192x3072, .bf16⟩
  | .hbm, ⟨1, _⟩ => ⟨S2x8192x7680, .fp8e4m3⟩
  | .hbm, ⟨2, _⟩ => ⟨S7680x3072, .fp8e4m3⟩
  | .hbm, ⟨3, _⟩ => ⟨S3072, .f32⟩
  | .hbm, ⟨4, _⟩ => ⟨S1, .f32⟩
  | .hbm, ⟨5, _⟩ => ⟨S16384x3072, .bf16⟩
  | .hbm, ⟨6, _⟩ => ⟨S16384x7680, .fp8e4m3⟩
  | .hbm, ⟨7, _⟩ => ⟨S1x3072, .f32⟩
  | .hbm, ⟨8, _⟩ => ⟨S1x1, .f32⟩
  | .hbm, ⟨9, _⟩ => ⟨S16384x3072, .bf16⟩
  | .local _ .vmem, ⟨0, _⟩ => ⟨S16384x3072, .bf16⟩
  | .local _ .vmem, ⟨1, _⟩ => ⟨S16384x7680, .fp8e4m3⟩
  | .local _ .vmem, ⟨2, _⟩ => ⟨S7680x3072, .fp8e4m3⟩
  | .local _ .vmem, ⟨3, _⟩ => ⟨S1x3072, .f32⟩
  | .local _ .vmem, ⟨4, _⟩ => ⟨S1x1, .f32⟩
  | .local _ .vmem, ⟨5, _⟩ => ⟨S16384x3072, .bf16⟩
  | _, _ => ⟨S2x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x7680 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.QuantKernel.lean ====
/-
  What the quantising kernel leaves in its result array, over the extended reals: every element times the inverse
  scale, clipped.
-/
module

public import proofs.«01_k».proof.Proof.Gen.QuantIdeal.Value
public import Idealize.ShloMosaic.Lib.Pipeline.ValueKit
public import Idealize.ShloMosaic.Lib.ValueIdx
public import Idealize.ShloMosaic.Lib.Claim

@[expose] public section

noncomputable section

namespace Cert.QuantIdeal.Hand

open Cert.QuantIdeal Cert.QuantIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- Clip to the largest magnitude of the eight-bit format. -/
def clip (v : EReal) : EReal := min (Ideal.ofBits .f32 0x43E00000#32) (max (Ideal.ofBits .f32 0xC3E00000#32) v)

/-- The input as the region finds it. -/
abbrev X (c : Dev nD) : S16384x3072.Idx → EReal := V m c main_v0
/-- The inverse scale. -/
abbrev I (c : Dev nD) : S1.Idx → EReal := V m c main_v2

/-- The result array, element by element. -/
abbrev G (c : Dev nD) : S16384x3072.Idx → EReal := fun i => clip (X m c i * I m c (ValueIdx.ix1 0))

theorem pay_apply (v0 : Vec Ideal S1024x3072 .bf16) (v3 : EReal) (y : S1024x3072.Idx) :
    k0_pay1 (F := Ideal) v0 v3 y = clip (v0 y * v3) := by
  unfold k0_pay1
  simp only [shapeCast_self]
  rfl

theorem hz : (![0, 0] : Fin 2 → Nat) = fun _ => 0 := funext fun a => by fin_cases a <;> rfl
theorem hz1 : (![0] : Fin 1 → Nat) = fun _ => 0 := funext fun a => by fin_cases a; rfl

theorem out_A (c : Dev nD) (i : grid0.Coords) (arg1 : Memref sig .tc .smem S1 .f32) (h1 : arg1.IsWhole) (arg2 : Memref sig .tc .vmem S1024x3072 .bf16) (h2 : arg2.IsWhole) (arg3 : Memref sig .tc .vmem S1024x3072 .fp8e4m3) (h3 : arg3.IsWhole)
    (x0 : Vec Ideal S1 .f32) (x1 : Vec Ideal S1024x3072 .bf16) (y : S1024x3072.Idx) :
    out0_A_2 (F := Ideal) c i arg1 h1 arg2 h2 arg3 h3 x0 x1 y = clip (x1 y * x0 (ValueIdx.ix1 0)) := by
  unfold out0_A_2
  rw [View.read_writes_eq_canon _ _ _ (cover0_A_2 c i arg1 h1 arg2 h2 arg3 h3 x0 x1)]
  unfold kernelRun0_A
  dsimp only
  sl_unfold_words
  rw [View.canon_unit_zero hz]
  rw [pay_apply]
  simp only [View.readAt_eq_ld, h1.read_unread, h2.read_unread]
  refine congrArg clip (congrArg₂ (fun a b : EReal => a * b) ?_ ?_)
  · exact congrFun (View.ld_unit_zero (S := S1024x3072) hz _ x1) y
  · refine (congrFun (View.ld_unit_zero (S := S1) hz1 _ x0) _).trans (congrArg x0 ?_)
    exact funext fun a => by fin_cases a; rfl

theorem index0 (t : Fin cfg0.N) (a) : win0_0.index t a = 0 :=
  (by decide +kernel : ∀ t : Fin grid0.N, ∀ a, win0_0.index t a = 0) t a
theorem index1 (t : Fin cfg0.N) : win0_1.index t = win0_2.index t :=
  (by decide +kernel : ∀ t : Fin grid0.N, win0_1.index t = win0_2.index t) t
theorem index2 (t : Fin cfg0.N) : win0_2.index t 0 = t.val ∧ win0_2.index t 1 = 0 :=
  (by decide +kernel : ∀ t : Fin grid0.N, win0_2.index t 0 = t.val ∧ win0_2.index t 1 = 0) t

/-- What point `t` writes back is its block of `G`. -/
theorem flushed_eq (c : Dev nD) (t : Fin cfg0.N) :
    (dats m 0 c).flushed 2 t = ((cfg0.win 2).blk t).view.read (Elt Ideal) (G m c) := by
  rw [Value.flushed2_A]
  funext y
  refine (out_A c (grid0.coords t) _ _ _ _ _ _ (iblk m c 0 t) (iblk m c 1 t) y).trans ?_
  have e0 : (iblk m c 0 t : S1.Idx → EReal) = I m c := funext fun y => congrArg (I m c)
    (funext fun a => Fin.ext (win0_0.rect_emb_val_of_index_zero t a (index0 t a) y))
  have e1 : (iblk m c 1 t y : EReal) = X m c ((win0_2.rect t).emb y) := by
    show X m c ((win0_1.rect t).emb y) = _
    refine congrArg (X m c) (Shape.idx_ext₂ ?_ ?_)
    · exact (win0_1.rect_emb_val t _ 0).trans ((by rw [index1] : _ = _).trans (win0_2.rect_emb_val t y 0).symm)
    · exact (win0_1.rect_emb_val t _ 1).trans ((by rw [index1] : _ = _).trans (win0_2.rect_emb_val t y 1).symm)
  exact congrArg clip (congrArg₂ (fun a b : EReal => a * b) e1 (congrFun e0 (ValueIdx.ix1 0)))

/-- Being in a point's block, coordinate by coordinate. -/
theorem mem_blk (t : Fin cfg0.N) (i : S16384x3072.Idx) :
    i ∈ ((cfg0.win 2).blk t).view.set ↔ ∀ a, win0_2.index t a * win0_2.size a ≤ (i a : Nat)
      ∧ (i a : Nat) < win0_2.index t a * win0_2.size a + win0_2.xsize (grid0.coords t) a := by
  show i ∈ ((View.whole main_v3).slice (win0_2.rect t)).set ↔ _
  rw [View.set_slice_whole, Rect.mem_set_unit]

/-- The blocks tile the result array. -/
theorem cover (i : S16384x3072.Idx) : ∃ t : Fin cfg0.N, (cfg0.win 2).flush t = true ∧ i ∈ ((cfg0.win 2).blk t).view.set := by
  have h0 : (i 0 : Nat) < 16384 := (i 0).isLt
  have h1 : (i 1 : Nat) < 3072 := (i 1).isLt
  have hN : cfg0.N = 16 := N_0
  refine ⟨⟨(i 0 : Nat) / 1024, by omega⟩, flush0_2 _, ?_⟩
  rw [mem_blk]
  intro a
  match a with
  | ⟨0, _⟩ =>
    show win0_2.index _ 0 * 1024 ≤ (i 0 : Nat) ∧ (i 0 : Nat) < win0_2.index _ 0 * 1024 + 1024
    rw [(index2 _).1]; dsimp only; omega
  | ⟨1, _⟩ =>
    show win0_2.index _ 1 * 3072 ≤ (i 1 : Nat) ∧ (i 1 : Nat) < win0_2.index _ 1 * 3072 + 3072
    rw [(index2 _).2]; omega

/-- So the result array ends at `G`. -/
theorem final (c : Dev nD) : (dats m 0 c).arrAt 2 cfg0.N = G m c :=
  (dats m 0 c).arrAt_eq_of_cover 2 (G m c) (fun t _ => flushed_eq m c t) cover

end Cert.QuantIdeal.Hand

end
-- ==== Proof.QuantReference.lean ====
/-
  What the reference's quantiser computes, over the extended reals: every element times the inverse scale, clipped.
-/
module

public import proofs.«01_k».proof.Proof.Gen.QuantRefIdeal.Value
public import proofs.«01_k».proof.Proof.QuantKernel

@[expose] public section

noncomputable section

namespace Cert.QuantRefIdeal.Hand

open Cert.QuantRefIdeal Cert.QuantRefIdeal.Gen Idealize.ShloMosaic Idealize.ShloMosaic.TcCoe Idealize.SL.Sem
open Idealize.ShloMosaic.ValueIdx
open Cert.QuantIdeal.Hand (clip)

variable (m : (ℓ : Loc nD τ sig) → Buf (Elt Ideal) ℓ) (ρ : Dev nD → PrngReg)

/-- The input as the region finds it. -/
abbrev X (c : Dev nD) : S16384x3072.Idx → EReal := V m c main_v0
/-- The scale. -/
abbrev S (c : Dev nD) : S1x1.Idx → EReal := V m c main_v1

/-- The result array, element by element. -/
abbrev G (c : Dev nD) : S16384x3072.Idx → EReal := fun i =>
  clip (X m c i * Ideal.div (Ideal.ofBits .f32 0x3F800000#32) (S m c (ValueIdx.ix2 0 0)))

theorem pay_apply (v0 : Vec Ideal S1x1 .f32) (v3 : Vec Ideal S16384x3072 .bf16) (y : S16384x3072.Idx) :
    k0_pay1 (F := Ideal) v0 v3 y = clip (v3 y * Ideal.div (Ideal.ofBits .f32 0x3F800000#32) (v0 (ValueIdx.ix2 0 0))) := by
  unfold k0_pay1
  simp only [shapeCast_self]
  refine congrArg clip (congrArg₂ (fun a b : EReal => a * b) rfl ?_)
  exact broadcastTo_apply _ _ _ _ (fun a => by match a with | ⟨0, _⟩ => rfl | ⟨1, _⟩ => rfl)

theorem hz : (![0, 0] : Fin 2 → Nat) = fun _ => 0 := funext fun a => by fin_cases a <;> rfl

theorem index (t : Fin cfg0.N) : (∀ a, win0_0.index t a = 0) ∧ (∀ a, win0_1.index t a = 0) ∧ ∀ a, win0_2.index t a = 0 :=
  (by decide +kernel : ∀ t : Fin grid0.N, (∀ a, win0_0.index t a = 0) ∧ (∀ a, win0_1.index t a = 0) ∧ ∀ a, win0_2.index t a = 0) t

/-- The one point writes back the whole of `G`. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero hz, View.ld_unit_zero hz]
  obtain ⟨h0, h1, h2⟩ := index t
  have b0 : (iblk m c 0 t : S16384x3072.Idx → EReal) = X m c := funext fun y => congrArg (X m c)
    (funext fun a => Fin.ext (win0_0.rect_emb_val_of_index_zero t a (h0 a) y))
  have b1 : (iblk m c 1 t : S1x1.Idx → EReal) = S m c := funext fun y => congrArg (S m c)
    (funext fun a => Fin.ext (win0_1.rect_emb_val_of_index_zero t a (h1 a) y))
  funext y
  show k0_pay1 (F := Ideal) (iblk m c 1 t) (iblk m c 0 t) y = G m c ((win0_2.rect t).emb y)
  have e2 : (win0_2.rect t).emb y = y := funext fun a => Fin.ext (win0_2.rect_emb_val_of_index_zero t a (h2 a) y)
  rw [e2]
  refine (pay_apply _ _ _).trans ?_
  rw [b0, b1]

/-- Being in a point's block, coordinate by coordinate. -/
theorem mem_blk (t : Fin cfg0.N) (i : S16384x3072.Idx) :
    i ∈ ((cfg0.win 2).blk t).view.set ↔ ∀ a, win0_2.index t a * win0_2.size a ≤ (i a : Nat)
      ∧ (i a : Nat) < win0_2.index t a * win0_2.size a + win0_2.xsize (grid0.coords t) a := by
  show i ∈ ((View.whole main_v2).slice (win0_2.rect t)).set ↔ _
  rw [View.set_slice_whole, Rect.mem_set_unit]

/-- The one block is the whole array. -/
theorem cover (i : S16384x3072.Idx) : ∃ t : Fin cfg0.N, (cfg0.win 2).flush t = true ∧ i ∈ ((cfg0.win 2).blk t).view.set := by
  have h0 : (i 0 : Nat) < 16384 := (i 0).isLt
  have h1 : (i 1 : Nat) < 3072 := (i 1).isLt
  have hN : cfg0.N = 1 := N_0
  refine ⟨⟨0, by omega⟩, flush0_2 _, ?_⟩
  rw [mem_blk]
  have h := (index ⟨0, by omega⟩).2.2
  intro a
  match a with
  | ⟨0, _⟩ =>
    show win0_2.index _ 0 * 16384 ≤ (i 0 : Nat) ∧ (i 0 : Nat) < win0_2.index _ 0 * 16384 + 16384
    rw [h 0]; omega
  | ⟨1, _⟩ =>
    show win0_2.index _ 1 * 3072 ≤ (i 1 : Nat) ∧ (i 1 : Nat) < win0_2.index _ 1 * 3072 + 3072
    rw [h 1]; omega

/-- So the result array ends at `G`. -/
theorem final (c : Dev nD) : (dats m 0 c).arrAt 2 cfg0.N = G m c :=
  (dats m 0 c).arrAt_eq_of_cover 2 (G m c) (fun t _ => flushed_eq m c t) cover

end Cert.QuantRefIdeal.Hand

end
-- ==== Proof.QuantValue.lean ====
/-
  The quantising kernel and the reference's quantiser compute one function over the extended reals.
-/
module

public import proofs.«01_k».proof.Defs
public import proofs.«01_k».proof.Proof.QuantKernel
public import proofs.«01_k».proof.Proof.QuantReference

@[expose] public section

noncomputable section

namespace Cert.QuantHand

open Cert.QuantIdeal (S16384x3072 S2x8192x3072)
open Idealize.ShloMosaic Idealize.ShloMosaic.TcCoe Idealize.SL.Sem Idealize.ShloMosaic.ValueIdx

variable (m : (ℓ : Loc QuantIdeal.nD QuantIdeal.τ QuantIdeal.sig) → Buf (Elt Ideal) ℓ)
variable (m' : (ℓ : Loc QuantRefIdeal.nD QuantRefIdeal.τ QuantRefIdeal.sig) → Buf (Elt Ideal) ℓ)

/-- The kernel's inverse scale. -/
theorem inv_eq (c : Dev QuantIdeal.nD) :
    QuantIdeal.Hand.I m c (ValueIdx.ix1 0) = Ideal.div (Ideal.ofBits .f32 0x3F800000#32)
      (show EReal from m ((c : Thread QuantIdeal.nD QuantIdeal.τ).loc QuantIdeal.main_arg1) (ValueIdx.ix1 0)) := by
  unfold QuantIdeal.Hand.I
  entry_read
  rfl

/-- The reference's scale. -/
theorem scale_eq (c : Dev QuantRefIdeal.nD) :
    QuantRefIdeal.Hand.S m' c (ValueIdx.ix2 0 0)
      = (show EReal from m' ((c : Thread QuantRefIdeal.nD QuantRefIdeal.τ).loc QuantRefIdeal.main_arg1) (ValueIdx.ix1 0)) := by
  unfold QuantRefIdeal.Hand.S
  entry_read
  exact shapeCast_apply _ _ (ValueIdx.ix2 (0 : Fin 1) (0 : Fin 1)) (ValueIdx.ix1 (0 : Fin 1)) rfl

/-- From equal arguments the two result arrays are equal. -/
theorem result_eq (c : Dev QuantIdeal.nD)
    (h0 : m' ((c : Thread QuantRefIdeal.nD QuantRefIdeal.τ).loc QuantRefIdeal.main_arg0) = m ((c : Thread QuantIdeal.nD QuantIdeal.τ).loc QuantIdeal.main_arg0))
    (h1 : m' ((c : Thread QuantRefIdeal.nD QuantRefIdeal.τ).loc QuantRefIdeal.main_arg1) = m ((c : Thread QuantIdeal.nD QuantIdeal.τ).loc QuantIdeal.main_arg1)) :
    (QuantIdeal.Hand.G m c : S16384x3072.Idx → EReal) = QuantRefIdeal.Hand.G m' c := by
  have hx : (QuantIdeal.Hand.X m c : S16384x3072.Idx → EReal) = QuantRefIdeal.Hand.X m' c := by
    unfold QuantIdeal.Hand.X QuantRefIdeal.Hand.X
    entry_read
    exact congrArg (fun x : S2x8192x3072.Idx → EReal => shapeCast S16384x3072 x QuantIdeal.Gen.shapeCasts_S2x8192x3072_S16384x3072) h0.symm
  have hs : QuantIdeal.Hand.I m c (ValueIdx.ix1 0) = Ideal.div (Ideal.ofBits .f32 0x3F800000#32) (QuantRefIdeal.Hand.S m' c (ValueIdx.ix2 0 0)) :=
    (inv_eq m c).trans (congrArg (Ideal.div _) ((scale_eq m' c).trans (congrFun h1 (ValueIdx.ix1 0))).symm)
  funext i
  show QuantIdeal.Hand.clip (QuantIdeal.Hand.X m c i * QuantIdeal.Hand.I m c (ValueIdx.ix1 0)) = _
  rw [hx, hs]

/-- The claim. -/
theorem algebraic : Cert.algebraic_QuantIdeal_QuantRefIdeal := by
  intro m ρ m' ρ' _ hagree
  refine ⟨fun c => QuantIdeal.Hand.G m c, ?_, ?_⟩
  · exact (θ_run _ _ _).mono (fun _ h c => ⟨(h c).1.trans (QuantIdeal.Hand.final m c), (h c).2⟩) (QuantIdeal.Value.run_blocks m ρ)
  · refine (θ_run _ _ _).mono (fun _ h c => ⟨((h c).1.trans (QuantRefIdeal.Hand.final m' c)).trans ?_, (h c).2⟩) (QuantRefIdeal.Value.run_blocks m' ρ')
    exact (result_eq m m' c (hagree c).1 (hagree c).2).symm

end Cert.QuantHand

end
-- ==== Proof.DownKernel.lean ====
/-
  What the down projection's kernel leaves in its result array, over the extended reals: every element is the
  residual plus the product of the codes' row with the weights' column, times the column's scale.
-/
module

public import proofs.«01_k».proof.Proof.Gen.DownIdeal.Value
public import Idealize.ShloMosaic.Lib.MatmulPlain
public import Idealize.ShloMosaic.Lib.ValueIdx
public import Idealize.ShloMosaic.Lib.Claim

@[expose] public section

noncomputable section

namespace Cert.DownIdeal.Hand

open Cert.DownIdeal Cert.DownIdeal.Gen Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg)

/-- The residual as the region finds it. -/
abbrev X (c : Dev nD) : S16384x3072.Idx → EReal := V m c main_v0
/-- The codes. -/
abbrev A (c : Dev nD) : S16384x7680.Idx → EReal := V m c main_v1
/-- The weights' codes. -/
abbrev B (c : Dev nD) : S7680x3072.Idx → EReal := V m c main_arg2
/-- One scale for each column. -/
abbrev S (c : Dev nD) : S1x3072.Idx → EReal := V m c main_v5

/-- The result array, element by element. -/
abbrev G (c : Dev nD) : S16384x3072.Idx → EReal := fun i =>
  X m c i + (∑ k : Fin 7680, A m c (ix2 (i 0) k) * B m c (ix2 k (i 1))) * S m c (ix2 0 (i 1))

theorem ofBits_zero : Ideal.ofBits .f32 0x00000000#32 = 0 := by simp [Ideal.ofBits, Ideal.ieee]

/-- One block's payload at an index. -/
theorem pay_apply (v0 : Vec Ideal S512x7680 .fp8e4m3) (v2 : Vec Ideal S7680x1024 .fp8e4m3) (v4 : Vec Ideal S512x1024 .bf16)
    (v7 : Vec Ideal S1x1024 .f32) (r : Fin 512) (j : Fin 1024) :
    k0_pay1 (F := Ideal) v0 v2 v4 v7 (ix2 r j)
      = v4 (ix2 r j) + (∑ k : Fin 7680, v0 (ix2 r k) * v2 (ix2 k j)) * v7 (ix2 0 j) := by
  unfold k0_pay1
  simp only [shapeCast_self]
  rw [truncf_apply, addf_apply, extf_apply, mulf_apply]
  refine congrArg₂ (fun a b : EReal => a + b) rfl (congrArg₂ (fun a b : EReal => a * b) ?_ ?_)
  · refine (Ideal.matmul_plain_apply none v0 v2 _ r j).trans ?_
    rw [constant_apply, ofBits_zero, zero_add]
  · exact broadcastTo_apply _ _ _ _ (fun a => by match a with | ⟨0, _⟩ => rfl | ⟨1, _⟩ => rfl)

theorem hz : (![0, 0] : Fin 2 → Nat) = fun _ => 0 := funext fun a => by fin_cases a <;> rfl

theorem index4 (t : Fin cfg0.N) : win0_4.index t 0 = t.val % 32 ∧ win0_4.index t 1 = t.val / 32 :=
  (by decide +kernel : ∀ t : Fin grid0.N, win0_4.index t 0 = t.val % 32 ∧ win0_4.index t 1 = t.val / 32) t
theorem index0 (t : Fin cfg0.N) : win0_0.index t 0 = t.val % 32 ∧ win0_0.index t 1 = 0 :=
  (by decide +kernel : ∀ t : Fin grid0.N, win0_0.index t 0 = t.val % 32 ∧ win0_0.index t 1 = 0) t
theorem index1 (t : Fin cfg0.N) : win0_1.index t 0 = 0 ∧ win0_1.index t 1 = t.val / 32 :=
  (by decide +kernel : ∀ t : Fin grid0.N, win0_1.index t 0 = 0 ∧ win0_1.index t 1 = t.val / 32) t
theorem index2 (t : Fin cfg0.N) : win0_2.index t 0 = 0 ∧ win0_2.index t 1 = t.val / 32 :=
  (by decide +kernel : ∀ t : Fin grid0.N, win0_2.index t 0 = 0 ∧ win0_2.index t 1 = t.val / 32) t
theorem index3 (t : Fin cfg0.N) : win0_3.index t 0 = t.val % 32 ∧ win0_3.index t 1 = t.val / 32 :=
  (by decide +kernel : ∀ t : Fin grid0.N, win0_3.index t 0 = t.val % 32 ∧ win0_3.index t 1 = t.val / 32) t

/-- What point `t` writes back is its block of `G`. -/
theorem flushed_eq (c : Dev nD) (t : Fin cfg0.N) :
    (dats m 0 c).flushed 4 t = ((cfg0.win 4).blk t).view.read (Elt Ideal) (G m c) := by
  rw [Value.flushed4]
  unfold out0_4
  rw [View.canon_unit_zero hz, View.ld_unit_zero hz, View.ld_unit_zero hz, View.ld_unit_zero hz, View.ld_unit_zero hz]
  funext y
  show k0_pay1 (F := Ideal) (iblk m c 0 t) (iblk m c 1 t) (iblk m c 3 t) (iblk m c 2 t) y = G m c ((win0_4.rect t).emb y)
  obtain ⟨h4a, h4b⟩ := index4 t
  obtain ⟨h0a, h0b⟩ := index0 t
  obtain ⟨h1a, h1b⟩ := index1 t
  obtain ⟨h2a, h2b⟩ := index2 t
  obtain ⟨h3a, h3b⟩ := index3 t
  have e4a := win0_4.rect_emb_val t y 0
  have e4b := win0_4.rect_emb_val t y 1
  rw [h4a] at e4a; rw [h4b] at e4b
  refine (congrArg _ (eq_ix2 (n0 := 512) (n1 := 1024) y)).trans ?_
  have hx : iblk m c 3 t (ix2 (n0 := 512) (n1 := 1024) (y 0) (y 1)) = X m c ((win0_4.rect t).emb y) := by
    show X m c ((win0_3.rect t).emb _) = _
    refine congrArg (X m c) (Shape.idx_ext₂ ?_ ?_)
    · rw [e4a]; exact (win0_3.rect_emb_val t _ 0).trans (by rw [h3a]; rfl)
    · rw [e4b]; exact (win0_3.rect_emb_val t _ 1).trans (by rw [h3b]; rfl)
  have ha : ∀ k : Fin 7680, iblk m c 0 t (ix2 (n0 := 512) (n1 := 7680) (y 0) k) = A m c (ix2 ((win0_4.rect t).emb y 0) k) := fun k => by
    show A m c ((win0_0.rect t).emb _) = _
    refine congrArg (A m c) (Shape.idx_ext₂ ?_ ?_)
    · exact (win0_0.rect_emb_val t _ 0).trans (by rw [h0a]; exact e4a.symm)
    · exact win0_0.rect_emb_val_of_index_zero t 1 h0b _
  have hb : ∀ k : Fin 7680, iblk m c 1 t (ix2 (n0 := 7680) (n1 := 1024) k (y 1)) = B m c (ix2 k ((win0_4.rect t).emb y 1)) := fun k => by
    show B m c ((win0_1.rect t).emb _) = _
    refine congrArg (B m c) (Shape.idx_ext₂ ?_ ?_)
    · exact win0_1.rect_emb_val_of_index_zero t 0 h1a _
    · exact (win0_1.rect_emb_val t _ 1).trans (by rw [h1b]; exact e4b.symm)
  have hs : iblk m c 2 t (ix2 (n0 := 1) (n1 := 1024) 0 (y 1)) = S m c (ix2 0 ((win0_4.rect t).emb y 1)) := by
    show S m c ((win0_2.rect t).emb _) = _
    refine congrArg (S m c) (Shape.idx_ext₂ ?_ ?_)
    · exact win0_2.rect_emb_val_of_index_zero t 0 h2a _
    · exact (win0_2.rect_emb_val t _ 1).trans (by rw [h2b]; exact e4b.symm)
  exact (pay_apply _ _ _ _ (y 0) (y 1)).trans (congrArg₂ (fun a b : EReal => a + b) hx (congrArg₂ (fun a b : EReal => a * b)
    (Finset.sum_congr rfl fun k _ => congrArg₂ (fun a b : EReal => a * b) (ha k) (hb k)) hs))

/-- Being in a point's block, coordinate by coordinate. -/
theorem mem_blk (t : Fin cfg0.N) (i : S16384x3072.Idx) :
    i ∈ ((cfg0.win 4).blk t).view.set ↔ ∀ a, win0_4.index t a * win0_4.size a ≤ (i a : Nat)
      ∧ (i a : Nat) < win0_4.index t a * win0_4.size a + win0_4.xsize (grid0.coords t) a := by
  show i ∈ ((View.whole main_v6).slice (win0_4.rect t)).set ↔ _
  rw [View.set_slice_whole, Rect.mem_set_unit]

/-- The blocks tile the result array. -/
theorem cover (i : S16384x3072.Idx) : ∃ t : Fin cfg0.N, (cfg0.win 4).flush t = true ∧ i ∈ ((cfg0.win 4).blk t).view.set := by
  have h0 : (i 0 : Nat) < 16384 := (i 0).isLt
  have h1 : (i 1 : Nat) < 3072 := (i 1).isLt
  have hN : cfg0.N = 96 := N_0
  refine ⟨⟨(i 1 : Nat) / 1024 * 32 + (i 0 : Nat) / 512, by omega⟩, flush0_4 _, ?_⟩
  rw [mem_blk]
  intro a
  match a with
  | ⟨0, _⟩ =>
    show win0_4.index _ 0 * 512 ≤ (i 0 : Nat) ∧ (i 0 : Nat) < win0_4.index _ 0 * 512 + 512
    rw [(index4 _).1]; dsimp only; omega
  | ⟨1, _⟩ =>
    show win0_4.index _ 1 * 1024 ≤ (i 1 : Nat) ∧ (i 1 : Nat) < win0_4.index _ 1 * 1024 + 1024
    rw [(index4 _).2]; dsimp only; omega

/-- So the result array ends at `G`. -/
theorem final (c : Dev nD) : (dats m 0 c).arrAt 4 cfg0.N = G m c :=
  (dats m 0 c).arrAt_eq_of_cover 4 (G m c) (fun t _ => flushed_eq m c t) cover

end Cert.DownIdeal.Hand

end
-- ==== Proof.DownReference.lean ====
/-
  What the reference's down projection computes, over the extended reals: every element is the residual plus the
  product of the codes' row with the weights' column, times the two scales.
-/
module

public import proofs.«01_k».proof.Proof.Gen.DownRefIdeal.Value
public import Idealize.ShloMosaic.Lib.MatmulPlain
public import Idealize.ShloMosaic.Lib.ValueIdx
public import Idealize.ShloMosaic.Lib.Claim

@[expose] public section

noncomputable section

namespace Cert.DownRefIdeal.Hand

open Cert.DownRefIdeal Cert.DownRefIdeal.Gen Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg)

/-- The residual as the region finds it. -/
abbrev X (c : Dev nD) : S16384x3072.Idx → EReal := V m c main_v0
/-- The codes. -/
abbrev A (c : Dev nD) : S16384x7680.Idx → EReal := V m c main_v1
/-- The weights' codes. -/
abbrev B (c : Dev nD) : S7680x3072.Idx → EReal := V m c main_arg2
/-- One scale for each column of the weights. -/
abbrev SW (c : Dev nD) : S1x3072.Idx → EReal := V m c main_v2
/-- The codes' scale. -/
abbrev SG (c : Dev nD) : S1x1.Idx → EReal := V m c main_v3

/-- The result array, element by element. -/
abbrev G (c : Dev nD) : S16384x3072.Idx → EReal := fun i =>
  X m c i + (∑ k : Fin 7680, A m c (ix2 (i 0) k) * B m c (ix2 k (i 1))) * SG m c (ix2 0 0) * SW m c (ix2 0 (i 1))

theorem ofBits_zero : Ideal.ofBits .f32 0x00000000#32 = 0 := by simp [Ideal.ofBits, Ideal.ieee]

/-- The payload at an index. -/
theorem pay_apply (v0 : Vec Ideal S16384x7680 .fp8e4m3) (v2 : Vec Ideal S7680x3072 .fp8e4m3) (v4 : Vec Ideal S1x1 .f32)
    (v8 : Vec Ideal S1x3072 .f32) (v12 : Vec Ideal S16384x3072 .bf16) (r : Fin 16384) (j : Fin 3072) :
    k0_pay1 (F := Ideal) v0 v2 v4 v8 v12 (ix2 r j)
      = v12 (ix2 r j) + (∑ k : Fin 7680, v0 (ix2 r k) * v2 (ix2 k j)) * v4 (ix2 0 0) * v8 (ix2 0 j) := by
  unfold k0_pay1
  simp only [shapeCast_self]
  rw [truncf_apply, addf_apply, extf_apply, mulf_apply, mulf_apply]
  refine congrArg₂ (fun a b : EReal => a + b) rfl
    (congrArg₂ (fun a b : EReal => a * b) (congrArg₂ (fun a b : EReal => a * b) ?_ ?_) ?_)
  · refine (Ideal.matmul_plain_apply none v0 v2 _ r j).trans ?_
    rw [constant_apply, ofBits_zero, zero_add]
  · exact broadcastTo_apply _ _ _ _ (fun a => by match a with | ⟨0, _⟩ => rfl | ⟨1, _⟩ => rfl)
  · exact broadcastTo_apply _ _ _ _ (fun a => by match a with | ⟨0, _⟩ => rfl | ⟨1, _⟩ => rfl)

theorem hz : (![0, 0] : Fin 2 → Nat) = fun _ => 0 := funext fun a => by fin_cases a <;> rfl

theorem index (t : Fin cfg0.N) : (∀ a, win0_0.index t a = 0) ∧ (∀ a, win0_1.index t a = 0) ∧ (∀ a, win0_2.index t a = 0)
    ∧ (∀ a, win0_3.index t a = 0) ∧ (∀ a, win0_4.index t a = 0) ∧ ∀ a, win0_5.index t a = 0 :=
  (by decide +kernel : ∀ t : Fin grid0.N, (∀ a, win0_0.index t a = 0) ∧ (∀ a, win0_1.index t a = 0) ∧ (∀ a, win0_2.index t a = 0)
    ∧ (∀ a, win0_3.index t a = 0) ∧ (∀ a, win0_4.index t a = 0) ∧ ∀ a, win0_5.index t a = 0) t

/-- The one point writes back the whole of `G`. -/
theorem flushed_eq (c : Dev nD) (t : Fin cfg0.N) :
    (dats m 0 c).flushed 5 t = ((cfg0.win 5).blk t).view.read (Elt Ideal) (G m c) := by
  rw [Value.flushed5]
  unfold out0_5
  rw [View.canon_unit_zero hz, View.ld_unit_zero hz, View.ld_unit_zero hz, View.ld_unit_zero hz, View.ld_unit_zero hz, View.ld_unit_zero hz]
  obtain ⟨h0, h1, h2, h3, h4, h5⟩ := index t
  have b0 : (iblk m c 0 t : S16384x3072.Idx → EReal) = X m c := funext fun y => congrArg (X m c)
    (funext fun a => Fin.ext (win0_0.rect_emb_val_of_index_zero t a (h0 a) y))
  have b1 : (iblk m c 1 t : S16384x7680.Idx → EReal) = A m c := funext fun y => congrArg (A m c)
    (funext fun a => Fin.ext (win0_1.rect_emb_val_of_index_zero t a (h1 a) y))
  have b2 : (iblk m c 2 t : S7680x3072.Idx → EReal) = B m c := funext fun y => congrArg (B m c)
    (funext fun a => Fin.ext (win0_2.rect_emb_val_of_index_zero t a (h2 a) y))
  have b3 : (iblk m c 3 t : S1x3072.Idx → EReal) = SW m c := funext fun y => congrArg (SW m c)
    (funext fun a => Fin.ext (win0_3.rect_emb_val_of_index_zero t a (h3 a) y))
  have b4 : (iblk m c 4 t : S1x1.Idx → EReal) = SG m c := funext fun y => congrArg (SG m c)
    (funext fun a => Fin.ext (win0_4.rect_emb_val_of_index_zero t a (h4 a) y))
  funext y
  show k0_pay1 (F := Ideal) (iblk m c 1 t) (iblk m c 2 t) (iblk m c 4 t) (iblk m c 3 t) (iblk m c 0 t) y = G m c ((win0_5.rect t).emb y)
  have e5 : (win0_5.rect t).emb y = y := funext fun a => Fin.ext (win0_5.rect_emb_val_of_index_zero t a (h5 a) y)
  rw [e5]
  refine (congrArg _ (eq_ix2 (n0 := 16384) (n1 := 3072) y)).trans ?_
  refine (pay_apply _ _ _ _ _ (y 0) (y 1)).trans ?_
  rw [b0, b1, b2, b3, b4]
  exact congrArg₂ (fun a b : EReal => a + b) (congrArg (X m c) (eq_ix2 (n0 := 16384) (n1 := 3072) y).symm) rfl

/-- Being in a point's block, coordinate by coordinate. -/
theorem mem_blk (t : Fin cfg0.N) (i : S16384x3072.Idx) :
    i ∈ ((cfg0.win 5).blk t).view.set ↔ ∀ a, win0_5.index t a * win0_5.size a ≤ (i a : Nat)
      ∧ (i a : Nat) < win0_5.index t a * win0_5.size a + win0_5.xsize (grid0.coords t) a := by
  show i ∈ ((View.whole main_v4).slice (win0_5.rect t)).set ↔ _
  rw [View.set_slice_whole, Rect.mem_set_unit]

/-- The one block is the whole array. -/
theorem cover (i : S16384x3072.Idx) : ∃ t : Fin cfg0.N, (cfg0.win 5).flush t = true ∧ i ∈ ((cfg0.win 5).blk t).view.set := by
  have h0 : (i 0 : Nat) < 16384 := (i 0).isLt
  have h1 : (i 1 : Nat) < 3072 := (i 1).isLt
  have hN : cfg0.N = 1 := N_0
  refine ⟨⟨0, by omega⟩, flush0_5 _, ?_⟩
  rw [mem_blk]
  have h := (index ⟨0, by omega⟩).2.2.2.2.2
  intro a
  match a with
  | ⟨0, _⟩ =>
    show win0_5.index _ 0 * 16384 ≤ (i 0 : Nat) ∧ (i 0 : Nat) < win0_5.index _ 0 * 16384 + 16384
    rw [h 0]; omega
  | ⟨1, _⟩ =>
    show win0_5.index _ 1 * 3072 ≤ (i 1 : Nat) ∧ (i 1 : Nat) < win0_5.index _ 1 * 3072 + 3072
    rw [h 1]; omega

/-- So the result array ends at `G`. -/
theorem final (c : Dev nD) : (dats m 0 c).arrAt 5 cfg0.N = G m c :=
  (dats m 0 c).arrAt_eq_of_cover 5 (G m c) (fun t _ => flushed_eq m c t) cover

end Cert.DownRefIdeal.Hand

end
-- ==== Proof.DownValue.lean ====
/-
  The down projection's kernel and reference compute one function over the extended reals.  The only difference is
  where the codes' scale enters: the kernel multiplies it into the weights' scales first, the reference multiplies
  the sum by it; multiplication is associative.
-/
module

public import proofs.«01_k».proof.Defs
public import proofs.«01_k».proof.Proof.DownKernel
public import proofs.«01_k».proof.Proof.DownReference

@[expose] public section

noncomputable section

namespace Cert.DownHand

open Cert.DownIdeal (S16384x3072 S16384x7680 S7680x3072 S2x8192x3072 S2x8192x7680)
open scoped BigOperators
open Idealize.ShloMosaic Idealize.ShloMosaic.TcCoe Idealize.SL.Sem Idealize.ShloMosaic.ValueIdx

variable (m : (ℓ : Loc DownIdeal.nD DownIdeal.τ DownIdeal.sig) → Buf (Elt Ideal) ℓ)
variable (m' : (ℓ : Loc DownRefIdeal.nD DownRefIdeal.τ DownRefIdeal.sig) → Buf (Elt Ideal) ℓ)

/-- The kernel's column scale: the codes' scale times the weights' scale. -/
theorem scale_eq (c : Dev DownIdeal.nD) (j : Fin 3072) :
    DownIdeal.Hand.S m c (ix2 0 j)
      = (show EReal from m ((c : Thread DownIdeal.nD DownIdeal.τ).loc DownIdeal.main_arg4) (ix1 0))
        * (show EReal from m ((c : Thread DownIdeal.nD DownIdeal.τ).loc DownIdeal.main_arg3) (ix1 j)) := by
  unfold DownIdeal.Hand.S
  entry_read
  refine (shapeCast_apply _ _ (ix2 (0 : Fin 1) j) (ix1 j) ?_).trans ?_
  · rw [Shape.rowMajor_val_one, Shape.rowMajor_val_two]; simp [ix2, ix1]
  · rw [mulf_apply]
    refine congrArg₂ (fun a b : EReal => a * b) ?_ rfl
    refine (broadcastInDim_apply _ _ _ _ ix0 (fun a => a.elim0)).trans ?_
    exact shapeCast_apply _ _ ix0 (ix1 (0 : Fin 1)) rfl

/-- The reference's two scales. -/
theorem sw_eq (c : Dev DownRefIdeal.nD) (j : Fin 3072) :
    DownRefIdeal.Hand.SW m' c (ix2 0 j)
      = (show EReal from m' ((c : Thread DownRefIdeal.nD DownRefIdeal.τ).loc DownRefIdeal.main_arg3) (ix1 j)) := by
  unfold DownRefIdeal.Hand.SW
  entry_read
  refine (shapeCast_apply _ _ (ix2 (0 : Fin 1) j) (ix1 j) ?_)
  rw [Shape.rowMajor_val_one, Shape.rowMajor_val_two]; simp [ix2, ix1]

theorem sg_eq (c : Dev DownRefIdeal.nD) :
    DownRefIdeal.Hand.SG m' c (ix2 0 0)
      = (show EReal from m' ((c : Thread DownRefIdeal.nD DownRefIdeal.τ).loc DownRefIdeal.main_arg4) (ix1 0)) := by
  unfold DownRefIdeal.Hand.SG
  entry_read
  exact shapeCast_apply _ _ (ix2 (0 : Fin 1) (0 : Fin 1)) (ix1 (0 : Fin 1)) rfl

/-- From equal arguments the two result arrays are equal. -/
theorem result_eq (c : Dev DownIdeal.nD)
    (h0 : m' ((c : Thread DownRefIdeal.nD DownRefIdeal.τ).loc DownRefIdeal.main_arg0) = m ((c : Thread DownIdeal.nD DownIdeal.τ).loc DownIdeal.main_arg0))
    (h1 : m' ((c : Thread DownRefIdeal.nD DownRefIdeal.τ).loc DownRefIdeal.main_arg1) = m ((c : Thread DownIdeal.nD DownIdeal.τ).loc DownIdeal.main_arg1))
    (h2 : m' ((c : Thread DownRefIdeal.nD DownRefIdeal.τ).loc DownRefIdeal.main_arg2) = m ((c : Thread DownIdeal.nD DownIdeal.τ).loc DownIdeal.main_arg2))
    (h3 : m' ((c : Thread DownRefIdeal.nD DownRefIdeal.τ).loc DownRefIdeal.main_arg3) = m ((c : Thread DownIdeal.nD DownIdeal.τ).loc DownIdeal.main_arg3))
    (h4 : m' ((c : Thread DownRefIdeal.nD DownRefIdeal.τ).loc DownRefIdeal.main_arg4) = m ((c : Thread DownIdeal.nD DownIdeal.τ).loc DownIdeal.main_arg4)) :
    (DownIdeal.Hand.G m c : S16384x3072.Idx → EReal) = DownRefIdeal.Hand.G m' c := by
  have hx : (DownIdeal.Hand.X m c : S16384x3072.Idx → EReal) = DownRefIdeal.Hand.X m' c := by
    unfold DownIdeal.Hand.X DownRefIdeal.Hand.X
    entry_read
    exact congrArg (fun x : S2x8192x3072.Idx → EReal => shapeCast S16384x3072 x DownIdeal.Gen.shapeCasts_S2x8192x3072_S16384x3072) h0.symm
  have ha : (DownIdeal.Hand.A m c : S16384x7680.Idx → EReal) = DownRefIdeal.Hand.A m' c := by
    unfold DownIdeal.Hand.A DownRefIdeal.Hand.A
    entry_read
    exact congrArg (fun x : S2x8192x7680.Idx → EReal => shapeCast S16384x7680 x DownIdeal.Gen.shapeCasts_S2x8192x7680_S16384x7680) h1.symm
  have hb : (DownIdeal.Hand.B m c : S7680x3072.Idx → EReal) = DownRefIdeal.Hand.B m' c := by
    unfold DownIdeal.Hand.B DownRefIdeal.Hand.B
    entry_read
    exact h2.symm
  funext i
  have hs : (DownIdeal.Hand.S m c (ix2 0 (i 1)) : EReal) = DownRefIdeal.Hand.SG m' c (ix2 0 0) * DownRefIdeal.Hand.SW m' c (ix2 0 (i 1)) :=
    (scale_eq m c (i 1)).trans (((congrArg₂ (fun a b : EReal => a * b) (sg_eq m' c) (sw_eq m' c (i 1))).trans
      (congrArg₂ (fun a b : EReal => a * b) (congrFun h4 (ix1 0)) (congrFun h3 (ix1 (i 1))))).symm)
  show (DownIdeal.Hand.X m c i : EReal) + (∑ k : Fin 7680, DownIdeal.Hand.A m c (ix2 (i 0) k) * DownIdeal.Hand.B m c (ix2 k (i 1)))
      * DownIdeal.Hand.S m c (ix2 0 (i 1)) = _
  rw [hx, ha, hb, hs, ← mul_assoc]

/-- The claim. -/
theorem algebraic : Cert.algebraic_DownIdeal_DownRefIdeal := by
  intro m ρ m' ρ' _ hagree
  refine ⟨fun c => DownIdeal.Hand.G m c, ?_, ?_⟩
  · exact (θ_run _ _ _).mono (fun _ h c => ⟨(h c).1.trans (DownIdeal.Hand.final m c), (h c).2⟩) (DownIdeal.Value.run_blocks m ρ)
  · refine (θ_run _ _ _).mono (fun _ h c => ⟨((h c).1.trans (DownRefIdeal.Hand.final m' c)).trans ?_, (h c).2⟩) (DownRefIdeal.Value.run_blocks m' ρ')
    exact (result_eq m m' c (hagree c).1 (hagree c).2.1 (hagree c).2.2.1 (hagree c).2.2.2.1 (hagree c).2.2.2.2).symm

end Cert.DownHand

end
-- ==== Proof.UpArrays.lean ====
/-
  Arrays of extended reals read at natural-number coordinates, and what loads, casts, slices and the activation of the gated unit's
  kernel leave at one place.
-/
module

public import proofs.«01_k».proof.Proof.Gen.UpIdeal.Skeleton
public import Idealize.ShloMosaic.Lib.MatmulPlain
public import Idealize.ShloMosaic.Lib.Pipeline.Value
public import Idealize.ShloMosaic.Lib.Writes
public import Idealize.ShloMosaic.Lib.ValueIdx
public import Idealize.ShloMosaic.Lib.ValueIdxRank6
public import Idealize.ShloMosaic.Lib.Claim

@[expose] public section

noncomputable section

namespace Cert.UpIdeal.Hand

open Cert.UpIdeal Cert.UpIdeal.Gen Idealize.ShloMosaic Idealize.ShloMosaic.TcCoe Idealize.SL.Sem
open Idealize.ShloMosaic.ValueIdx
open scoped BigOperators

/-- An array read at natural-number coordinates, a given value outside it. -/
def rdD {s : Shape} {α : Type} (d : α) (x : s.Idx → α) (i : Fin s.rank → ℕ) : α :=
  if h : ∀ a, i a < s.size a then x (fun a => ⟨i a, h a⟩) else d

/-- An array of extended reals read at natural-number coordinates, zero outside it. -/
abbrev rd {s : Shape} (x : s.Idx → EReal) (i : Fin s.rank → ℕ) : EReal := rdD (0 : EReal) x i

theorem rd_of {s : Shape} {α : Type} (d : α) (x : s.Idx → α) (y : s.Idx) (i : Fin s.rank → ℕ) (h : ∀ a, (y a).val = i a) :
    x y = rdD d x i := by
  unfold rdD
  rw [dif_pos (fun a => h a ▸ (y a).isLt)]
  exact congrArg x (funext fun a => Fin.ext (h a))

/-- A load at a unit-stride rectangle, at one place. -/
theorem readAt_rd {κ : Kind} {sp : Space} {s : Shape} {e : EltTy} (d : Elt Ideal e)
    (v : View sig κ sp s e) (f : v.ty.Contents (Elt Ideal)) (off size : Fin s.rank → ℕ) (inb : ∀ a, off a + size a ≤ s.size a)
    (y : (Rect.unit off size inb).shape.Idx) (i : Fin s.rank → ℕ) (h : ∀ a, off a + (y a).val = i a) :
    v.readAt (Elt Ideal) (Rect.unit off size inb).toLoadRect f y = rdD d (v.read (Elt Ideal) f) i :=
  rd_of d (v.read (Elt Ideal) f) ((Rect.unit off size inb).emb y) i (fun a => by
    rw [← h a]; show off a + 1 * (y a).val = _; rw [Nat.one_mul])

/-- The activation, written with the hyperbolic tangent. -/
def act (t : EReal) : EReal := t * Ideal.tanh t + t

/-- One element of the activated up-projection, from a tile of codes, a panel of codes, its scales and its bias. -/
def cell (x : S1024x3072.Idx → EReal) (W : S3072x512.Idx → EReal) (S B : S1x512.Idx → EReal) (r j : ℕ) : EReal :=
  act ((∑ k : Fin 3072, rd x ![r, k.val] * rd W ![k.val, j]) * rd S ![0, j] + rd B ![0, j])

theorem ofBits_zero : Ideal.ofBits .f32 0x00000000#32 = 0 := by simp [Ideal.ofBits, Ideal.ieee]

/-- The product of 256 rows with 256 columns, 128 of the columns scaled and shifted. -/
def lin (a : FVec Ideal S256x3072 .fp8e4m3) (w : FVec Ideal S3072x256 .fp8e4m3) (s b : FVec Ideal S1x128 .f32) (o : ℕ)
    (hs : S256x256.Slices ![0, o] S256x128) : FVec Ideal S256x128 .f32 :=
  addf (mulf (extractStridedSlice S256x128 ![0, o]
      (matmul dot_S256x3072_S3072x256_S256x256_1_0_0_1_n_n none
        (shapeCast S256x3072 a shapeCasts_S256x3072_S256x3072) (shapeCast S3072x256 w shapeCasts_S3072x256_S3072x256)
        (constant S256x256 .f32 0x00000000#32)) hs)
      (broadcastTo S256x128 (shapeCast S1x128 s shapeCasts_S1x128_S1x128) broadcasts_S1x128_S256x128))
    (broadcastTo S256x128 (shapeCast S1x128 b shapeCasts_S1x128_S1x128) broadcasts_S1x128_S256x128)

/-- The activation of a whole vector. -/
def actV (T : FVec Ideal S256x128 .f32) : FVec Ideal S256x128 .f32 := addf (mulf T (tanh T)) T

theorem lin_apply (a : FVec Ideal S256x3072 .fp8e4m3) (w : FVec Ideal S3072x256 .fp8e4m3) (s b : FVec Ideal S1x128 .f32) (o : ℕ) (hs)
    (ho : o + 128 ≤ 256) (r : Fin 256) (l : Fin 128) :
    lin a w s b o hs (ix2 r l) = (∑ k : Fin 3072, a (ix2 r k) * w (ix2 k ⟨o + l.val, by omega⟩)) * s (ix2 0 l) + b (ix2 0 l) := by
  unfold lin
  rw [addf_apply, mulf_apply, shapeCast_self, shapeCast_self, shapeCast_self, shapeCast_self]
  refine congrArg₂ (fun a b : EReal => a + b) (congrArg₂ (fun a b : EReal => a * b) ?_ ?_) ?_
  · refine (extractStridedSlice_apply _ _ _ _ (ix2 (n0 := 256) (n1 := 256) r ⟨o + l.val, by omega⟩)
      (fun a => by match a with | ⟨0, _⟩ => exact (Nat.zero_add _).symm | ⟨1, _⟩ => rfl)).trans ?_
    refine (Ideal.matmul_plain_apply none _ _ _ _ _).trans ?_
    rw [constant_apply, ofBits_zero, zero_add]
  · exact broadcastTo_apply _ _ _ _ (fun a => by match a with | ⟨0, _⟩ => rfl | ⟨1, _⟩ => rfl)
  · exact broadcastTo_apply _ _ _ _ (fun a => by match a with | ⟨0, _⟩ => rfl | ⟨1, _⟩ => rfl)

/-- 128 of the activated rows, at one place. -/
theorem half_apply (x : S1024x3072.Idx → EReal) (W : S3072x512.Idx → EReal) (S B : S1x512.Idx → EReal) (rx cw cs o d : ℕ)
    (a : FVec Ideal S256x3072 .fp8e4m3) (w : FVec Ideal S3072x256 .fp8e4m3) (s b : FVec Ideal S1x128 .f32) (hs hd)
    (ho : o + 128 ≤ 256) (hd' : d + 128 ≤ 256) (hc : cs = cw + o)
    (ha : ∀ r k, a (ix2 r k) = rd x ![rx + r.val, k.val]) (hw : ∀ k j, w (ix2 k j) = rd W ![k.val, cw + j.val])
    (hsc : ∀ j, s (ix2 0 j) = rd S ![0, cs + j.val]) (hb : ∀ j, b (ix2 0 j) = rd B ![0, cs + j.val])
    (y l : Fin 128) :
    extractStridedSlice S128x128 ![d, 0] (actV (lin a w s b o hs)) hd (ix2 y l) = cell x W S B (rx + d + y.val) (cs + l.val) := by
  refine (extractStridedSlice_apply _ _ _ _ (ix2 (n0 := 256) (n1 := 128) ⟨d + y.val, by omega⟩ l)
      (fun a => by match a with | ⟨0, _⟩ => rfl | ⟨1, _⟩ => exact (Nat.zero_add _).symm)).trans ?_
  unfold actV
  have ht : ∀ (T : FVec Ideal S256x128 .f32) j, tanh T j = Ideal.tanh (T j) := fun _ _ => rfl
  rw [addf_apply, mulf_apply, ht, lin_apply _ _ _ _ _ _ ho]
  unfold cell
  simp only [ha, hw, hsc, hb, hc, Nat.add_assoc]
  rfl

/-- A `[128, 128]` panel stored as one of the six-axis panels. -/
theorem panel6_apply (v : FVec Ideal S128x128 .f32) {hb h} (y : S1x1x1x1x128x128.Idx) (w l : Fin 128) (hw : (y 4).val = w.val) (hl : (y 5).val = l.val) :
    (shapeCast S1x1x1x1x128x128 (truncf .bf16 v hb : FVec Ideal S128x128 .bf16) h : FVec Ideal S1x1x1x1x128x128 .bf16) y = v (ix2 w l) := by
  refine shapeCast_apply _ _ _ (ix2 (n0 := 128) (n1 := 128) w l) ?_
  rw [Shape.rowMajor_val_two, Shape.rowMajor_val_six]
  have h0 : (y 0).val < 1 := (y 0).isLt
  have h1 : (y 1).val < 1 := (y 1).isLt
  have h2 : (y 2).val < 1 := (y 2).isLt
  have h3 : (y 3).val < 1 := (y 3).isLt
  show w.val * 128 + l.val = (((((y 0).val * 1 + (y 1).val) * 1 + (y 2).val) * 1 + (y 3).val) * 128 + (y 4).val) * 128 + (y 5).val
  omega

/-- A `[128, 128]` panel stored as one of the four-axis panels. -/
theorem panel4_apply (v : FVec Ideal S128x128 .f32) {h} (y : S1x1x128x128.Idx) (w l : Fin 128) (hw : (y 2).val = w.val) (hl : (y 3).val = l.val) :
    (shapeCast S1x1x128x128 v h : FVec Ideal S1x1x128x128 .f32) y = v (ix2 w l) := by
  refine shapeCast_apply _ _ _ (ix2 (n0 := 128) (n1 := 128) w l) ?_
  rw [Shape.rowMajor_val_two, Shape.rowMajor_val_four]
  have h0 : (y 0).val < 1 := (y 0).isLt
  have h1 : (y 1).val < 1 := (y 1).isLt
  show w.val * 128 + l.val = (((y 0).val * 1 + (y 1).val) * 128 + (y 2).val) * 128 + (y 3).val
  omega

/-- A four-axis panel read as a `[128, 128]` one. -/
theorem unpanel4_apply {α : Type} (v : S1x1x128x128.Idx → α) {h} (w l : Fin 128) :
    shapeCast S128x128 v h (ix2 w l) = v (ix4 (n0 := 1) (n1 := 1) (n2 := 128) (n3 := 128) 0 0 w l) := by
  refine shapeCast_apply _ _ _ _ ?_
  rw [Shape.rowMajor_val_two, Shape.rowMajor_val_four]
  show ((0 * 1 + 0) * 128 + w.val) * 128 + l.val = w.val * 128 + l.val
  omega

end Cert.UpIdeal.Hand
-- ==== Proof.UpTile.lean ====
/-
  The up-projection's loop over the tile of codes: what its stores leave in the activated panels and in the three shifted copies of
  them.
-/
module

public import proofs.«01_k».proof.Proof.UpArrays
public import proofs.«01_k».proof.Proof.Gen.UpIdeal.Loops

@[expose] public section

set_option maxRecDepth 8192
set_option maxHeartbeats 400000

noncomputable section

namespace Cert.UpIdeal.Hand

open Cert.UpIdeal Cert.UpIdeal.Gen Idealize.ShloMosaic Idealize.ShloMosaic.TcCoe Idealize.SL.Sem
open Idealize.ShloMosaic.ValueIdx
open scoped BigOperators

/-- The activated panel `p` (the first four of the values, the last four of the gate) of tile row `row`. -/
def hcell (x : S1024x3072.Idx → EReal) (Wv Wg : S3072x512.Idx → EReal) (Sv Sg Bv Bg : S1x512.Idx → EReal) (p row w l : ℕ) : EReal :=
  if p < 4 then cell x Wv Sv Bv (row * 128 + w) (p % 4 * 128 + l) else cell x Wg Sg Bg (row * 128 + w) (p % 4 * 128 + l)

/-- A panel shifted by a column offset, zero outside the row. -/
def pad (H : ℕ → ℕ → ℕ → ℕ → EReal) (dc p row w l : ℕ) : EReal := if 1 ≤ w + dc ∧ w + dc ≤ 128 then H p row (w + dc - 1) l else 0

/-- What trip `k`'s stores leave in the activated panels. -/
def panels (H : ℕ → ℕ → ℕ → ℕ → EReal) (k : ℕ) (y : S8x4x144x128.Idx) : EReal := H (y 0).val (2 * k + (y 1).val % 2) ((y 2).val - 8) (y 3).val

/-- What the stores leave in the shifted panels. -/
def shifted (H : ℕ → ℕ → ℕ → ℕ → EReal) (y : S2x3x8x8x128x128.Idx) : EReal := pad H (y 1).val (y 2).val (y 3).val (y 4).val (y 5).val

/-- A store of trip `k` into the activated panels: inside the rows' 128 columns, and of the right values. -/
def Good (H : ℕ → ℕ → ℕ → ℕ → EReal) (k : ℕ) (q : View.Piece (Elt Ideal) S8x4x144x128 .f32) : Prop :=
  (∀ y ∈ q.1.set, 8 ≤ (y 2).val ∧ (y 2).val < 136) ∧ ∀ x, q.2 x = panels H k (q.1.emb x)

/-- A store into the shifted panels: its place (`d`: the column offset, the panel, the row of the pair) and its values. -/
def Shifts (H : ℕ → ℕ → ℕ → ℕ → EReal) (par k : ℕ) (d : ℕ × ℕ × ℕ) (q : View.Piece (Elt Ideal) S2x3x8x8x128x128 .bf16) : Prop :=
  (∃ inb, q.1 = Rect.unit (s := S2x3x8x8x128x128) ![par, d.1, d.2.1, 2 * k + d.2.2, 0, 0] S1x1x1x1x128x128.size inb) ∧ ∀ x, q.2 x = shifted H (q.1.emb x)

section Lemmas

variable {H : ℕ → ℕ → ℕ → ℕ → EReal} {k par : ℕ}

theorem good_of {off : Fin 4 → ℕ} {inb} {p rr : ℕ} (hoff : off = ![p, (2 * k + rr) % 4, 8, 0]) (hrr : rr < 2)
    (pay : S1x1x128x128.Idx → EReal) (hpay : ∀ (y : S1x1x128x128.Idx), pay y = H p (2 * k + rr) (y 2).val (y 3).val) :
    Good H k (⟨Rect.unit off S1x1x128x128.size inb, pay⟩ : View.Piece (Elt Ideal) S8x4x144x128 .f32) := by
  subst hoff
  constructor
  · intro y hy
    have h := (Rect.mem_set_unit (inb := inb).mp hy) 2
    exact ⟨h.1, h.2⟩
  · intro x
    refine (hpay x).trans ?_
    have h0 : (x 0).val < 1 := (x 0).isLt
    have h1 : (x 1).val < 1 := (x 1).isLt
    show _ = H (p + 1 * (x 0).val) (2 * k + ((2 * k + rr) % 4 + 1 * (x 1).val) % 2) (8 + 1 * (x 2).val - 8) (0 + 1 * (x 3).val)
    congr 1 <;> omega

theorem shifts_of {off : Fin 6 → ℕ} {inb} {dc p rr : ℕ} (hoff : off = ![par, dc, p, 2 * k + rr, 0, 0])
    (pay : S1x1x1x1x128x128.Idx → EReal) (hpay : ∀ (y : S1x1x1x1x128x128.Idx), pay y = pad H dc p (2 * k + rr) (y 4).val (y 5).val) :
    Shifts H par k (dc, p, rr) (⟨Rect.unit off S1x1x1x1x128x128.size inb, pay⟩ : View.Piece (Elt Ideal) S2x3x8x8x128x128 .bf16) := by
  subst hoff
  constructor
  · exact ⟨inb, rfl⟩
  · intro x
    refine (hpay x).trans ?_
    have h1 : (x 1).val < 1 := (x 1).isLt
    have h2 : (x 2).val < 1 := (x 2).isLt
    have h3 : (x 3).val < 1 := (x 3).isLt
    show _ = pad H (dc + 1 * (x 1).val) (p + 1 * (x 2).val) (2 * k + rr + 1 * (x 3).val) (0 + 1 * (x 4).val) (0 + 1 * (x 5).val)
    congr 1 <;> omega

end Lemmas

section Pieces

variable (arg2 : Memref sig .tc .vmem S1024x3072 .fp8e4m3) (argW : Memref sig .tc .vmem S3072x512 .fp8e4m3)
  (argS argB : Memref sig .tc .vmem S1x512 .f32) (arg14 : Memref sig .tc .vmem S8x4x144x128 .f32)
  (X2 : BufTy.Contents (Elt Ideal) arg2.view.ty) (XW : BufTy.Contents (Elt Ideal) argW.view.ty)
  (XS : BufTy.Contents (Elt Ideal) argS.view.ty) (XB : BufTy.Contents (Elt Ideal) argB.view.ty)
  (f14 : BufTy.Contents (Elt Ideal) arg14.view.ty)
  {H : ℕ → ℕ → ℕ → ℕ → EReal} {k par : ℕ}

/-- The values `H` gives to panel `p` are those of the weights, scales and bias at hand. -/
def Reads (H : ℕ → ℕ → ℕ → ℕ → EReal) (p : ℕ) : Prop := ∀ row w l, H p row w l
  = cell (arg2.view.read (Elt Ideal) X2) (argW.view.read (Elt Ideal) XW) (argS.view.read (Elt Ideal) XS) (argB.view.read (Elt Ideal) XB)
      (row * 128 + w) (p % 4 * 128 + l)

/-- The 128 activated rows of one panel, as a vector of the loads. -/
def rows (offx : Fin 2 → ℕ) (p rr : ℕ) (ix : ∀ a, offx a + S256x3072.size a ≤ S1024x3072.size a)
    (iw : ∀ a, (![0, p % 4 / 2 * 256] : Fin 2 → ℕ) a + S3072x256.size a ≤ S3072x512.size a)
    (is : ∀ a, (![0, p % 4 * 128] : Fin 2 → ℕ) a + S1x128.size a ≤ S1x512.size a)
    (hs : S256x256.Slices ![0, p % 2 * 128] S256x128) (hd : S256x128.Slices ![rr * 128, 0] S128x128) : FVec Ideal S128x128 .f32 :=
  extractStridedSlice S128x128 ![rr * 128, 0]
    (actV (lin (View.readAt (Elt Ideal) arg2.view (Rect.unit (s := S1024x3072) offx S256x3072.size ix).toLoadRect X2)
      (View.readAt (Elt Ideal) argW.view (Rect.unit (s := S3072x512) ![0, p % 4 / 2 * 256] S3072x256.size iw).toLoadRect XW)
      (View.readAt (Elt Ideal) argS.view (Rect.unit (s := S1x512) ![0, p % 4 * 128] S1x128.size is).toLoadRect XS)
      (View.readAt (Elt Ideal) argB.view (Rect.unit (s := S1x512) ![0, p % 4 * 128] S1x128.size is).toLoadRect XB)
      (p % 2 * 128) hs)) hd

theorem rows_apply {offx : Fin 2 → ℕ} {p rr : ℕ} {ix iw is hs hd} (hH : Reads arg2 argW argS argB X2 XW XS XB H p) (hx : offx = ![256 * k, 0])
    (hrr : rr < 2) (y l : Fin 128) :
    rows arg2 argW argS argB X2 XW XS XB offx p rr ix iw is hs hd (ix2 y l) = H p (2 * k + rr) y.val l.val := by
  subst hx
  refine (half_apply (arg2.view.read (Elt Ideal) X2) (argW.view.read (Elt Ideal) XW) (argS.view.read (Elt Ideal) XS) (argB.view.read (Elt Ideal) XB)
    (256 * k) (p % 4 / 2 * 256) (p % 4 * 128) (p % 2 * 128) (rr * 128) _ _ _ _ hs hd (by omega) (by omega) (by omega)
    (fun r j => ?_) (fun j r => ?_) (fun j => ?_) (fun j => ?_) y l).trans ?_
  · exact readAt_rd (e := .fp8e4m3) (0 : EReal) arg2.view X2 _ _ _ _ _ (fun a => by match a with | ⟨0, _⟩ => rfl | ⟨1, _⟩ => exact Nat.zero_add _)
  · exact readAt_rd (e := .fp8e4m3) (0 : EReal) argW.view XW _ _ _ _ _ (fun a => by match a with | ⟨0, _⟩ => exact Nat.zero_add _ | ⟨1, _⟩ => rfl)
  · exact readAt_rd (e := .f32) (0 : EReal) argS.view XS _ _ _ _ _ (fun a => by match a with | ⟨0, _⟩ => rfl | ⟨1, _⟩ => rfl)
  · exact readAt_rd (e := .f32) (0 : EReal) argB.view XB _ _ _ _ _ (fun a => by match a with | ⟨0, _⟩ => rfl | ⟨1, _⟩ => rfl)
  · rw [hH]
    congr 1; omega

/-- A store of activated rows. -/
theorem good_rows {off : Fin 4 → ℕ} {inb} {offx : Fin 2 → ℕ} {p rr : ℕ} {ix iw is hs hd hsc} {pay : S1x1x128x128.Idx → EReal}
    (hH : Reads arg2 argW argS argB X2 XW XS XB H p) (hoff : off = ![p, (2 * k + rr) % 4, 8, 0]) (hx : offx = ![256 * k, 0]) (hrr : rr < 2)
    (hpay : pay = shapeCast S1x1x128x128 (rows arg2 argW argS argB X2 XW XS XB offx p rr ix iw is hs hd) hsc) :
    Good H k (⟨Rect.unit off S1x1x128x128.size inb, pay⟩ : View.Piece (Elt Ideal) S8x4x144x128 .f32) :=
  good_of hoff hrr pay (fun y => by
    rw [hpay]
    exact (panel4_apply _ y (y 2) (y 3) rfl rfl).trans (rows_apply arg2 argW argS argB X2 XW XS XB hH hx hrr _ _))

/-- A store of activated rows into the unshifted panels. -/
theorem shifts_rows {off : Fin 6 → ℕ} {inb} {offx : Fin 2 → ℕ} {p rr : ℕ} {ix iw is hs hd hb hsc} {pay : S1x1x1x1x128x128.Idx → EReal}
    (hH : Reads arg2 argW argS argB X2 XW XS XB H p) (hoff : off = ![par, 1, p, 2 * k + rr, 0, 0]) (hx : offx = ![256 * k, 0]) (hrr : rr < 2)
    (hpay : pay = shapeCast S1x1x1x1x128x128 (truncf .bf16 (rows arg2 argW argS argB X2 XW XS XB offx p rr ix iw is hs hd) hb : FVec Ideal S128x128 .bf16) hsc) :
    Shifts H par k (1, p, rr) (⟨Rect.unit off S1x1x1x1x128x128.size inb, pay⟩ : View.Piece (Elt Ideal) S2x3x8x8x128x128 .bf16) :=
  shifts_of hoff pay (fun y => by
    rw [hpay]
    refine (panel6_apply _ y (y 4) (y 5) rfl rfl).trans ((rows_apply arg2 argW argS argB X2 XW XS XB hH hx hrr _ _).trans ?_)
    have h4 : (y 4).val < 128 := (y 4).isLt
    unfold pad
    rw [if_pos ⟨by omega, by omega⟩]
    rfl)

/-- A panel read back, as it is stored to the side. -/
def side (v : FVec Ideal S1x1x128x128 .f32) : FVec Ideal S1x1x1x1x128x128 .bf16 :=
  shapeCast S1x1x1x1x128x128 (truncf .bf16 (shapeCast S128x128 v shapeCasts_S1x1x128x128_S128x128) bitsLt_bf16_f32 : FVec Ideal S128x128 .bf16)
    shapeCasts_S128x128_S1x1x1x1x128x128

/-- A store of rows read back one column to the side: the neighbour's value, zero past the end of the row. -/
theorem shifts_side {off : Fin 6 → ℕ} {inb} {offl offs : Fin 4 → ℕ} {il is'} {p rr dc : ℕ} {pay : S1x1x1x1x128x128.Idx → EReal}
    {L : List (View.Piece (Elt Ideal) S8x4x144x128 .f32)} {pay'}
    (hoff : off = ![par, dc, p, 2 * k + rr, 0, 0]) (hl : offl = ![p, (2 * k + rr) % 4, 7 + dc, 0]) (hrr : rr < 2)
    (hos : offs = ![p, (2 * k + rr) % 4, 8, 0])
    (hz : ∀ y : S8x4x144x128.Idx, (y 2).val = 7 ∨ (y 2).val = 136 → arg14.view.read (Elt Ideal) f14 y = (0 : EReal))
    (hG : ∀ q ∈ (⟨Rect.unit (s := S8x4x144x128) offs S1x1x128x128.size is', pay'⟩ : View.Piece (Elt Ideal) S8x4x144x128 .f32) :: L, Good H k q)
    (hpay : pay = side (View.readAt (Elt Ideal) arg14.view (Rect.unit (s := S8x4x144x128) offl S1x1x128x128.size il).toLoadRect
        (arg14.view.writes (Elt Ideal) f14 (⟨Rect.unit (s := S8x4x144x128) offs S1x1x128x128.size is', pay'⟩ :: L))))
    (hdc : dc ≤ 2) :
    Shifts H par k (dc, p, rr) (⟨Rect.unit off S1x1x1x1x128x128.size inb, pay⟩ : View.Piece (Elt Ideal) S2x3x8x8x128x128 .bf16) := by
  refine shifts_of hoff pay (fun y => ?_)
  subst hl hos
  rw [hpay]
  refine (panel6_apply _ y (y 4) (y 5) rfl rfl).trans ((unpanel4_apply _ _ _).trans ?_)
  have h4 : (y 4).val < 128 := (y 4).isLt
  have h5 : (y 5).val < 128 := (y 5).isLt
  have hp : p < 8 := by have := is' 0; simpa using this
  have hr : (2 * k + rr) % 4 < 4 := Nat.mod_lt _ (by decide)
  have hyr : (Rect.unit (s := S8x4x144x128) ![p, (2 * k + rr) % 4, 7 + dc, 0] S1x1x128x128.size il).emb
      (ix4 (n0 := 1) (n1 := 1) (n2 := 128) (n3 := 128) 0 0 (y 4) (y 5))
      = (ix4 (n0 := 8) (n1 := 4) (n2 := 144) (n3 := 128) ⟨p, hp⟩ ⟨(2 * k + rr) % 4, hr⟩ ⟨7 + dc + (y 4).val, by omega⟩ (y 5) : S8x4x144x128.Idx) :=
    Rect.emb_eq_of_coords _ _ _ (fun a => by
      match a with
      | ⟨0, _⟩ => rfl
      | ⟨1, _⟩ => rfl
      | ⟨2, _⟩ => show 7 + dc + (y 4).val = 7 + dc + 1 * (y 4).val; omega
      | ⟨3, _⟩ => show (y 5).val = 0 + 1 * (y 5).val; omega)
  show arg14.view.read (Elt Ideal) _ ((Rect.unit (s := S8x4x144x128) ![p, (2 * k + rr) % 4, 7 + dc, 0] S1x1x128x128.size il).emb _) = _
  rw [hyr]
  unfold pad
  by_cases hin : 1 ≤ (y 4).val + dc ∧ (y 4).val + dc ≤ 128
  · rw [if_pos hin]
    refine (View.read_writes_apply_of_pieces arg14.view f14 (panels H k) _ (fun q hq => (hG q hq).2) _
      ⟨_, List.mem_cons_self, Rect.mem_set_unit (inb := is').mpr (fun a => ?_)⟩).trans ?_
    · match a with
      | ⟨0, _⟩ => exact ⟨Nat.le_refl _, Nat.lt_succ_self _⟩
      | ⟨1, _⟩ => exact ⟨Nat.le_refl _, Nat.lt_succ_self _⟩
      | ⟨2, _⟩ => exact ⟨(by show 8 ≤ 7 + dc + (y 4).val; omega), (by show 7 + dc + (y 4).val < 8 + 128; omega)⟩
      | ⟨3, _⟩ => exact ⟨Nat.zero_le _, (by show (y 5).val < 0 + 128; omega)⟩
    · show H p (2 * k + (2 * k + rr) % 4 % 2) (7 + dc + (y 4).val - 8) (y 5).val = _
      congr 1 <;> omega
  · rw [if_neg hin]
    refine (View.read_writes_apply_of_forall_not_mem arg14.view f14 _ _ (fun q hq hm => ?_)).trans (hz _ (by
      show 7 + dc + (y 4).val = 7 ∨ 7 + dc + (y 4).val = 136; omega))
    have h := (hG q hq).1 _ hm
    have h8 : 8 ≤ 7 + dc + (y 4).val := h.1
    have h9 : 7 + dc + (y 4).val < 136 := h.2
    omega

end Pieces

end Cert.UpIdeal.Hand
-- ==== Proof.UpTrip.lean ====
/-
  One trip of the up-projection's loop: every store of it, at its place and of its values.
-/
module

public import proofs.«01_k».proof.Proof.UpTile
public import proofs.«01_k».proof.Proof.Gen.UpIdeal.Loops

@[expose] public section

set_option maxRecDepth 8192
set_option maxHeartbeats 400000

noncomputable section

namespace Cert.UpIdeal.Hand

open Cert.UpIdeal Cert.UpIdeal.Gen Idealize.ShloMosaic Idealize.ShloMosaic.TcCoe Idealize.SL.Sem
open Idealize.ShloMosaic.ValueIdx
open scoped BigOperators

/-- The places of the shifted panels that one trip stores, the last first. -/
def places : List (ℕ × ℕ × ℕ) :=
  [7, 6, 5, 4, 3, 2, 1, 0].flatMap fun p => [1, 0].flatMap fun rr => [(2, p, rr), (0, p, rr), (1, p, rr)]

section Trip

variable (𝒱 : Variants) (c : Dev nD) (bd : Option 𝒱.V) (i : grid0.Coords)
  (arg1 : Memref sig .tc .smem S1 .f32) (harg1 : arg1.IsWhole)
  (arg2 : Memref sig .tc .vmem S1024x3072 .fp8e4m3) (harg2 : arg2.IsWhole)
  (arg3 : Memref sig .tc .vmem S3072x512 .fp8e4m3) (harg3 : arg3.IsWhole)
  (arg4 : Memref sig .tc .vmem S3072x512 .fp8e4m3) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S9x16x512 .bf16) (harg9 : arg9.IsWhole)
  (arg10 : Memref sig .tc .vmem S9x16x512 .bf16) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1024x512 .fp8e4m3) (harg13 : arg13.IsWhole)
  (arg14 : Memref sig .tc .vmem S8x4x144x128 .f32) (harg14 : arg14.IsWhole)
  (arg15 : Memref sig .tc .vmem S2x3x8x8x128x128 .bf16) (harg15 : arg15.IsWhole)
  (arg16 : Memref sig .tc .vmem S3x8x128x128 .bf16) (harg16 : arg16.IsWhole)
  (arg17 : Memref sig .tc .vmem S3x8x128x128 .bf16) (harg17 : arg17.IsWhole)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)
  (f14 : BufTy.Contents (Elt Ideal) arg14.view.ty) (f15 : BufTy.Contents (Elt Ideal) arg15.view.ty)

/-- The activated panels of the tile at hand. -/
abbrev hat : ℕ → ℕ → ℕ → ℕ → EReal :=
  hcell (arg2.view.read (Elt Ideal) X2) (arg3.view.read (Elt Ideal) X3) (arg4.view.read (Elt Ideal) X4) (arg5.view.read (Elt Ideal) X5)
    (arg6.view.read (Elt Ideal) X6) (arg7.view.read (Elt Ideal) X7) (arg8.view.read (Elt Ideal) X8)

theorem reads_value (p : ℕ) (hp : p < 4) : Reads arg2 arg3 arg5 arg7 X2 X3 X5 X7 (hat arg2 arg3 arg4 arg5 arg6 arg7 arg8 X2 X3 X4 X5 X6 X7 X8) p :=
  fun _ _ _ => if_pos hp
theorem reads_gate (p : ℕ) (hp : ¬p < 4) : Reads arg2 arg4 arg6 arg8 X2 X4 X6 X8 (hat arg2 arg3 arg4 arg5 arg6 arg7 arg8 X2 X3 X4 X5 X6 X7 X8) p :=
  fun _ _ _ => if_neg hp

/-- One trip's stores into the activated panels, and its stores into the shifted ones. -/
theorem trip_stores (v0 : BitVec 32) (k : Fin (Scf.trips 0#32 (Scalar.addi 0#32 4#32) 1#32))
    (hz : ∀ y : S8x4x144x128.Idx, (y 2).val = 7 ∨ (y 2).val = 136 → arg14.view.read (Elt Ideal) f14 y = (0 : EReal)) :
    (∀ q ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 X2 X3 X4 X5 X6 X7 X8 k).1 f14 f15, Good (hat arg2 arg3 arg4 arg5 arg6 arg7 arg8 X2 X3 X4 X5 X6 X7 X8) k.val q)
    ∧ List.Forall₂ (Shifts (hat arg2 arg3 arg4 arg5 arg6 arg7 arg8 X2 X3 X4 X5 X6 X7 X8) ((i 0).val % 2) k.val) places ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 X2 X3 X4 X5 X6 X7 X8 k).2.1 f14 f15) := by
  have g1 : ∀ q ∈ trip_k0_t1.sl.HW_arg14_1 arg2 arg3 arg5 arg7 X2 X3 X5 X7 k, Good (hat arg2 arg3 arg4 arg5 arg6 arg7 arg8 X2 X3 X4 X5 X6 X7 X8) k.val q :=
    List.forall_mem_cons.mpr ⟨good_rows (rr := 0) (hd := slices_S256x128_o0_0_S128x128) (hs := slices_S256x256_o0_0_S256x128) arg2 arg3 arg5 arg7 X2 X3 X5 X7 (reads_value _ _ _ _ _ _ _ _ _ _ _ _ _ _ 0 (by decide)) (k0_off3_eq k 0) (k0_off1_eq k) (by decide) rfl, (fun _ h => absurd h List.not_mem_nil)⟩
  have g2 : ∀ q ∈ trip_k0_t1.sl.HW_arg14_2 arg2 arg3 arg5 arg7 X2 X3 X5 X7 k, Good (hat arg2 arg3 arg4 arg5 arg6 arg7 arg8 X2 X3 X4 X5 X6 X7 X8) k.val q :=
    List.forall_mem_cons.mpr ⟨good_rows (rr := 1) (hd := slices_S256x128_o128_0_S128x128) (hs := slices_S256x256_o0_0_S256x128) arg2 arg3 arg5 arg7 X2 X3 X5 X7 (reads_value _ _ _ _ _ _ _ _ _ _ _ _ _ _ 0 (by decide)) (k0_off3_eq k 1) (k0_off1_eq k) (by decide) rfl, g1⟩
  have g3 : ∀ q ∈ trip_k0_t1.sl.HW_arg14_3 arg2 arg3 arg5 arg7 X2 X3 X5 X7 k, Good (hat arg2 arg3 arg4 arg5 arg6 arg7 arg8 X2 X3 X4 X5 X6 X7 X8) k.val q :=
    List.forall_mem_cons.mpr ⟨good_rows (rr := 0) (hd := slices_S256x128_o0_0_S128x128) (hs := slices_S256x256_o0_128_S256x128) arg2 arg3 arg5 arg7 X2 X3 X5 X7 (reads_value _ _ _ _ _ _ _ _ _ _ _ _ _ _ 1 (by decide)) (k0_off9_eq k 0) (k0_off1_eq k) (by decide) rfl, g2⟩
  have g4 : ∀ q ∈ trip_k0_t1.sl.HW_arg14_4 arg2 arg3 arg5 arg7 X2 X3 X5 X7 k, Good (hat arg2 arg3 arg4 arg5 arg6 arg7 arg8 X2 X3 X4 X5 X6 X7 X8) k.val q :=
    List.forall_mem_cons.mpr ⟨good_rows (rr := 1) (hd := slices_S256x128_o128_0_S128x128) (hs := slices_S256x256_o0_128_S256x128) arg2 arg3 arg5 arg7 X2 X3 X5 X7 (reads_value _ _ _ _ _ _ _ _ _ _ _ _ _ _ 1 (by decide)) (k0_off9_eq k 1) (k0_off1_eq k) (by decide) rfl, g3⟩
  have g5 : ∀ q ∈ trip_k0_t1.sl.HW_arg14_5 arg2 arg3 arg5 arg7 X2 X3 X5 X7 k, Good (hat arg2 arg3 arg4 arg5 arg6 arg7 arg8 X2 X3 X4 X5 X6 X7 X8) k.val q :=
    List.forall_mem_cons.mpr ⟨good_rows (rr := 0) (hd := slices_S256x128_o0_0_S128x128) (hs := slices_S256x256_o0_0_S256x128) arg2 arg3 arg5 arg7 X2 X3 X5 X7 (reads_value _ _ _ _ _ _ _ _ _ _ _ _ _ _ 2 (by decide)) (k0_off15_eq k 0) (k0_off1_eq k) (by decide) rfl, g4⟩
  have g6 : ∀ q ∈ trip_k0_t1.sl.HW_arg14_6 arg2 arg3 arg5 arg7 X2 X3 X5 X7 k, Good (hat arg2 arg3 arg4 arg5 arg6 arg7 arg8 X2 X3 X4 X5 X6 X7 X8) k.val q :=
    List.forall_mem_cons.mpr ⟨good_rows (rr := 1) (hd := slices_S256x128_o128_0_S128x128) (hs := slices_S256x256_o0_0_S256x128) arg2 arg3 arg5 arg7 X2 X3 X5 X7 (reads_value _ _ _ _ _ _ _ _ _ _ _ _ _ _ 2 (by decide)) (k0_off15_eq k 1) (k0_off1_eq k) (by decide) rfl, g5⟩
  have g7 : ∀ q ∈ trip_k0_t1.sl.HW_arg14_7 arg2 arg3 arg5 arg7 X2 X3 X5 X7 k, Good (hat arg2 arg3 arg4 arg5 arg6 arg7 arg8 X2 X3 X4 X5 X6 X7 X8) k.val q :=
    List.forall_mem_cons.mpr ⟨good_rows (rr := 0) (hd := slices_S256x128_o0_0_S128x128) (hs := slices_S256x256_o0_128_S256x128) arg2 arg3 arg5 arg7 X2 X3 X5 X7 (reads_value _ _ _ _ _ _ _ _ _ _ _ _ _ _ 3 (by decide)) (k0_off21_eq k 0) (k0_off1_eq k) (by decide) rfl, g6⟩
  have g8 : ∀ q ∈ trip_k0_t1.sl.HW_arg14_8 arg2 arg3 arg5 arg7 X2 X3 X5 X7 k, Good (hat arg2 arg3 arg4 arg5 arg6 arg7 arg8 X2 X3 X4 X5 X6 X7 X8) k.val q :=
    List.forall_mem_cons.mpr ⟨good_rows (rr := 1) (hd := slices_S256x128_o128_0_S128x128) (hs := slices_S256x256_o0_128_S256x128) arg2 arg3 arg5 arg7 X2 X3 X5 X7 (reads_value _ _ _ _ _ _ _ _ _ _ _ _ _ _ 3 (by decide)) (k0_off21_eq k 1) (k0_off1_eq k) (by decide) rfl, g7⟩
  have g9 : ∀ q ∈ trip_k0_t1.sl.HW_arg14_9 arg2 arg3 arg4 arg5 arg6 arg7 arg8 X2 X3 X4 X5 X6 X7 X8 k, Good (hat arg2 arg3 arg4 arg5 arg6 arg7 arg8 X2 X3 X4 X5 X6 X7 X8) k.val q :=
    List.forall_mem_cons.mpr ⟨good_rows (rr := 0) (hd := slices_S256x128_o0_0_S128x128) (hs := slices_S256x256_o0_0_S256x128) arg2 arg4 arg6 arg8 X2 X4 X6 X8 (reads_gate _ _ _ _ _ _ _ _ _ _ _ _ _ _ 4 (by decide)) (k0_off27_eq k 0) (k0_off1_eq k) (by decide) rfl, g8⟩
  have g10 : ∀ q ∈ trip_k0_t1.sl.HW_arg14_10 arg2 arg3 arg4 arg5 arg6 arg7 arg8 X2 X3 X4 X5 X6 X7 X8 k, Good (hat arg2 arg3 arg4 arg5 arg6 arg7 arg8 X2 X3 X4 X5 X6 X7 X8) k.val q :=
    List.forall_mem_cons.mpr ⟨good_rows (rr := 1) (hd := slices_S256x128_o128_0_S128x128) (hs := slices_S256x256_o0_0_S256x128) arg2 arg4 arg6 arg8 X2 X4 X6 X8 (reads_gate _ _ _ _ _ _ _ _ _ _ _ _ _ _ 4 (by decide)) (k0_off27_eq k 1) (k0_off1_eq k) (by decide) rfl, g9⟩
  have g11 : ∀ q ∈ trip_k0_t1.sl.HW_arg14_11 arg2 arg3 arg4 arg5 arg6 arg7 arg8 X2 X3 X4 X5 X6 X7 X8 k, Good (hat arg2 arg3 arg4 arg5 arg6 arg7 arg8 X2 X3 X4 X5 X6 X7 X8) k.val q :=
    List.forall_mem_cons.mpr ⟨good_rows (rr := 0) (hd := slices_S256x128_o0_0_S128x128) (hs := slices_S256x256_o0_128_S256x128) arg2 arg4 arg6 arg8 X2 X4 X6 X8 (reads_gate _ _ _ _ _ _ _ _ _ _ _ _ _ _ 5 (by decide)) (k0_off33_eq k 0) (k0_off1_eq k) (by decide) rfl, g10⟩
  have g12 : ∀ q ∈ trip_k0_t1.sl.HW_arg14_12 arg2 arg3 arg4 arg5 arg6 arg7 arg8 X2 X3 X4 X5 X6 X7 X8 k, Good (hat arg2 arg3 arg4 arg5 arg6 arg7 arg8 X2 X3 X4 X5 X6 X7 X8) k.val q :=
    List.forall_mem_cons.mpr ⟨good_rows (rr := 1) (hd := slices_S256x128_o128_0_S128x128) (hs := slices_S256x256_o0_128_S256x128) arg2 arg4 arg6 arg8 X2 X4 X6 X8 (reads_gate _ _ _ _ _ _ _ _ _ _ _ _ _ _ 5 (by decide)) (k0_off33_eq k 1) (k0_off1_eq k) (by decide) rfl, g11⟩
  have g13 : ∀ q ∈ trip_k0_t1.sl.HW_arg14_13 arg2 arg3 arg4 arg5 arg6 arg7 arg8 X2 X3 X4 X5 X6 X7 X8 k, Good (hat arg2 arg3 arg4 arg5 arg6 arg7 arg8 X2 X3 X4 X5 X6 X7 X8) k.val q :=
    List.forall_mem_cons.mpr ⟨good_rows (rr := 0) (hd := slices_S256x128_o0_0_S128x128) (hs := slices_S256x256_o0_0_S256x128) arg2 arg4 arg6 arg8 X2 X4 X6 X8 (reads_gate _ _ _ _ _ _ _ _ _ _ _ _ _ _ 6 (by decide)) (k0_off39_eq k 0) (k0_off1_eq k) (by decide) rfl, g12⟩
  have g14 : ∀ q ∈ trip_k0_t1.sl.HW_arg14_14 arg2 arg3 arg4 arg5 arg6 arg7 arg8 X2 X3 X4 X5 X6 X7 X8 k, Good (hat arg2 arg3 arg4 arg5 arg6 arg7 arg8 X2 X3 X4 X5 X6 X7 X8) k.val q :=
    List.forall_mem_cons.mpr ⟨good_rows (rr := 1) (hd := slices_S256x128_o128_0_S128x128) (hs := slices_S256x256_o0_0_S256x128) arg2 arg4 arg6 arg8 X2 X4 X6 X8 (reads_gate _ _ _ _ _ _ _ _ _ _ _ _ _ _ 6 (by decide)) (k0_off39_eq k 1) (k0_off1_eq k) (by decide) rfl, g13⟩
  have g15 : ∀ q ∈ trip_k0_t1.sl.HW_arg14_15 arg2 arg3 arg4 arg5 arg6 arg7 arg8 X2 X3 X4 X5 X6 X7 X8 k, Good (hat arg2 arg3 arg4 arg5 arg6 arg7 arg8 X2 X3 X4 X5 X6 X7 X8) k.val q :=
    List.forall_mem_cons.mpr ⟨good_rows (rr := 0) (hd := slices_S256x128_o0_0_S128x128) (hs := slices_S256x256_o0_128_S256x128) arg2 arg4 arg6 arg8 X2 X4 X6 X8 (reads_gate _ _ _ _ _ _ _ _ _ _ _ _ _ _ 7 (by decide)) (k0_off45_eq k 0) (k0_off1_eq k) (by decide) rfl, g14⟩
  have g16 : ∀ q ∈ trip_k0_t1.sl.HW_arg14_16 arg2 arg3 arg4 arg5 arg6 arg7 arg8 X2 X3 X4 X5 X6 X7 X8 k, Good (hat arg2 arg3 arg4 arg5 arg6 arg7 arg8 X2 X3 X4 X5 X6 X7 X8) k.val q :=
    List.forall_mem_cons.mpr ⟨good_rows (rr := 1) (hd := slices_S256x128_o128_0_S128x128) (hs := slices_S256x256_o0_128_S256x128) arg2 arg4 arg6 arg8 X2 X4 X6 X8 (reads_gate _ _ _ _ _ _ _ _ _ _ _ _ _ _ 7 (by decide)) (k0_off45_eq k 1) (k0_off1_eq k) (by decide) rfl, g15⟩
  unfold trip_k0_t1
  refine ⟨g16, ?_⟩
  show List.Forall₂ _ _ (_ :: _)
  exact
  List.Forall₂.cons
    (shifts_side (rr := 1) arg14 f14 (k0_off49_eq i k 1) (k0_off48_eq k 1) (by decide) (k0_off45_eq k 1) hz g16 rfl (by decide)) <|
  List.Forall₂.cons
    (shifts_side (rr := 1) arg14 f14 (k0_off47_eq i k 1) (k0_off46_eq k 1) (by decide) (k0_off45_eq k 1) hz g16 rfl (by decide)) <|
  List.Forall₂.cons
    (shifts_rows (rr := 1) (hd := slices_S256x128_o128_0_S128x128) (hs := slices_S256x256_o0_128_S256x128) arg2 arg4 arg6 arg8 X2 X4 X6 X8 (reads_gate _ _ _ _ _ _ _ _ _ _ _ _ _ _ 7 (by decide)) (k0_off44_eq i k 1) (k0_off1_eq k) (by decide) rfl) <|
  List.Forall₂.cons
    (shifts_side (rr := 0) arg14 f14 (k0_off49_eq i k 0) (k0_off48_eq k 0) (by decide) (k0_off45_eq k 0) hz g15 rfl (by decide)) <|
  List.Forall₂.cons
    (shifts_side (rr := 0) arg14 f14 (k0_off47_eq i k 0) (k0_off46_eq k 0) (by decide) (k0_off45_eq k 0) hz g15 rfl (by decide)) <|
  List.Forall₂.cons
    (shifts_rows (rr := 0) (hd := slices_S256x128_o0_0_S128x128) (hs := slices_S256x256_o0_128_S256x128) arg2 arg4 arg6 arg8 X2 X4 X6 X8 (reads_gate _ _ _ _ _ _ _ _ _ _ _ _ _ _ 7 (by decide)) (k0_off44_eq i k 0) (k0_off1_eq k) (by decide) rfl) <|
  List.Forall₂.cons
    (shifts_side (rr := 1) arg14 f14 (k0_off43_eq i k 1) (k0_off42_eq k 1) (by decide) (k0_off39_eq k 1) hz g14 rfl (by decide)) <|
  List.Forall₂.cons
    (shifts_side (rr := 1) arg14 f14 (k0_off41_eq i k 1) (k0_off40_eq k 1) (by decide) (k0_off39_eq k 1) hz g14 rfl (by decide)) <|
  List.Forall₂.cons
    (shifts_rows (rr := 1) (hd := slices_S256x128_o128_0_S128x128) (hs := slices_S256x256_o0_0_S256x128) arg2 arg4 arg6 arg8 X2 X4 X6 X8 (reads_gate _ _ _ _ _ _ _ _ _ _ _ _ _ _ 6 (by decide)) (k0_off38_eq i k 1) (k0_off1_eq k) (by decide) rfl) <|
  List.Forall₂.cons
    (shifts_side (rr := 0) arg14 f14 (k0_off43_eq i k 0) (k0_off42_eq k 0) (by decide) (k0_off39_eq k 0) hz g13 rfl (by decide)) <|
  List.Forall₂.cons
    (shifts_side (rr := 0) arg14 f14 (k0_off41_eq i k 0) (k0_off40_eq k 0) (by decide) (k0_off39_eq k 0) hz g13 rfl (by decide)) <|
  List.Forall₂.cons
    (shifts_rows (rr := 0) (hd := slices_S256x128_o0_0_S128x128) (hs := slices_S256x256_o0_0_S256x128) arg2 arg4 arg6 arg8 X2 X4 X6 X8 (reads_gate _ _ _ _ _ _ _ _ _ _ _ _ _ _ 6 (by decide)) (k0_off38_eq i k 0) (k0_off1_eq k) (by decide) rfl) <|
  List.Forall₂.cons
    (shifts_side (rr := 1) arg14 f14 (k0_off37_eq i k 1) (k0_off36_eq k 1) (by decide) (k0_off33_eq k 1) hz g12 rfl (by decide)) <|
  List.Forall₂.cons
    (shifts_side (rr := 1) arg14 f14 (k0_off35_eq i k 1) (k0_off34_eq k 1) (by decide) (k0_off33_eq k 1) hz g12 rfl (by decide)) <|
  List.Forall₂.cons
    (shifts_rows (rr := 1) (hd := slices_S256x128_o128_0_S128x128) (hs := slices_S256x256_o0_128_S256x128) arg2 arg4 arg6 arg8 X2 X4 X6 X8 (reads_gate _ _ _ _ _ _ _ _ _ _ _ _ _ _ 5 (by decide)) (k0_off32_eq i k 1) (k0_off1_eq k) (by decide) rfl) <|
  List.Forall₂.cons
    (shifts_side (rr := 0) arg14 f14 (k0_off37_eq i k 0) (k0_off36_eq k 0) (by decide) (k0_off33_eq k 0) hz g11 rfl (by decide)) <|
  List.Forall₂.cons
    (shifts_side (rr := 0) arg14 f14 (k0_off35_eq i k 0) (k0_off34_eq k 0) (by decide) (k0_off33_eq k 0) hz g11 rfl (by decide)) <|
  List.Forall₂.cons
    (shifts_rows (rr := 0) (hd := slices_S256x128_o0_0_S128x128) (hs := slices_S256x256_o0_128_S256x128) arg2 arg4 arg6 arg8 X2 X4 X6 X8 (reads_gate _ _ _ _ _ _ _ _ _ _ _ _ _ _ 5 (by decide)) (k0_off32_eq i k 0) (k0_off1_eq k) (by decide) rfl) <|
  List.Forall₂.cons
    (shifts_side (rr := 1) arg14 f14 (k0_off31_eq i k 1) (k0_off30_eq k 1) (by decide) (k0_off27_eq k 1) hz g10 rfl (by decide)) <|
  List.Forall₂.cons
    (shifts_side (rr := 1) arg14 f14 (k0_off29_eq i k 1) (k0_off28_eq k 1) (by decide) (k0_off27_eq k 1) hz g10 rfl (by decide)) <|
  List.Forall₂.cons
    (shifts_rows (rr := 1) (hd := slices_S256x128_o128_0_S128x128) (hs := slices_S256x256_o0_0_S256x128) arg2 arg4 arg6 arg8 X2 X4 X6 X8 (reads_gate _ _ _ _ _ _ _ _ _ _ _ _ _ _ 4 (by decide)) (k0_off26_eq i k 1) (k0_off1_eq k) (by decide) rfl) <|
  List.Forall₂.cons
    (shifts_side (rr := 0) arg14 f14 (k0_off31_eq i k 0) (k0_off30_eq k 0) (by decide) (k0_off27_eq k 0) hz g9 rfl (by decide)) <|
  List.Forall₂.cons
    (shifts_side (rr := 0) arg14 f14 (k0_off29_eq i k 0) (k0_off28_eq k 0) (by decide) (k0_off27_eq k 0) hz g9 rfl (by decide)) <|
  List.Forall₂.cons
    (shifts_rows (rr := 0) (hd := slices_S256x128_o0_0_S128x128) (hs := slices_S256x256_o0_0_S256x128) arg2 arg4 arg6 arg8 X2 X4 X6 X8 (reads_gate _ _ _ _ _ _ _ _ _ _ _ _ _ _ 4 (by decide)) (k0_off26_eq i k 0) (k0_off1_eq k) (by decide) rfl) <|
  List.Forall₂.cons
    (shifts_side (rr := 1) arg14 f14 (k0_off25_eq i k 1) (k0_off24_eq k 1) (by decide) (k0_off21_eq k 1) hz g8 rfl (by decide)) <|
  List.Forall₂.cons
    (shifts_side (rr := 1) arg14 f14 (k0_off23_eq i k 1) (k0_off22_eq k 1) (by decide) (k0_off21_eq k 1) hz g8 rfl (by decide)) <|
  List.Forall₂.cons
    (shifts_rows (rr := 1) (hd := slices_S256x128_o128_0_S128x128) (hs := slices_S256x256_o0_128_S256x128) arg2 arg3 arg5 arg7 X2 X3 X5 X7 (reads_value _ _ _ _ _ _ _ _ _ _ _ _ _ _ 3 (by decide)) (k0_off20_eq i k 1) (k0_off1_eq k) (by decide) rfl) <|
  List.Forall₂.cons
    (shifts_side (rr := 0) arg14 f14 (k0_off25_eq i k 0) (k0_off24_eq k 0) (by decide) (k0_off21_eq k 0) hz g7 rfl (by decide)) <|
  List.Forall₂.cons
    (shifts_side (rr := 0) arg14 f14 (k0_off23_eq i k 0) (k0_off22_eq k 0) (by decide) (k0_off21_eq k 0) hz g7 rfl (by decide)) <|
  List.Forall₂.cons
    (shifts_rows (rr := 0) (hd := slices_S256x128_o0_0_S128x128) (hs := slices_S256x256_o0_128_S256x128) arg2 arg3 arg5 arg7 X2 X3 X5 X7 (reads_value _ _ _ _ _ _ _ _ _ _ _ _ _ _ 3 (by decide)) (k0_off20_eq i k 0) (k0_off1_eq k) (by decide) rfl) <|
  List.Forall₂.cons
    (shifts_side (rr := 1) arg14 f14 (k0_off19_eq i k 1) (k0_off18_eq k 1) (by decide) (k0_off15_eq k 1) hz g6 rfl (by decide)) <|
  List.Forall₂.cons
    (shifts_side (rr := 1) arg14 f14 (k0_off17_eq i k 1) (k0_off16_eq k 1) (by decide) (k0_off15_eq k 1) hz g6 rfl (by decide)) <|
  List.Forall₂.cons
    (shifts_rows (rr := 1) (hd := slices_S256x128_o128_0_S128x128) (hs := slices_S256x256_o0_0_S256x128) arg2 arg3 arg5 arg7 X2 X3 X5 X7 (reads_value _ _ _ _ _ _ _ _ _ _ _ _ _ _ 2 (by decide)) (k0_off14_eq i k 1) (k0_off1_eq k) (by decide) rfl) <|
  List.Forall₂.cons
    (shifts_side (rr := 0) arg14 f14 (k0_off19_eq i k 0) (k0_off18_eq k 0) (by decide) (k0_off15_eq k 0) hz g5 rfl (by decide)) <|
  List.Forall₂.cons
    (shifts_side (rr := 0) arg14 f14 (k0_off17_eq i k 0) (k0_off16_eq k 0) (by decide) (k0_off15_eq k 0) hz g5 rfl (by decide)) <|
  List.Forall₂.cons
    (shifts_rows (rr := 0) (hd := slices_S256x128_o0_0_S128x128) (hs := slices_S256x256_o0_0_S256x128) arg2 arg3 arg5 arg7 X2 X3 X5 X7 (reads_value _ _ _ _ _ _ _ _ _ _ _ _ _ _ 2 (by decide)) (k0_off14_eq i k 0) (k0_off1_eq k) (by decide) rfl) <|
  List.Forall₂.cons
    (shifts_side (rr := 1) arg14 f14 (k0_off13_eq i k 1) (k0_off12_eq k 1) (by decide) (k0_off9_eq k 1) hz g4 rfl (by decide)) <|
  List.Forall₂.cons
    (shifts_side (rr := 1) arg14 f14 (k0_off11_eq i k 1) (k0_off10_eq k 1) (by decide) (k0_off9_eq k 1) hz g4 rfl (by decide)) <|
  List.Forall₂.cons
    (shifts_rows (rr := 1) (hd := slices_S256x128_o128_0_S128x128) (hs := slices_S256x256_o0_128_S256x128) arg2 arg3 arg5 arg7 X2 X3 X5 X7 (reads_value _ _ _ _ _ _ _ _ _ _ _ _ _ _ 1 (by decide)) (k0_off8_eq i k 1) (k0_off1_eq k) (by decide) rfl) <|
  List.Forall₂.cons
    (shifts_side (rr := 0) arg14 f14 (k0_off13_eq i k 0) (k0_off12_eq k 0) (by decide) (k0_off9_eq k 0) hz g3 rfl (by decide)) <|
  List.Forall₂.cons
    (shifts_side (rr := 0) arg14 f14 (k0_off11_eq i k 0) (k0_off10_eq k 0) (by decide) (k0_off9_eq k 0) hz g3 rfl (by decide)) <|
  List.Forall₂.cons
    (shifts_rows (rr := 0) (hd := slices_S256x128_o0_0_S128x128) (hs := slices_S256x256_o0_128_S256x128) arg2 arg3 arg5 arg7 X2 X3 X5 X7 (reads_value _ _ _ _ _ _ _ _ _ _ _ _ _ _ 1 (by decide)) (k0_off8_eq i k 0) (k0_off1_eq k) (by decide) rfl) <|
  List.Forall₂.cons
    (shifts_side (rr := 1) arg14 f14 (k0_off7_eq i k 1) (k0_off6_eq k 1) (by decide) (k0_off3_eq k 1) hz g2 rfl (by decide)) <|
  List.Forall₂.cons
    (shifts_side (rr := 1) arg14 f14 (k0_off5_eq i k 1) (k0_off4_eq k 1) (by decide) (k0_off3_eq k 1) hz g2 rfl (by decide)) <|
  List.Forall₂.cons
    (shifts_rows (rr := 1) (hd := slices_S256x128_o128_0_S128x128) (hs := slices_S256x256_o0_0_S256x128) arg2 arg3 arg5 arg7 X2 X3 X5 X7 (reads_value _ _ _ _ _ _ _ _ _ _ _ _ _ _ 0 (by decide)) (k0_off2_eq i k 1) (k0_off1_eq k) (by decide) rfl) <|
  List.Forall₂.cons
    (shifts_side (rr := 0) arg14 f14 (k0_off7_eq i k 0) (k0_off6_eq k 0) (by decide) (k0_off3_eq k 0) hz g1 rfl (by decide)) <|
  List.Forall₂.cons
    (shifts_side (rr := 0) arg14 f14 (k0_off5_eq i k 0) (k0_off4_eq k 0) (by decide) (k0_off3_eq k 0) hz g1 rfl (by decide)) <|
  List.Forall₂.cons
    (shifts_rows (rr := 0) (hd := slices_S256x128_o0_0_S128x128) (hs := slices_S256x256_o0_0_S256x128) arg2 arg3 arg5 arg7 X2 X3 X5 X7 (reads_value _ _ _ _ _ _ _ _ _ _ _ _ _ _ 0 (by decide)) (k0_off2_eq i k 0) (k0_off1_eq k) (by decide) rfl) <|
  List.Forall₂.nil

end Trip

end Cert.UpIdeal.Hand
-- ==== Proof.UpPanels.lean ====
/-
  The whole of the up-projection's loop: the shifted panels of one parity hold the tile's activated rows, those of the other parity are
  untouched, and the columns beside the rows stay zero.
-/
module

public import proofs.«01_k».proof.Proof.UpTrip

@[expose] public section

set_option maxRecDepth 8192
set_option maxHeartbeats 400000

noncomputable section

namespace Cert.UpIdeal.Hand

open Cert.UpIdeal Cert.UpIdeal.Gen Idealize.ShloMosaic Idealize.ShloMosaic.TcCoe Idealize.SL.Sem
open Idealize.ShloMosaic.ValueIdx
open scoped BigOperators

/-- Every place of the shifted panels of one trip is stored. -/
theorem mem_places (dc p rr : ℕ) (h1 : dc < 3) (h2 : p < 8) (h3 : rr < 2) : (dc, p, rr) ∈ places := by
  interval_cases dc <;> interval_cases p <;> interval_cases rr <;> decide

theorem exists_of_forall₂ {α β : Type} {R : α → β → Prop} {l : List α} {l' : List β} (h : List.Forall₂ R l l') :
    (∀ b ∈ l', ∃ a ∈ l, R a b) ∧ ∀ a ∈ l, ∃ b ∈ l', R a b := by
  induction h with
  | nil => simp
  | cons hab _ ih => simp only [List.mem_cons, forall_eq_or_imp, exists_eq_or_imp]; exact ⟨⟨Or.inl hab, fun b hb => Or.inr (ih.1 b hb)⟩, Or.inl hab, fun a ha => Or.inr (ih.2 a ha)⟩

theorem places_lt : ∀ d ∈ places, d.1 < 3 ∧ d.2.1 < 8 ∧ d.2.2 < 2 := by decide

section Loop

variable (𝒱 : Variants) (c : Dev nD) (bd : Option 𝒱.V) (i : grid0.Coords)
  (arg1 : Memref sig .tc .smem S1 .f32) (harg1 : arg1.IsWhole)
  (arg2 : Memref sig .tc .vmem S1024x3072 .fp8e4m3) (harg2 : arg2.IsWhole)
  (arg3 : Memref sig .tc .vmem S3072x512 .fp8e4m3) (harg3 : arg3.IsWhole)
  (arg4 : Memref sig .tc .vmem S3072x512 .fp8e4m3) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S9x16x512 .bf16) (harg9 : arg9.IsWhole)
  (arg10 : Memref sig .tc .vmem S9x16x512 .bf16) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1024x512 .fp8e4m3) (harg13 : arg13.IsWhole)
  (arg14 : Memref sig .tc .vmem S8x4x144x128 .f32) (harg14 : arg14.IsWhole)
  (arg15 : Memref sig .tc .vmem S2x3x8x8x128x128 .bf16) (harg15 : arg15.IsWhole)
  (arg16 : Memref sig .tc .vmem S3x8x128x128 .bf16) (harg16 : arg16.IsWhole)
  (arg17 : Memref sig .tc .vmem S3x8x128x128 .bf16) (harg17 : arg17.IsWhole)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)
  (f14 : BufTy.Contents (Elt Ideal) arg14.view.ty) (f15 : BufTy.Contents (Elt Ideal) arg15.view.ty)

/-- The loop after `n` trips. -/
theorem panels_after (v0 : BitVec 32)
    (hz : ∀ y : S8x4x144x128.Idx, (y 2).val = 7 ∨ (y 2).val = 136 → arg14.view.read (Elt Ideal) f14 y = (0 : EReal)) (n : ℕ) (hn : n ≤ 4) :
    (∀ y : S8x4x144x128.Idx, (y 2).val = 7 ∨ (y 2).val = 136 → arg14.view.read (Elt Ideal) (arg14.view.writes (Elt Ideal) f14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 X2 X3 X4 X5 X6 X7 X8 f14 f15 n).1) y = (0 : EReal))
    ∧ (∀ y : S2x3x8x8x128x128.Idx, (y 0).val = (i 0).val % 2 → (y 3).val < 2 * n →
        arg15.view.read (Elt Ideal) (arg15.view.writes (Elt Ideal) f15 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 X2 X3 X4 X5 X6 X7 X8 f14 f15 n).2) y = shifted (hat arg2 arg3 arg4 arg5 arg6 arg7 arg8 X2 X3 X4 X5 X6 X7 X8) y)
    ∧ ∀ y : S2x3x8x8x128x128.Idx, (y 0).val ≠ (i 0).val % 2 →
        arg15.view.read (Elt Ideal) (arg15.view.writes (Elt Ideal) f15 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 X2 X3 X4 X5 X6 X7 X8 f14 f15 n).2) y = arg15.view.read (Elt Ideal) f15 y := by
  induction n with
  | zero => exact ⟨hz, fun y _ h => absurd h (by omega), fun y _ => rfl⟩
  | succ n ih =>
    obtain ⟨i1, i2, i3⟩ := ih (by omega)
    have hk : n < k0_t1_loop.trips := by rw [show k0_t1_loop.trips = 4 from by decide]; omega
    have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 X2 X3 X4 X5 X6 X7 X8 f14 f15 ⟨n, hk⟩
    obtain ⟨g1, g2⟩ := trip_stores 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 (arg14.view.writes (Elt Ideal) f14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 X2 X3 X4 X5 X6 X7 X8 f14 f15 n).1) (arg15.view.writes (Elt Ideal) f15 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 X2 X3 X4 X5 X6 X7 X8 f14 f15 n).2) v0 ⟨n, hk⟩ i1
    obtain ⟨g3, g4⟩ := exists_of_forall₂ g2
    rw [show n + 1 = (⟨n, hk⟩ : Fin k0_t1_loop.trips).val + 1 from rfl, hs]
    dsimp only
    rw [View.writes_append, View.writes_append]
    refine ⟨fun y hy => ?_, fun y h0 h3 => ?_, fun y h0 => ?_⟩
    · refine (View.read_writes_apply_of_forall_not_mem arg14.view _ y _ (fun q hq hm => ?_)).trans (i1 y hy)
      have := (g1 q hq).1 y hm
      omega
    · by_cases hy : (y 3).val < 2 * n
      · refine (View.read_writes_apply_of_forall_not_mem arg15.view _ y _ (fun q hq hm => ?_)).trans (i2 y h0 hy)
        obtain ⟨d, hd, ⟨inb, hq1⟩, _⟩ := g3 q hq
        rw [hq1] at hm
        have h := (Rect.mem_set_unit (inb := inb).mp hm) 3
        have h' : 2 * n + d.2.2 ≤ (y 3).val := h.1
        omega
      · refine View.read_writes_apply_of_pieces (Val := Elt Ideal) (e := .bf16) arg15.view _ (shifted (hat arg2 arg3 arg4 arg5 arg6 arg7 arg8 X2 X3 X4 X5 X6 X7 X8)) _ (fun q hq => ?_) y ?_
        · obtain ⟨d, hd, _, hq2⟩ := g3 q hq
          exact hq2
        · have h1 : (y 1).val < 3 := (y 1).isLt
          have h2 : (y 2).val < 8 := (y 2).isLt
          have h4 : (y 4).val < 128 := (y 4).isLt
          have h5 : (y 5).val < 128 := (y 5).isLt
          have h3' : (y 3).val < 2 * (n + 1) := h3
          obtain ⟨q, hq, ⟨inb, hq1⟩, _⟩ := g4 ((y 1).val, (y 2).val, (y 3).val - 2 * n) (mem_places _ _ _ h1 h2 (by omega))
          refine ⟨q, hq, ?_⟩
          rw [hq1]
          refine Rect.mem_set_unit (inb := inb).mpr (fun a => ?_)
          match a with
          | ⟨0, _⟩ => exact ⟨Nat.le_of_eq h0.symm, (by show (y 0).val < (i 0).val % 2 + 1; omega)⟩
          | ⟨1, _⟩ => exact ⟨Nat.le_refl _, Nat.lt_succ_self _⟩
          | ⟨2, _⟩ => exact ⟨Nat.le_refl _, Nat.lt_succ_self _⟩
          | ⟨3, _⟩ => exact ⟨(by show 2 * n + ((y 3).val - 2 * n) ≤ (y 3).val; omega), (by show (y 3).val < 2 * n + ((y 3).val - 2 * n) + 1; omega)⟩
          | ⟨4, _⟩ => exact ⟨Nat.zero_le _, (by show (y 4).val < 0 + 128; omega)⟩
          | ⟨5, _⟩ => exact ⟨Nat.zero_le _, (by show (y 5).val < 0 + 128; omega)⟩
    · refine (View.read_writes_apply_of_forall_not_mem arg15.view _ y _ (fun q hq hm => ?_)).trans (i3 y h0)
      obtain ⟨d, hd, ⟨inb, hq1⟩, _⟩ := g3 q hq
      rw [hq1] at hm
      have h := (Rect.mem_set_unit (inb := inb).mp hm) 0
      have h' : (i 0).val % 2 ≤ (y 0).val ∧ (y 0).val < (i 0).val % 2 + 1 := h
      omega

end Loop

end Cert.UpIdeal.Hand
-- ==== Proof.UpConv.lean ====
/-
  The depthwise convolution and the gate of one 16-column strip: the nine taps, the activation, the requantisation, at one place.
-/
module

public import proofs.«01_k».proof.Proof.UpArrays

@[expose] public section

set_option maxRecDepth 8192
set_option maxHeartbeats 400000

noncomputable section

namespace Cert.UpIdeal.Hand

open Cert.UpIdeal Cert.UpIdeal.Gen Idealize.ShloMosaic Idealize.ShloMosaic.TcCoe Idealize.SL.Sem
open Idealize.ShloMosaic.ValueIdx
open scoped BigOperators

/-- The clip to the format's finite range. -/
def clip (v : EReal) : EReal := min (Ideal.ofBits .f32 0x43E00000#32) (max (Ideal.ofBits .f32 0xC3E00000#32) v)

/-- Nine products added from the left, then a bias. -/
def conv9 (t k : Fin 9 → EReal) (b : EReal) : EReal :=
  t 0 * k 0 + t 1 * k 1 + t 2 * k 2 + t 3 * k 3 + t 4 * k 4 + t 5 * k 5 + t 6 * k 6 + t 7 * k 7 + t 8 * k 8 + b

/-- One code of the gated unit, from the taps of the value and of the gate. -/
def unit (tv kv : Fin 9 → EReal) (bv : EReal) (tu ku : Fin 9 → EReal) (bu inv : EReal) : EReal :=
  clip (conv9 tv kv bv * act (conv9 tu ku bu) * inv)

/-- One product of a tap and its weights. -/
def tapV (T : FVec Ideal S16x128 .bf16) (K : FVec Ideal S1x16x128 .bf16) : FVec Ideal S16x128 .f32 :=
  mulf (extf .f32 T bitsLt_bf16_f32) (extf .f32 (shapeCast S16x128 K shapeCasts_S1x16x128_S16x128 : FVec Ideal S16x128 .bf16) bitsLt_bf16_f32)

/-- The convolution of a strip. -/
def convV (T : Fin 9 → FVec Ideal S16x128 .bf16) (K : Fin 9 → FVec Ideal S1x16x128 .bf16) (b : FVec Ideal S1x128 .f32) : FVec Ideal S16x128 .f32 :=
  addf (addf (addf (addf (addf (addf (addf (addf (addf (tapV (T 0) (K 0)) (tapV (T 1) (K 1))) (tapV (T 2) (K 2))) (tapV (T 3) (K 3))) (tapV (T 4) (K 4)))
    (tapV (T 5) (K 5))) (tapV (T 6) (K 6))) (tapV (T 7) (K 7))) (tapV (T 8) (K 8)))
    (broadcastTo S16x128 (shapeCast S1x128 b shapeCasts_S1x128_S1x128 : FVec Ideal S1x128 .f32) broadcasts_S1x128_S16x128)

/-- The codes of a strip before the cast. -/
def stripV (Tv Tu : Fin 9 → FVec Ideal S16x128 .bf16) (Kv Ku : Fin 9 → FVec Ideal S1x16x128 .bf16) (bv bu : FVec Ideal S1x128 .f32)
    (inv : Elt Ideal .f32) : FVec Ideal S16x128 .f32 :=
  minimumf (broadcast S16x128 (Scalar.ofBits .f32 0x43E00000#32 : Ideal .f32)) (maximumf (broadcast S16x128 (Scalar.ofBits .f32 0xC3E00000#32 : Ideal .f32))
    (mulf (mulf (convV Tv Kv bv) (addf (mulf (convV Tu Ku bu) (tanh (convV Tu Ku bu))) (convV Tu Ku bu))) (broadcast S16x128 inv)))

/-- Two strips, one under the other. -/
def pairV (Tv Tu : Fin 2 → Fin 9 → FVec Ideal S16x128 .bf16) (Kv Ku : Fin 9 → FVec Ideal S1x16x128 .bf16) (bv bu : FVec Ideal S1x128 .f32)
    (inv : Elt Ideal .f32) : FVec Ideal S32x128 .fp8e4m3 :=
  truncf .fp8e4m3 (concatenate S32x128 0 [⟨S16x128, stripV (Tv 0) (Tu 0) Kv Ku bv bu inv⟩, ⟨S16x128, stripV (Tv 1) (Tu 1) Kv Ku bv bu inv⟩]
    concatenates_S16x128_S16x128_S32x128_d0 : FVec Ideal S32x128 .f32) bitsLt_fp8e4m3_f32

theorem convV_apply (T K b) (w : Fin 16) (l : Fin 128) :
    convV T K b (ix2 w l) = conv9 (fun n => T n (ix2 w l)) (fun n => K n (ix3 (n0 := 1) (n1 := 16) (n2 := 128) 0 w l)) (b (ix2 (n0 := 1) (n1 := 128) 0 l)) := by
  have hk : ∀ n, tapV (T n) (K n) (ix2 w l) = (T n (ix2 w l) : EReal) * K n (ix3 (n0 := 1) (n1 := 16) (n2 := 128) 0 w l) := fun n =>
    congrArg (fun a : EReal => (T n (ix2 w l) : EReal) * a) (shapeCast_apply _ _ _ _ (by
      rw [Shape.rowMajor_val_two, Shape.rowMajor_val_three]
      show (0 * 16 + w.val) * 128 + l.val = w.val * 128 + l.val
      omega))
  unfold convV conv9
  simp only [addf_apply, hk, shapeCast_self]
  exact congrArg (fun a : EReal => _ + a) (broadcastTo_apply _ _ _ _ (fun a => by match a with | ⟨0, _⟩ => rfl | ⟨1, _⟩ => rfl))

theorem stripV_apply (Tv Tu Kv Ku bv bu inv) (w : Fin 16) (l : Fin 128) :
    stripV Tv Tu Kv Ku bv bu inv (ix2 w l)
      = unit (fun n => Tv n (ix2 w l)) (fun n => Kv n (ix3 (n0 := 1) (n1 := 16) (n2 := 128) 0 w l)) (bv (ix2 (n0 := 1) (n1 := 128) 0 l))
          (fun n => Tu n (ix2 w l)) (fun n => Ku n (ix3 (n0 := 1) (n1 := 16) (n2 := 128) 0 w l)) (bu (ix2 (n0 := 1) (n1 := 128) 0 l)) inv := by
  have ht : ∀ (T : FVec Ideal S16x128 .f32) j, tanh T j = Ideal.tanh (T j) := fun _ _ => rfl
  unfold stripV
  rw [ValueIdx.minimumf_apply, ValueIdx.maximumf_apply, mulf_apply, mulf_apply, addf_apply, mulf_apply, ht, convV_apply, convV_apply]
  rfl

/-- The two strips at one place: strip `r`, column `w` of it. -/
theorem pairV_apply (Tv Tu Kv Ku bv bu inv) (r : Fin 2) (w : Fin 16) (l : Fin 128) (y : S32x128.Idx) (h0 : (y 0).val = 16 * r.val + w.val) (h1 : (y 1).val = l.val) :
    pairV Tv Tu Kv Ku bv bu inv y
      = unit (fun n => Tv r n (ix2 w l)) (fun n => Kv n (ix3 (n0 := 1) (n1 := 16) (n2 := 128) 0 w l)) (bv (ix2 (n0 := 1) (n1 := 128) 0 l))
          (fun n => Tu r n (ix2 w l)) (fun n => Ku n (ix3 (n0 := 1) (n1 := 16) (n2 := 128) 0 w l)) (bu (ix2 (n0 := 1) (n1 := 128) 0 l)) inv := by
  refine Eq.trans ?_ (stripV_apply _ _ _ _ _ _ _ w l)
  unfold pairV
  rw [ValueIdx.truncf_apply]
  match r, h0 with
  | ⟨0, _⟩, h0 =>
    refine concatenate_pair_apply_left (s₁ := S16x128) (s₂ := S16x128) 0 _ _ _ y rfl (ix2 (n0 := 16) (n1 := 128) w l : S16x128.Idx) (fun b => ?_)
    match b with
    | ⟨0, _⟩ => exact ((h0.trans (Nat.zero_add _))).symm
    | ⟨1, _⟩ => exact h1.symm
  | ⟨1, _⟩, h0 =>
    refine concatenate_pair_apply_right (s₁ := S16x128) (s₂ := S16x128) 0 _ _ _ y rfl rfl (ix2 (n0 := 16) (n1 := 128) w l : S16x128.Idx) (fun b hb => ?_) ?_
    · match b with
      | ⟨0, _⟩ => exact absurd rfl hb
      | ⟨1, _⟩ => exact h1.symm
    · have h0' : (y 0).val = 16 * 1 + w.val := h0
      show w.val + 16 = (y 0).val
      omega

section Taps

variable (arg9 arg10 : Memref sig .tc .vmem S9x16x512 .bf16) (arg11 : Memref sig .tc .vmem S1x512 .f32)
  (arg15 : Memref sig .tc .vmem S2x3x8x8x128x128 .bf16) (arg16 arg17 : Memref sig .tc .vmem S3x8x128x128 .bf16)
  (X9 : BufTy.Contents (Elt Ideal) arg9.view.ty) (X11 : BufTy.Contents (Elt Ideal) arg11.view.ty)
  (X15 : BufTy.Contents (Elt Ideal) arg15.view.ty) (X16 : BufTy.Contents (Elt Ideal) arg16.view.ty) (X17 : BufTy.Contents (Elt Ideal) arg17.view.ty)

/-- The tap of tile row `row` at row offset `dr` and column offset `dc`: the row above the tile, a row of it, or the row below. -/
def tapAt (P : S2x3x8x8x128x128.Idx → EReal) (top bot : S3x8x128x128.Idx → EReal) (prev row dr dc p w l : ℕ) : EReal :=
  if row + dr = 0 then rd top ![dc, p, w, l] else if row + dr = 9 then rd bot ![dc, p, w, l] else rd P ![prev, dc, p, row + dr - 1, w, l]

/-- A strip of a shifted panel. -/
def mid (off : Fin 6 → ℕ) (inb : ∀ a, off a + S1x1x1x1x16x128.size a ≤ S2x3x8x8x128x128.size a) : FVec Ideal S16x128 .bf16 :=
  shapeCast S16x128 (View.readAt (Elt Ideal) arg15.view (Rect.unit (s := S2x3x8x8x128x128) off S1x1x1x1x16x128.size inb).toLoadRect X15 : FVec Ideal S1x1x1x1x16x128 .bf16)
    shapeCasts_S1x1x1x1x16x128_S16x128

/-- A strip of a row beside the tile. -/
def edge (off : Fin 4 → ℕ) (inb : ∀ a, off a + S1x1x16x128.size a ≤ S3x8x128x128.size a) : FVec Ideal S16x128 .bf16 :=
  shapeCast S16x128 (View.readAt (Elt Ideal) arg16.view (Rect.unit (s := S3x8x128x128) off S1x1x16x128.size inb).toLoadRect X16 : FVec Ideal S1x1x16x128 .bf16)
    shapeCasts_S1x1x16x128_S16x128

/-- A row of weights. -/
def wts (off : Fin 3 → ℕ) (inb : ∀ a, off a + S1x16x128.size a ≤ S9x16x512.size a) : FVec Ideal S1x16x128 .bf16 :=
  View.readAt (Elt Ideal) arg9.view (Rect.unit (s := S9x16x512) off S1x16x128.size inb).toLoadRect X9

/-- A row of biases. -/
def bias (off : Fin 2 → ℕ) (inb : ∀ a, off a + S1x128.size a ≤ S1x512.size a) : FVec Ideal S1x128 .f32 :=
  View.readAt (Elt Ideal) arg11.view (Rect.unit (s := S1x512) off S1x128.size inb).toLoadRect X11

theorem mid_apply {off : Fin 6 → ℕ} {inb} {a b p s e : ℕ} (hoff : off = ![a, b, p, s, e, 0]) (w : Fin 16) (l : Fin 128) :
    mid arg15 X15 off inb (ix2 w l) = rd (arg15.view.read (Elt Ideal) X15) ![a, b, p, s, e + w.val, l.val] := by
  subst hoff
  refine (shapeCast_apply _ _ _ (fun d => match d with | ⟨0, _⟩ => (0 : Fin 1) | ⟨1, _⟩ => (0 : Fin 1) | ⟨2, _⟩ => (0 : Fin 1) | ⟨3, _⟩ => (0 : Fin 1) | ⟨4, _⟩ => w | ⟨5, _⟩ => l : S1x1x1x1x16x128.Idx) ?_).trans ?_
  · rw [Shape.rowMajor_val_two, Shape.rowMajor_val_six]
    show ((((0 * 1 + 0) * 1 + 0) * 1 + 0) * 16 + w.val) * 128 + l.val = w.val * 128 + l.val
    omega
  · exact readAt_rd (e := .bf16) (0 : EReal) arg15.view X15 _ _ _ _ _ (fun d => by
      match d with | ⟨0, _⟩ => rfl | ⟨1, _⟩ => rfl | ⟨2, _⟩ => rfl | ⟨3, _⟩ => rfl | ⟨4, _⟩ => rfl | ⟨5, _⟩ => exact Nat.zero_add _)

theorem edge_apply {off : Fin 4 → ℕ} {inb} {a b e : ℕ} (hoff : off = ![a, b, e, 0]) (w : Fin 16) (l : Fin 128) :
    edge arg16 X16 off inb (ix2 w l) = rd (arg16.view.read (Elt Ideal) X16) ![a, b, e + w.val, l.val] := by
  subst hoff
  refine (shapeCast_apply _ _ _ (ix4 (n0 := 1) (n1 := 1) (n2 := 16) (n3 := 128) 0 0 w l) ?_).trans ?_
  · rw [Shape.rowMajor_val_two, Shape.rowMajor_val_four]
    show ((0 * 1 + 0) * 16 + w.val) * 128 + l.val = w.val * 128 + l.val
    omega
  · exact readAt_rd (e := .bf16) (0 : EReal) arg16.view X16 _ _ _ _ _ (fun d => by
      match d with | ⟨0, _⟩ => rfl | ⟨1, _⟩ => rfl | ⟨2, _⟩ => rfl | ⟨3, _⟩ => exact Nat.zero_add _)

theorem wts_apply {off : Fin 3 → ℕ} {inb} {n b : ℕ} (hoff : off = ![n, 0, b]) (w : Fin 16) (l : Fin 128) :
    wts arg9 X9 off inb (ix3 (n0 := 1) (n1 := 16) (n2 := 128) 0 w l) = rd (arg9.view.read (Elt Ideal) X9) ![n, w.val, b + l.val] := by
  subst hoff
  exact readAt_rd (e := .bf16) (0 : EReal) arg9.view X9 _ _ _ _ _ (fun d => by
      match d with | ⟨0, _⟩ => rfl | ⟨1, _⟩ => exact Nat.zero_add _ | ⟨2, _⟩ => rfl)

theorem bias_apply {off : Fin 2 → ℕ} {inb} {b : ℕ} (hoff : off = ![0, b]) (l : Fin 128) :
    bias arg11 X11 off inb (ix2 (n0 := 1) (n1 := 128) 0 l) = rd (arg11.view.read (Elt Ideal) X11) ![0, b + l.val] := by
  subst hoff
  exact readAt_rd (e := .f32) (0 : EReal) arg11.view X11 _ _ _ _ _ (fun d => by match d with | ⟨0, _⟩ => rfl | ⟨1, _⟩ => rfl)

/-- The strips as taps. -/
theorem mid_tap {top bot : S3x8x128x128.Idx → EReal} {off : Fin 6 → ℕ} {inb} {prev b p s e : ℕ} (row dr : ℕ) (hoff : off = ![prev, b, p, s, e, 0])
    (hs : row + dr = s + 1) (hs8 : s < 8) (w : Fin 16) (l : Fin 128) :
    mid arg15 X15 off inb (ix2 w l) = tapAt (arg15.view.read (Elt Ideal) X15) top bot prev row dr b p (e + w.val) l.val := by
  rw [mid_apply arg15 X15 hoff]
  unfold tapAt
  rw [if_neg (by omega), if_neg (by omega), show row + dr - 1 = s by omega]

theorem top_tap {P : S2x3x8x8x128x128.Idx → EReal} {bot : S3x8x128x128.Idx → EReal} {off : Fin 4 → ℕ} {inb} {prev b p e : ℕ} (hoff : off = ![b, p, e, 0])
    (w : Fin 16) (l : Fin 128) :
    edge arg16 X16 off inb (ix2 w l) = tapAt P (arg16.view.read (Elt Ideal) X16) bot prev 0 0 b p (e + w.val) l.val := by
  rw [edge_apply arg16 X16 hoff]; rfl

theorem bot_tap {P : S2x3x8x8x128x128.Idx → EReal} {top : S3x8x128x128.Idx → EReal} {off : Fin 4 → ℕ} {inb} {prev b p e : ℕ} (hoff : off = ![b, p, e, 0])
    (w : Fin 16) (l : Fin 128) :
    edge arg17 X17 off inb (ix2 w l) = tapAt P top (arg17.view.read (Elt Ideal) X17) prev 7 2 b p (e + w.val) l.val := by
  rw [edge_apply arg17 X17 hoff]; rfl

end Taps

theorem forall9 {p : Fin 9 → Prop} (h0 : p 0) (h1 : p 1) (h2 : p 2) (h3 : p 3) (h4 : p 4) (h5 : p 5) (h6 : p 6) (h7 : p 7) (h8 : p 8) : ∀ n, p n :=
  fun n => by
    match n with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact h6
    | ⟨7, _⟩ => exact h7
    | ⟨8, _⟩ => exact h8

end Cert.UpIdeal.Hand
-- ==== Proof.UpIdealLoop.lean ====
/-
  The loop over the four value panels of `up_conv_glu`, one trip at a time. A trip runs the three generated inner
  loops (first row, middle rows, last row); what it leaves in the output block is a function of what it found there,
  named by the run itself, and the loop leaves the iterate of those functions.
-/
module

public import proofs.«01_k».proof.Proof.Gen.UpIdeal.Loops

@[expose] public section

set_option maxRecDepth 8192
set_option maxHeartbeats 4000000

noncomputable section

namespace Cert.UpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.UpIdeal.Gen

variable {F : FTy → Type} [FloatOps F]

local notation "𝕄" => MT nD τ sig Unit (Elt F) ℕ (UR sig nD τ) ℕ

variable (𝒱 : Variants) (c : Dev nD) (bd : Option 𝒱.V) (i : grid0.Coords)
  (arg1 : Memref sig .tc .smem S1 .f32) (harg1 : arg1.IsWhole)
  (arg2 : Memref sig .tc .vmem S1024x3072 .fp8e4m3) (harg2 : arg2.IsWhole)
  (arg3 : Memref sig .tc .vmem S3072x512 .fp8e4m3) (harg3 : arg3.IsWhole)
  (arg4 : Memref sig .tc .vmem S3072x512 .fp8e4m3) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S9x16x512 .bf16) (harg9 : arg9.IsWhole)
  (arg10 : Memref sig .tc .vmem S9x16x512 .bf16) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1024x512 .fp8e4m3) (harg13 : arg13.IsWhole)
  (arg14 : Memref sig .tc .vmem S8x4x144x128 .f32) (harg14 : arg14.IsWhole)
  (arg15 : Memref sig .tc .vmem S2x3x8x8x128x128 .bf16) (harg15 : arg15.IsWhole)
  (arg16 : Memref sig .tc .vmem S3x8x128x128 .bf16) (harg16 : arg16.IsWhole)
  (arg17 : Memref sig .tc .vmem S3x8x128x128 .bf16) (harg17 : arg17.IsWhole)
  (v6 : BitVec 32) (v17 : Elt F .f32)
  (X9 : BufTy.Contents (Elt F) arg9.view.ty) (X10 : BufTy.Contents (Elt F) arg10.view.ty) (X11 : BufTy.Contents (Elt F) arg11.view.ty) (X12 : BufTy.Contents (Elt F) arg12.view.ty) (X15 : BufTy.Contents (Elt F) arg15.view.ty) (X16 : BufTy.Contents (Elt F) arg16.view.ty) (X17 : BufTy.Contents (Elt F) arg17.view.ty)

/-- What a trip uses: the taps, the biases and the three halves of the window at their contents, the output block at any. -/
abbrev TripRes (f : BufTy.Contents (Elt F) arg13.view.ty) : sProp 𝕄 :=
  iprop((arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg13.view.loc (c : Thread nD τ) ↦[arg13.view.set]{fullShare} f))

/-- One trip: the output block it leaves, from the one it found. -/
@[irreducible] def trip (k : Fin k0_t2_loop.trips) :
    { N : BufTy.Contents (Elt F) arg13.view.ty → BufTy.Contents (Elt F) arg13.view.ty //
      ∀ (E : Set ℕ) (f : BufTy.Contents (Elt F) arg13.view.ty),
        TripRes (F := F) c arg9 arg10 arg11 arg12 arg13 arg15 arg16 arg17 X9 X10 X11 X12 X15 X16 X17 f
        ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 k PUnit.unit)
            (fun _ => TripRes (F := F) c arg9 arg10 arg11 arg12 arg13 arg15 arg16 arg17 X9 X10 X11 X12 X15 X16 X17 (N f)) } := by
  have hk : k.val < 4 := Nat.lt_of_lt_of_le k.isLt k0_t2_abs.2.1
  refine ⟨?_, fun E f => ?run⟩
  case run =>
    unfold k0_t2_body
    iintro ⟨H9, H10, H11, H12, H15, H16, H17, H13⟩
    sl_exec
    sl_step
    sl_close

/-- The output block before trip `k`, from the block before the loop. -/
def before (G : BufTy.Contents (Elt F) arg13.view.ty) : ℕ → BufTy.Contents (Elt F) arg13.view.ty
  | 0 => G
  | k + 1 => if h : k < k0_t2_loop.trips then
      (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 ⟨k, h⟩).1 (before G k)
    else before G k

theorem before_succ (G : BufTy.Contents (Elt F) arg13.view.ty) (k : Fin k0_t2_loop.trips) :
    before (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 G (k.val + 1)
      = (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 k).1 (before (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 G k.val) := by
  rw [before.eq_2]; exact dif_pos k.isLt

set_option warn.classDefReducibility false in
/-- The loop by its invariant. -/
@[sl_loop] def loopInv (E : Set ℕ) (G : BufTy.Contents (Elt F) arg13.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 where
  inv := fun k _ => iprop((arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (∃ f, (arg13.view.loc (c : Thread nD τ) ↦[arg13.view.set]{fullShare} f) ∗ ⌜f = before (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 G k⌝))
  step k acc := by
    iintro ⟨H9, H10, H11, H12, H15, H16, H17, ⟨%f, H13, %h⟩⟩
    iapply (wp_wand_r Idealize.ShloMosaic.frame (wpE (defs₀ (F := F)) 𝒱 (c : Thread nD τ) bd) E)
    isplitl [H9 H10 H11 H12 H15 H16 H17 H13]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 k).2 E f)
      isplitl [H9]; · iexact H9
      isplitl [H10]; · iexact H10
      isplitl [H11]; · iexact H11
      isplitl [H12]; · iexact H12
      isplitl [H15]; · iexact H15
      isplitl [H16]; · iexact H16
      isplitl [H17]; · iexact H17
      iexact H13
    · iintro %_ ⟨H9, H10, H11, H12, H15, H16, H17, H13⟩
      isplitl [H9]; · iexact H9
      isplitl [H10]; · iexact H10
      isplitl [H11]; · iexact H11
      isplitl [H12]; · iexact H12
      isplitl [H15]; · iexact H15
      isplitl [H16]; · iexact H16
      isplitl [H17]; · iexact H17
      iexists _; isplitl [H13]; · iexact H13
      ipureintro; rw [before_succ, h]

end Cert.UpIdeal.Hand

end
-- ==== Proof.UpCodes.lean ====
/-
  The loops over the tile's rows: each stores two strips of codes, the gated unit's values at their places.
-/
module

public import proofs.«01_k».proof.Proof.UpConv
public import proofs.«01_k».proof.Proof.UpIdealLoop

@[expose] public section

set_option maxRecDepth 8192
set_option maxHeartbeats 400000

noncomputable section

namespace Cert.UpIdeal.Hand

open Cert.UpIdeal Cert.UpIdeal.Gen Idealize.ShloMosaic Idealize.ShloMosaic.TcCoe Idealize.SL.Sem
open Idealize.ShloMosaic.ValueIdx
open scoped BigOperators

/-- The code at row `row`, column `w`, lane `l` of panel `pv`, from the panels, the rows beside the tile, weights, biases and scale. -/
def code (P : S2x3x8x8x128x128.Idx → EReal) (top bot : S3x8x128x128.Idx → EReal) (kv kg : S9x16x512.Idx → EReal) (cv cg : S1x512.Idx → EReal) (inv : EReal)
    (prev row w pv l : ℕ) : EReal :=
  unit (fun n => tapAt P top bot prev row (n.val / 3) (n.val % 3) pv w l) (fun n => rd kv ![n.val, w % 16, 128 * pv + l]) (rd cv ![0, 128 * pv + l])
    (fun n => tapAt P top bot prev row (n.val / 3) (n.val % 3) (pv + 4) w l) (fun n => rd kg ![n.val, w % 16, 128 * pv + l]) (rd cg ![0, 128 * pv + l]) inv

/-- The output block's code at a place. -/
def codes (P : S2x3x8x8x128x128.Idx → EReal) (top bot : S3x8x128x128.Idx → EReal) (kv kg : S9x16x512.Idx → EReal) (cv cg : S1x512.Idx → EReal) (inv : EReal)
    (prev : ℕ) (y : S1024x512.Idx) : EReal :=
  code P top bot kv kg cv cg inv prev ((y 0).val / 128) ((y 0).val % 128) ((y 1).val / 128) ((y 1).val % 128)

/-- A stored pair of strips: where it lies and what it holds. -/
def Pair (G : S1024x512.Idx → EReal) (row k pv : ℕ) (q : View.Piece (Elt Ideal) S1024x512 .fp8e4m3) : Prop :=
  (∃ inb, q.1 = Rect.unit (s := S1024x512) ![128 * row + 32 * k, 128 * pv] S32x128.size inb) ∧ ∀ x, q.2 x = G (q.1.emb x)

/-- Nine things by their number. -/
def nine {α : Type} (a0 a1 a2 a3 a4 a5 a6 a7 a8 : α) : Fin 9 → α
  | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7 | ⟨8, _⟩ => a8

theorem nine_all {α : Type} {a0 a1 a2 a3 a4 a5 a6 a7 a8 : α} (Q : ℕ → α → Prop) (h0 : Q 0 a0) (h1 : Q 1 a1) (h2 : Q 2 a2) (h3 : Q 3 a3) (h4 : Q 4 a4)
    (h5 : Q 5 a5) (h6 : Q 6 a6) (h7 : Q 7 a7) (h8 : Q 8 a8) : ∀ n : Fin 9, Q n.val (nine a0 a1 a2 a3 a4 a5 a6 a7 a8 n) := fun n => by
  match n with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7
  | ⟨8, _⟩ => exact h8

theorem nine_taps {α : Type} {a0 a1 a2 a3 a4 a5 a6 a7 a8 : α} (Q : ℕ → ℕ → α → Prop) (h0 : Q 0 0 a0) (h1 : Q 0 1 a1) (h2 : Q 0 2 a2) (h3 : Q 1 0 a3)
    (h4 : Q 1 1 a4) (h5 : Q 1 2 a5) (h6 : Q 2 0 a6) (h7 : Q 2 1 a7) (h8 : Q 2 2 a8) :
    ∀ n : Fin 9, Q (n.val / 3) (n.val % 3) (nine a0 a1 a2 a3 a4 a5 a6 a7 a8 n) :=
  nine_all (fun n a => Q (n / 3) (n % 3) a) h0 h1 h2 h3 h4 h5 h6 h7 h8

/-- Two strips that are a tap of a row of the tile. -/
def IsTap (P : S2x3x8x8x128x128.Idx → EReal) (top bot : S3x8x128x128.Idx → EReal) (prev row k p dr dc : ℕ) (T : Fin 2 → FVec Ideal S16x128 .bf16) : Prop :=
  ∀ (r : Fin 2) (w : Fin 16) (l : Fin 128), T r (ix2 w l) = tapAt P top bot prev row dr dc p (32 * k + 16 * r.val + w.val) l.val

/-- A row of weights of a panel. -/
def IsWts (kv : S9x16x512.Idx → EReal) (pv n : ℕ) (K : FVec Ideal S1x16x128 .bf16) : Prop :=
  ∀ (w : Fin 16) (l : Fin 128), K (ix3 (n0 := 1) (n1 := 16) (n2 := 128) 0 w l) = rd kv ![n, w.val, 128 * pv + l.val]

theorem inb_of {n : ℕ} {off off' sz tot : Fin n → ℕ} (h : off = off') (h' : ∀ a, off' a + sz a ≤ tot a) : ∀ a, off a + sz a ≤ tot a := h ▸ h'

theorem inb3 {n b : ℕ} (hn : n < 9) (hb : b + 128 ≤ 512) : ∀ a, (![n, 0, b] : Fin 3 → ℕ) a + S1x16x128.size a ≤ S9x16x512.size a := fun a => by
  match a with
  | ⟨0, _⟩ => show n + 1 ≤ 9; omega
  | ⟨1, _⟩ => show 0 + 16 ≤ 16; omega
  | ⟨2, _⟩ => show b + 128 ≤ 512; omega

theorem inb4 {b p e : ℕ} (hb : b < 3) (hp : p < 8) (he : e + 16 ≤ 128) : ∀ a, (![b, p, e, 0] : Fin 4 → ℕ) a + S1x1x16x128.size a ≤ S3x8x128x128.size a := fun a => by
  match a with
  | ⟨0, _⟩ => show b + 1 ≤ 3; omega
  | ⟨1, _⟩ => show p + 1 ≤ 8; omega
  | ⟨2, _⟩ => show e + 16 ≤ 128; omega
  | ⟨3, _⟩ => show 0 + 128 ≤ 128; omega

theorem inb6 {g b p s e : ℕ} (hg : g < 2) (hb : b < 3) (hp : p < 8) (hs : s < 8) (he : e + 16 ≤ 128) :
    ∀ a, (![g, b, p, s, e, 0] : Fin 6 → ℕ) a + S1x1x1x1x16x128.size a ≤ S2x3x8x8x128x128.size a := fun a => by
  match a with
  | ⟨0, _⟩ => show g + 1 ≤ 2; omega
  | ⟨1, _⟩ => show b + 1 ≤ 3; omega
  | ⟨2, _⟩ => show p + 1 ≤ 8; omega
  | ⟨3, _⟩ => show s + 1 ≤ 8; omega
  | ⟨4, _⟩ => show e + 16 ≤ 128; omega
  | ⟨5, _⟩ => show 0 + 128 ≤ 128; omega

section Taps

variable (arg9 : Memref sig .tc .vmem S9x16x512 .bf16) (arg15 : Memref sig .tc .vmem S2x3x8x8x128x128 .bf16) (arg16 : Memref sig .tc .vmem S3x8x128x128 .bf16)
  (X9 : BufTy.Contents (Elt Ideal) arg9.view.ty) (X15 : BufTy.Contents (Elt Ideal) arg15.view.ty) (X16 : BufTy.Contents (Elt Ideal) arg16.view.ty)

theorem strip_le {k : ℕ} (hk : k < 4) (r : Fin 2) : 32 * k + 16 * r.val + 16 ≤ 128 := by have := r.isLt; omega

theorem isTap_mid {top bot : S3x8x128x128.Idx → EReal} {prev row k p dr b s : ℕ} (hk : k < 4) (hg : prev < 2) (hb : b < 3) (hp : p < 8) (hs8 : s < 8) (hs : row + dr = s + 1)
    (off : Fin 2 → Fin 6 → ℕ) (hoff : ∀ r, off r = ![prev, b, p, s, 32 * k + 16 * r.val, 0]) :
    IsTap (arg15.view.read (Elt Ideal) X15) top bot prev row k p dr b (fun r => mid arg15 X15 (off r) (inb_of (hoff r) (inb6 hg hb hp hs8 (strip_le hk r)))) :=
  fun r w l => mid_tap arg15 X15 row dr (hoff r) hs hs8 w l

theorem isTap_top {P : S2x3x8x8x128x128.Idx → EReal} {bot : S3x8x128x128.Idx → EReal} {prev k p b : ℕ} (hk : k < 4) (hb : b < 3) (hp : p < 8)
    (off : Fin 2 → Fin 4 → ℕ) (hoff : ∀ r, off r = ![b, p, 32 * k + 16 * r.val, 0]) :
    IsTap P (arg16.view.read (Elt Ideal) X16) bot prev 0 k p 0 b (fun r => edge arg16 X16 (off r) (inb_of (hoff r) (inb4 hb hp (strip_le hk r)))) :=
  fun r w l => top_tap arg16 X16 (hoff r) w l

theorem isTap_bot {P : S2x3x8x8x128x128.Idx → EReal} {top : S3x8x128x128.Idx → EReal} {prev k p b : ℕ} (hk : k < 4) (hb : b < 3) (hp : p < 8)
    (off : Fin 2 → Fin 4 → ℕ) (hoff : ∀ r, off r = ![b, p, 32 * k + 16 * r.val, 0]) :
    IsTap P top (arg16.view.read (Elt Ideal) X16) prev 7 k p 2 b (fun r => edge arg16 X16 (off r) (inb_of (hoff r) (inb4 hb hp (strip_le hk r)))) :=
  fun r w l => bot_tap arg16 X16 (hoff r) w l

theorem isWts_of {n pv : ℕ} (hn : n < 9) (hpv : pv < 4) {off : Fin 3 → ℕ} (hoff : off = ![n, 0, 128 * pv]) :
    IsWts (arg9.view.read (Elt Ideal) X9) pv n (wts arg9 X9 off (inb_of hoff (inb3 hn (by omega)))) :=
  fun w l => wts_apply arg9 X9 hoff w l

end Taps

theorem pair_of {P : S2x3x8x8x128x128.Idx → EReal} {top bot : S3x8x128x128.Idx → EReal} {kv kg : S9x16x512.Idx → EReal} {cv cg : S1x512.Idx → EReal}
    {inv : EReal} {prev : ℕ} (row k pv : ℕ) (hk : k < 4) {off : Fin 2 → ℕ} (hoff : off = ![128 * row + 32 * k, 128 * pv])
    (inb : ∀ a, off a + S32x128.size a ≤ S1024x512.size a)
    {Tv Tu : Fin 9 → Fin 2 → FVec Ideal S16x128 .bf16} {Kv Ku : Fin 9 → FVec Ideal S1x16x128 .bf16} {bv bu : FVec Ideal S1x128 .f32}
    (hTv : ∀ n : Fin 9, IsTap P top bot prev row k pv (n.val / 3) (n.val % 3) (Tv n)) (hTu : ∀ n : Fin 9, IsTap P top bot prev row k (pv + 4) (n.val / 3) (n.val % 3) (Tu n))
    (hKv : ∀ n : Fin 9, IsWts kv pv n.val (Kv n)) (hKu : ∀ n : Fin 9, IsWts kg pv n.val (Ku n))
    (hbv : ∀ l : Fin 128, bv (ix2 (n0 := 1) (n1 := 128) 0 l) = rd cv ![0, 128 * pv + l.val])
    (hbu : ∀ l : Fin 128, bu (ix2 (n0 := 1) (n1 := 128) 0 l) = rd cg ![0, 128 * pv + l.val])
    {V : FVec Ideal S32x128 .fp8e4m3} (hV : V = pairV (fun r n => Tv n r) (fun r n => Tu n r) Kv Ku bv bu inv) :
    Pair (codes P top bot kv kg cv cg inv prev) row k pv ⟨Rect.unit (s := S1024x512) off S32x128.size inb, V⟩ := by
  subst hoff
  refine ⟨⟨inb, rfl⟩, fun x => ?_⟩
  have h0 : (x 0).val < 32 := (x 0).isLt
  have h1 : (x 1).val < 128 := (x 1).isLt
  have hr : (x 0).val / 16 < 2 := by omega
  have hw : (x 0).val % 16 < 16 := by omega
  refine (congrFun hV x).trans ((pairV_apply (fun r n => Tv n r) (fun r n => Tu n r) Kv Ku bv bu inv ⟨(x 0).val / 16, hr⟩ ⟨(x 0).val % 16, hw⟩ ⟨(x 1).val, h1⟩ x (by show (x 0).val = 16 * ((x 0).val / 16) + (x 0).val % 16; omega) rfl).trans ?_)
  have e0 : ((Rect.unit (s := S1024x512) ![128 * row + 32 * k, 128 * pv] S32x128.size inb).emb x 0).val = 128 * row + 32 * k + (x 0).val := by
    show 128 * row + 32 * k + 1 * (x 0).val = _
    omega
  have e1 : ((Rect.unit (s := S1024x512) ![128 * row + 32 * k, 128 * pv] S32x128.size inb).emb x 1).val = 128 * pv + (x 1).val := by
    show 128 * pv + 1 * (x 1).val = _
    omega
  unfold codes code
  rw [e0, e1, show (128 * row + 32 * k + (x 0).val) / 128 = row by omega, show (128 * row + 32 * k + (x 0).val) % 128 = 32 * k + (x 0).val by omega,
    show (128 * pv + (x 1).val) / 128 = pv by omega, show (128 * pv + (x 1).val) % 128 = (x 1).val by omega]
  have eTv := fun n => hTv n ⟨(x 0).val / 16, hr⟩ ⟨(x 0).val % 16, hw⟩ ⟨(x 1).val, h1⟩
  have eTu := fun n => hTu n ⟨(x 0).val / 16, hr⟩ ⟨(x 0).val % 16, hw⟩ ⟨(x 1).val, h1⟩
  have eKv := fun n => hKv n ⟨(x 0).val % 16, hw⟩ ⟨(x 1).val, h1⟩
  have eKu := fun n => hKu n ⟨(x 0).val % 16, hw⟩ ⟨(x 1).val, h1⟩
  simp only [eTv, eTu, eKv, eKu, hbv, hbu]
  rw [show 32 * k + 16 * ((x 0).val / 16) + (x 0).val % 16 = 32 * k + (x 0).val by omega, show (32 * k + (x 0).val) % 16 = (x 0).val % 16 by omega]

section Trips

variable (𝒱 : Variants) (c : Dev nD) (bd : Option 𝒱.V) (i : grid0.Coords)
  (arg1 : Memref sig .tc .smem S1 .f32) (harg1 : arg1.IsWhole)
  (arg2 : Memref sig .tc .vmem S1024x3072 .fp8e4m3) (harg2 : arg2.IsWhole)
  (arg3 : Memref sig .tc .vmem S3072x512 .fp8e4m3) (harg3 : arg3.IsWhole)
  (arg4 : Memref sig .tc .vmem S3072x512 .fp8e4m3) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S9x16x512 .bf16) (harg9 : arg9.IsWhole)
  (arg10 : Memref sig .tc .vmem S9x16x512 .bf16) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1024x512 .fp8e4m3) (harg13 : arg13.IsWhole)
  (arg14 : Memref sig .tc .vmem S8x4x144x128 .f32) (harg14 : arg14.IsWhole)
  (arg15 : Memref sig .tc .vmem S2x3x8x8x128x128 .bf16) (harg15 : arg15.IsWhole)
  (arg16 : Memref sig .tc .vmem S3x8x128x128 .bf16) (harg16 : arg16.IsWhole)
  (arg17 : Memref sig .tc .vmem S3x8x128x128 .bf16) (harg17 : arg17.IsWhole)
  (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X15 : BufTy.Contents (Elt Ideal) arg15.view.ty) (X16 : BufTy.Contents (Elt Ideal) arg16.view.ty) (X17 : BufTy.Contents (Elt Ideal) arg17.view.ty)
  (v6 : BitVec 32) (v17 : Elt Ideal .f32) (k0_t2 : Fin k0_t2_loop.trips) (arg18 v27 : BitVec 32) (v29 v32 : Vec Ideal S1x128 .f32)

/-- The first row of the tile, one pair of strips. -/
theorem pair3 (k : Fin k0_t3_loop.trips)
    (hbv : ∀ l : Fin 128, v29 (ix2 (n0 := 1) (n1 := 128) 0 l) = rd (arg11.view.read (Elt Ideal) X11) ![0, 128 * k0_t2.val + l.val])
    (hbu : ∀ l : Fin 128, v32 (ix2 (n0 := 1) (n1 := 128) 0 l) = rd (arg12.view.read (Elt Ideal) X12) ![0, 128 * k0_t2.val + l.val]) :
    ∃ q, (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 k0_t2 arg18 v27 v29 v32  X9 X10 X15 X16 k).1 = [q] ∧ Pair (codes (arg15.view.read (Elt Ideal) X15) (arg16.view.read (Elt Ideal) X16) (arg17.view.read (Elt Ideal) X17) (arg9.view.read (Elt Ideal) X9) (arg10.view.read (Elt Ideal) X10) (arg11.view.read (Elt Ideal) X11) (arg12.view.read (Elt Ideal) X12) v17 (1 - (i 0).val % 2)) 0 k.val k0_t2.val q := by
  have hk : k.val < 4 := Nat.lt_of_lt_of_le k.isLt k0_t3_abs.2.1
  have h2 : k0_t2.val < 4 := Nat.lt_of_lt_of_le k0_t2.isLt k0_t2_abs.2.1
  have hp : k0_t2.val < 8 := by omega
  have hp4 : k0_t2.val + 4 < 8 := by omega
  have hg : 1 - (i 0).val % 2 < 2 := by omega
  have ho := k0_off79_eq k0_t2 k
  have hTv := nine_taps (IsTap (arg15.view.read (Elt Ideal) X15) (arg16.view.read (Elt Ideal) X16) (arg17.view.read (Elt Ideal) X17) (1 - (i 0).val % 2) 0 k.val k0_t2.val)
      (isTap_top arg16 X16 hk (by decide) hp (fun r => k0_off53 k0_t2 k (BitVec.ofNat 32 r.val)) (fun r => k0_off53_eq k0_t2 k r))
      (isTap_top arg16 X16 hk (by decide) hp (fun r => k0_off55 k0_t2 k (BitVec.ofNat 32 r.val)) (fun r => k0_off55_eq k0_t2 k r))
      (isTap_top arg16 X16 hk (by decide) hp (fun r => k0_off57 k0_t2 k (BitVec.ofNat 32 r.val)) (fun r => k0_off57_eq k0_t2 k r))
      (isTap_mid arg15 X15 (s := 0) hk hg (by decide) hp (by omega) (by omega) (fun r => k0_off59 i k0_t2 k (BitVec.ofNat 32 r.val)) (fun r => k0_off59_eq i k0_t2 k r))
      (isTap_mid arg15 X15 (s := 0) hk hg (by decide) hp (by omega) (by omega) (fun r => k0_off61 i k0_t2 k (BitVec.ofNat 32 r.val)) (fun r => k0_off61_eq i k0_t2 k r))
      (isTap_mid arg15 X15 (s := 0) hk hg (by decide) hp (by omega) (by omega) (fun r => k0_off63 i k0_t2 k (BitVec.ofNat 32 r.val)) (fun r => k0_off63_eq i k0_t2 k r))
      (isTap_mid arg15 X15 (s := 1) hk hg (by decide) hp (by omega) (by omega) (fun r => k0_off65 i k0_t2 k (BitVec.ofNat 32 r.val)) (fun r => k0_off65_eq i k0_t2 k r))
      (isTap_mid arg15 X15 (s := 1) hk hg (by decide) hp (by omega) (by omega) (fun r => k0_off67 i k0_t2 k (BitVec.ofNat 32 r.val)) (fun r => k0_off67_eq i k0_t2 k r))
      (isTap_mid arg15 X15 (s := 1) hk hg (by decide) hp (by omega) (by omega) (fun r => k0_off69 i k0_t2 k (BitVec.ofNat 32 r.val)) (fun r => k0_off69_eq i k0_t2 k r))
  have hTu := nine_taps (IsTap (arg15.view.read (Elt Ideal) X15) (arg16.view.read (Elt Ideal) X16) (arg17.view.read (Elt Ideal) X17) (1 - (i 0).val % 2) 0 k.val (k0_t2.val + 4))
      (isTap_top arg16 X16 hk (by decide) hp4 (fun r => k0_off70 k0_t2 k (BitVec.ofNat 32 r.val)) (fun r => k0_off70_eq k0_t2 k r))
      (isTap_top arg16 X16 hk (by decide) hp4 (fun r => k0_off71 k0_t2 k (BitVec.ofNat 32 r.val)) (fun r => k0_off71_eq k0_t2 k r))
      (isTap_top arg16 X16 hk (by decide) hp4 (fun r => k0_off72 k0_t2 k (BitVec.ofNat 32 r.val)) (fun r => k0_off72_eq k0_t2 k r))
      (isTap_mid arg15 X15 (s := 0) hk hg (by decide) hp4 (by omega) (by omega) (fun r => k0_off73 i k0_t2 k (BitVec.ofNat 32 r.val)) (fun r => k0_off73_eq i k0_t2 k r))
      (isTap_mid arg15 X15 (s := 0) hk hg (by decide) hp4 (by omega) (by omega) (fun r => k0_off74 i k0_t2 k (BitVec.ofNat 32 r.val)) (fun r => k0_off74_eq i k0_t2 k r))
      (isTap_mid arg15 X15 (s := 0) hk hg (by decide) hp4 (by omega) (by omega) (fun r => k0_off75 i k0_t2 k (BitVec.ofNat 32 r.val)) (fun r => k0_off75_eq i k0_t2 k r))
      (isTap_mid arg15 X15 (s := 1) hk hg (by decide) hp4 (by omega) (by omega) (fun r => k0_off76 i k0_t2 k (BitVec.ofNat 32 r.val)) (fun r => k0_off76_eq i k0_t2 k r))
      (isTap_mid arg15 X15 (s := 1) hk hg (by decide) hp4 (by omega) (by omega) (fun r => k0_off77 i k0_t2 k (BitVec.ofNat 32 r.val)) (fun r => k0_off77_eq i k0_t2 k r))
      (isTap_mid arg15 X15 (s := 1) hk hg (by decide) hp4 (by omega) (by omega) (fun r => k0_off78 i k0_t2 k (BitVec.ofNat 32 r.val)) (fun r => k0_off78_eq i k0_t2 k r))
  have hKv := nine_all (IsWts (arg9.view.read (Elt Ideal) X9) k0_t2.val)
      (isWts_of arg9 X9 (by decide) h2 (k0_off52_eq k0_t2))
      (isWts_of arg9 X9 (by decide) h2 (k0_off54_eq k0_t2))
      (isWts_of arg9 X9 (by decide) h2 (k0_off56_eq k0_t2))
      (isWts_of arg9 X9 (by decide) h2 (k0_off58_eq k0_t2))
      (isWts_of arg9 X9 (by decide) h2 (k0_off60_eq k0_t2))
      (isWts_of arg9 X9 (by decide) h2 (k0_off62_eq k0_t2))
      (isWts_of arg9 X9 (by decide) h2 (k0_off64_eq k0_t2))
      (isWts_of arg9 X9 (by decide) h2 (k0_off66_eq k0_t2))
      (isWts_of arg9 X9 (by decide) h2 (k0_off68_eq k0_t2))
  have hKu := nine_all (IsWts (arg10.view.read (Elt Ideal) X10) k0_t2.val)
      (isWts_of arg10 X10 (by decide) h2 (k0_off52_eq k0_t2))
      (isWts_of arg10 X10 (by decide) h2 (k0_off54_eq k0_t2))
      (isWts_of arg10 X10 (by decide) h2 (k0_off56_eq k0_t2))
      (isWts_of arg10 X10 (by decide) h2 (k0_off58_eq k0_t2))
      (isWts_of arg10 X10 (by decide) h2 (k0_off60_eq k0_t2))
      (isWts_of arg10 X10 (by decide) h2 (k0_off62_eq k0_t2))
      (isWts_of arg10 X10 (by decide) h2 (k0_off64_eq k0_t2))
      (isWts_of arg10 X10 (by decide) h2 (k0_off66_eq k0_t2))
      (isWts_of arg10 X10 (by decide) h2 (k0_off68_eq k0_t2))
  unfold trip_k0_t3
  dsimp only
  exact ⟨_, rfl, pair_of 0 k.val k0_t2.val hk (ho.trans (by rw [show 128 * 0 + 32 * k.val = 32 * k.val by omega])) _ hTv hTu hKv hKu hbv hbu rfl⟩

/-- A middle row of the tile, one pair of strips. -/
theorem pair5 (k0_t4 : Fin k0_t4_loop.trips) (arg19 : BitVec 32) (k : Fin k0_t5_loop.trips)
    (hbv : ∀ l : Fin 128, v29 (ix2 (n0 := 1) (n1 := 128) 0 l) = rd (arg11.view.read (Elt Ideal) X11) ![0, 128 * k0_t2.val + l.val])
    (hbu : ∀ l : Fin 128, v32 (ix2 (n0 := 1) (n1 := 128) 0 l) = rd (arg12.view.read (Elt Ideal) X12) ![0, 128 * k0_t2.val + l.val]) :
    ∃ q, (trip_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 k0_t2 arg18 v27 v29 v32 k0_t4 arg19 X9 X10 X15 k).1 = [q] ∧ Pair (codes (arg15.view.read (Elt Ideal) X15) (arg16.view.read (Elt Ideal) X16) (arg17.view.read (Elt Ideal) X17) (arg9.view.read (Elt Ideal) X9) (arg10.view.read (Elt Ideal) X10) (arg11.view.read (Elt Ideal) X11) (arg12.view.read (Elt Ideal) X12) v17 (1 - (i 0).val % 2)) (k0_t4.val + 1) k.val k0_t2.val q := by
  have hk : k.val < 4 := Nat.lt_of_lt_of_le k.isLt k0_t5_abs.2.1
  have h2 : k0_t2.val < 4 := Nat.lt_of_lt_of_le k0_t2.isLt k0_t2_abs.2.1
  have hp : k0_t2.val < 8 := by omega
  have hp4 : k0_t2.val + 4 < 8 := by omega
  have hg : 1 - (i 0).val % 2 < 2 := by omega
  have h4 : k0_t4.val < 6 := Nat.lt_of_lt_of_le k0_t4.isLt k0_t4_abs.2.1
  have ho := k0_off95_eq k0_t2 k0_t4 k
  have hTv := nine_taps (IsTap (arg15.view.read (Elt Ideal) X15) (arg16.view.read (Elt Ideal) X16) (arg17.view.read (Elt Ideal) X17) (1 - (i 0).val % 2) (k0_t4.val + 1) k.val k0_t2.val)
      (isTap_mid arg15 X15 (s := k0_t4.val + 0) hk hg (by decide) hp (by omega) (by omega) (fun r => k0_off81 i k0_t2 k0_t4 k 0#32 (BitVec.ofNat 32 r.val)) (fun r => k0_off81_eq i k0_t2 k0_t4 k 0 r))
      (isTap_mid arg15 X15 (s := k0_t4.val + 0) hk hg (by decide) hp (by omega) (by omega) (fun r => k0_off83 i k0_t2 k0_t4 k 0#32 (BitVec.ofNat 32 r.val)) (fun r => k0_off83_eq i k0_t2 k0_t4 k 0 r))
      (isTap_mid arg15 X15 (s := k0_t4.val + 0) hk hg (by decide) hp (by omega) (by omega) (fun r => k0_off85 i k0_t2 k0_t4 k 0#32 (BitVec.ofNat 32 r.val)) (fun r => k0_off85_eq i k0_t2 k0_t4 k 0 r))
      (isTap_mid arg15 X15 (s := k0_t4.val + 1) hk hg (by decide) hp (by omega) (by omega) (fun r => k0_off81 i k0_t2 k0_t4 k 1#32 (BitVec.ofNat 32 r.val)) (fun r => k0_off81_eq i k0_t2 k0_t4 k 1 r))
      (isTap_mid arg15 X15 (s := k0_t4.val + 1) hk hg (by decide) hp (by omega) (by omega) (fun r => k0_off83 i k0_t2 k0_t4 k 1#32 (BitVec.ofNat 32 r.val)) (fun r => k0_off83_eq i k0_t2 k0_t4 k 1 r))
      (isTap_mid arg15 X15 (s := k0_t4.val + 1) hk hg (by decide) hp (by omega) (by omega) (fun r => k0_off85 i k0_t2 k0_t4 k 1#32 (BitVec.ofNat 32 r.val)) (fun r => k0_off85_eq i k0_t2 k0_t4 k 1 r))
      (isTap_mid arg15 X15 (s := k0_t4.val + 2) hk hg (by decide) hp (by omega) (by omega) (fun r => k0_off81 i k0_t2 k0_t4 k 2#32 (BitVec.ofNat 32 r.val)) (fun r => k0_off81_eq i k0_t2 k0_t4 k 2 r))
      (isTap_mid arg15 X15 (s := k0_t4.val + 2) hk hg (by decide) hp (by omega) (by omega) (fun r => k0_off83 i k0_t2 k0_t4 k 2#32 (BitVec.ofNat 32 r.val)) (fun r => k0_off83_eq i k0_t2 k0_t4 k 2 r))
      (isTap_mid arg15 X15 (s := k0_t4.val + 2) hk hg (by decide) hp (by omega) (by omega) (fun r => k0_off85 i k0_t2 k0_t4 k 2#32 (BitVec.ofNat 32 r.val)) (fun r => k0_off85_eq i k0_t2 k0_t4 k 2 r))
  have hTu := nine_taps (IsTap (arg15.view.read (Elt Ideal) X15) (arg16.view.read (Elt Ideal) X16) (arg17.view.read (Elt Ideal) X17) (1 - (i 0).val % 2) (k0_t4.val + 1) k.val (k0_t2.val + 4))
      (isTap_mid arg15 X15 (s := k0_t4.val + 0) hk hg (by decide) hp4 (by omega) (by omega) (fun r => k0_off92 i k0_t2 k0_t4 k 0#32 (BitVec.ofNat 32 r.val)) (fun r => k0_off92_eq i k0_t2 k0_t4 k 0 r))
      (isTap_mid arg15 X15 (s := k0_t4.val + 0) hk hg (by decide) hp4 (by omega) (by omega) (fun r => k0_off93 i k0_t2 k0_t4 k 0#32 (BitVec.ofNat 32 r.val)) (fun r => k0_off93_eq i k0_t2 k0_t4 k 0 r))
      (isTap_mid arg15 X15 (s := k0_t4.val + 0) hk hg (by decide) hp4 (by omega) (by omega) (fun r => k0_off94 i k0_t2 k0_t4 k 0#32 (BitVec.ofNat 32 r.val)) (fun r => k0_off94_eq i k0_t2 k0_t4 k 0 r))
      (isTap_mid arg15 X15 (s := k0_t4.val + 1) hk hg (by decide) hp4 (by omega) (by omega) (fun r => k0_off92 i k0_t2 k0_t4 k 1#32 (BitVec.ofNat 32 r.val)) (fun r => k0_off92_eq i k0_t2 k0_t4 k 1 r))
      (isTap_mid arg15 X15 (s := k0_t4.val + 1) hk hg (by decide) hp4 (by omega) (by omega) (fun r => k0_off93 i k0_t2 k0_t4 k 1#32 (BitVec.ofNat 32 r.val)) (fun r => k0_off93_eq i k0_t2 k0_t4 k 1 r))
      (isTap_mid arg15 X15 (s := k0_t4.val + 1) hk hg (by decide) hp4 (by omega) (by omega) (fun r => k0_off94 i k0_t2 k0_t4 k 1#32 (BitVec.ofNat 32 r.val)) (fun r => k0_off94_eq i k0_t2 k0_t4 k 1 r))
      (isTap_mid arg15 X15 (s := k0_t4.val + 2) hk hg (by decide) hp4 (by omega) (by omega) (fun r => k0_off92 i k0_t2 k0_t4 k 2#32 (BitVec.ofNat 32 r.val)) (fun r => k0_off92_eq i k0_t2 k0_t4 k 2 r))
      (isTap_mid arg15 X15 (s := k0_t4.val + 2) hk hg (by decide) hp4 (by omega) (by omega) (fun r => k0_off93 i k0_t2 k0_t4 k 2#32 (BitVec.ofNat 32 r.val)) (fun r => k0_off93_eq i k0_t2 k0_t4 k 2 r))
      (isTap_mid arg15 X15 (s := k0_t4.val + 2) hk hg (by decide) hp4 (by omega) (by omega) (fun r => k0_off94 i k0_t2 k0_t4 k 2#32 (BitVec.ofNat 32 r.val)) (fun r => k0_off94_eq i k0_t2 k0_t4 k 2 r))
  have hKv := nine_all (IsWts (arg9.view.read (Elt Ideal) X9) k0_t2.val)
      (isWts_of arg9 X9 (by decide) h2 (k0_off80_eq k0_t2))
      (isWts_of arg9 X9 (by decide) h2 (k0_off82_eq k0_t2))
      (isWts_of arg9 X9 (by decide) h2 (k0_off84_eq k0_t2))
      (isWts_of arg9 X9 (by decide) h2 (k0_off86_eq k0_t2))
      (isWts_of arg9 X9 (by decide) h2 (k0_off87_eq k0_t2))
      (isWts_of arg9 X9 (by decide) h2 (k0_off88_eq k0_t2))
      (isWts_of arg9 X9 (by decide) h2 (k0_off89_eq k0_t2))
      (isWts_of arg9 X9 (by decide) h2 (k0_off90_eq k0_t2))
      (isWts_of arg9 X9 (by decide) h2 (k0_off91_eq k0_t2))
  have hKu := nine_all (IsWts (arg10.view.read (Elt Ideal) X10) k0_t2.val)
      (isWts_of arg10 X10 (by decide) h2 (k0_off80_eq k0_t2))
      (isWts_of arg10 X10 (by decide) h2 (k0_off82_eq k0_t2))
      (isWts_of arg10 X10 (by decide) h2 (k0_off84_eq k0_t2))
      (isWts_of arg10 X10 (by decide) h2 (k0_off86_eq k0_t2))
      (isWts_of arg10 X10 (by decide) h2 (k0_off87_eq k0_t2))
      (isWts_of arg10 X10 (by decide) h2 (k0_off88_eq k0_t2))
      (isWts_of arg10 X10 (by decide) h2 (k0_off89_eq k0_t2))
      (isWts_of arg10 X10 (by decide) h2 (k0_off90_eq k0_t2))
      (isWts_of arg10 X10 (by decide) h2 (k0_off91_eq k0_t2))
  unfold trip_k0_t5
  dsimp only
  exact ⟨_, rfl, pair_of (k0_t4.val + 1) k.val k0_t2.val hk (ho.trans (by rw [show 128 * (k0_t4.val + 1) + 32 * k.val = 128 * k0_t4.val + 32 * k.val + 128 by omega])) _ hTv hTu hKv hKu hbv hbu rfl⟩

/-- The last row of the tile, one pair of strips. -/
theorem pair6 (k : Fin k0_t6_loop.trips)
    (hbv : ∀ l : Fin 128, v29 (ix2 (n0 := 1) (n1 := 128) 0 l) = rd (arg11.view.read (Elt Ideal) X11) ![0, 128 * k0_t2.val + l.val])
    (hbu : ∀ l : Fin 128, v32 (ix2 (n0 := 1) (n1 := 128) 0 l) = rd (arg12.view.read (Elt Ideal) X12) ![0, 128 * k0_t2.val + l.val]) :
    ∃ q, (trip_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 k0_t2 arg18 v27 v29 v32  X9 X10 X15 X17 k).1 = [q] ∧ Pair (codes (arg15.view.read (Elt Ideal) X15) (arg16.view.read (Elt Ideal) X16) (arg17.view.read (Elt Ideal) X17) (arg9.view.read (Elt Ideal) X9) (arg10.view.read (Elt Ideal) X10) (arg11.view.read (Elt Ideal) X11) (arg12.view.read (Elt Ideal) X12) v17 (1 - (i 0).val % 2)) 7 k.val k0_t2.val q := by
  have hk : k.val < 4 := Nat.lt_of_lt_of_le k.isLt k0_t6_abs.2.1
  have h2 : k0_t2.val < 4 := Nat.lt_of_lt_of_le k0_t2.isLt k0_t2_abs.2.1
  have hp : k0_t2.val < 8 := by omega
  have hp4 : k0_t2.val + 4 < 8 := by omega
  have hg : 1 - (i 0).val % 2 < 2 := by omega
  have ho := k0_off123_eq k0_t2 k
  have hTv := nine_taps (IsTap (arg15.view.read (Elt Ideal) X15) (arg16.view.read (Elt Ideal) X16) (arg17.view.read (Elt Ideal) X17) (1 - (i 0).val % 2) 7 k.val k0_t2.val)
      (isTap_mid arg15 X15 (s := 6) hk hg (by decide) hp (by omega) (by omega) (fun r => k0_off97 i k0_t2 k (BitVec.ofNat 32 r.val)) (fun r => k0_off97_eq i k0_t2 k r))
      (isTap_mid arg15 X15 (s := 6) hk hg (by decide) hp (by omega) (by omega) (fun r => k0_off99 i k0_t2 k (BitVec.ofNat 32 r.val)) (fun r => k0_off99_eq i k0_t2 k r))
      (isTap_mid arg15 X15 (s := 6) hk hg (by decide) hp (by omega) (by omega) (fun r => k0_off101 i k0_t2 k (BitVec.ofNat 32 r.val)) (fun r => k0_off101_eq i k0_t2 k r))
      (isTap_mid arg15 X15 (s := 7) hk hg (by decide) hp (by omega) (by omega) (fun r => k0_off103 i k0_t2 k (BitVec.ofNat 32 r.val)) (fun r => k0_off103_eq i k0_t2 k r))
      (isTap_mid arg15 X15 (s := 7) hk hg (by decide) hp (by omega) (by omega) (fun r => k0_off105 i k0_t2 k (BitVec.ofNat 32 r.val)) (fun r => k0_off105_eq i k0_t2 k r))
      (isTap_mid arg15 X15 (s := 7) hk hg (by decide) hp (by omega) (by omega) (fun r => k0_off107 i k0_t2 k (BitVec.ofNat 32 r.val)) (fun r => k0_off107_eq i k0_t2 k r))
      (isTap_bot arg17 X17 hk (by decide) hp (fun r => k0_off109 k0_t2 k (BitVec.ofNat 32 r.val)) (fun r => k0_off109_eq k0_t2 k r))
      (isTap_bot arg17 X17 hk (by decide) hp (fun r => k0_off111 k0_t2 k (BitVec.ofNat 32 r.val)) (fun r => k0_off111_eq k0_t2 k r))
      (isTap_bot arg17 X17 hk (by decide) hp (fun r => k0_off113 k0_t2 k (BitVec.ofNat 32 r.val)) (fun r => k0_off113_eq k0_t2 k r))
  have hTu := nine_taps (IsTap (arg15.view.read (Elt Ideal) X15) (arg16.view.read (Elt Ideal) X16) (arg17.view.read (Elt Ideal) X17) (1 - (i 0).val % 2) 7 k.val (k0_t2.val + 4))
      (isTap_mid arg15 X15 (s := 6) hk hg (by decide) hp4 (by omega) (by omega) (fun r => k0_off114 i k0_t2 k (BitVec.ofNat 32 r.val)) (fun r => k0_off114_eq i k0_t2 k r))
      (isTap_mid arg15 X15 (s := 6) hk hg (by decide) hp4 (by omega) (by omega) (fun r => k0_off115 i k0_t2 k (BitVec.ofNat 32 r.val)) (fun r => k0_off115_eq i k0_t2 k r))
      (isTap_mid arg15 X15 (s := 6) hk hg (by decide) hp4 (by omega) (by omega) (fun r => k0_off116 i k0_t2 k (BitVec.ofNat 32 r.val)) (fun r => k0_off116_eq i k0_t2 k r))
      (isTap_mid arg15 X15 (s := 7) hk hg (by decide) hp4 (by omega) (by omega) (fun r => k0_off117 i k0_t2 k (BitVec.ofNat 32 r.val)) (fun r => k0_off117_eq i k0_t2 k r))
      (isTap_mid arg15 X15 (s := 7) hk hg (by decide) hp4 (by omega) (by omega) (fun r => k0_off118 i k0_t2 k (BitVec.ofNat 32 r.val)) (fun r => k0_off118_eq i k0_t2 k r))
      (isTap_mid arg15 X15 (s := 7) hk hg (by decide) hp4 (by omega) (by omega) (fun r => k0_off119 i k0_t2 k (BitVec.ofNat 32 r.val)) (fun r => k0_off119_eq i k0_t2 k r))
      (isTap_bot arg17 X17 hk (by decide) hp4 (fun r => k0_off120 k0_t2 k (BitVec.ofNat 32 r.val)) (fun r => k0_off120_eq k0_t2 k r))
      (isTap_bot arg17 X17 hk (by decide) hp4 (fun r => k0_off121 k0_t2 k (BitVec.ofNat 32 r.val)) (fun r => k0_off121_eq k0_t2 k r))
      (isTap_bot arg17 X17 hk (by decide) hp4 (fun r => k0_off122 k0_t2 k (BitVec.ofNat 32 r.val)) (fun r => k0_off122_eq k0_t2 k r))
  have hKv := nine_all (IsWts (arg9.view.read (Elt Ideal) X9) k0_t2.val)
      (isWts_of arg9 X9 (by decide) h2 (k0_off96_eq k0_t2))
      (isWts_of arg9 X9 (by decide) h2 (k0_off98_eq k0_t2))
      (isWts_of arg9 X9 (by decide) h2 (k0_off100_eq k0_t2))
      (isWts_of arg9 X9 (by decide) h2 (k0_off102_eq k0_t2))
      (isWts_of arg9 X9 (by decide) h2 (k0_off104_eq k0_t2))
      (isWts_of arg9 X9 (by decide) h2 (k0_off106_eq k0_t2))
      (isWts_of arg9 X9 (by decide) h2 (k0_off108_eq k0_t2))
      (isWts_of arg9 X9 (by decide) h2 (k0_off110_eq k0_t2))
      (isWts_of arg9 X9 (by decide) h2 (k0_off112_eq k0_t2))
  have hKu := nine_all (IsWts (arg10.view.read (Elt Ideal) X10) k0_t2.val)
      (isWts_of arg10 X10 (by decide) h2 (k0_off96_eq k0_t2))
      (isWts_of arg10 X10 (by decide) h2 (k0_off98_eq k0_t2))
      (isWts_of arg10 X10 (by decide) h2 (k0_off100_eq k0_t2))
      (isWts_of arg10 X10 (by decide) h2 (k0_off102_eq k0_t2))
      (isWts_of arg10 X10 (by decide) h2 (k0_off104_eq k0_t2))
      (isWts_of arg10 X10 (by decide) h2 (k0_off106_eq k0_t2))
      (isWts_of arg10 X10 (by decide) h2 (k0_off108_eq k0_t2))
      (isWts_of arg10 X10 (by decide) h2 (k0_off110_eq k0_t2))
      (isWts_of arg10 X10 (by decide) h2 (k0_off112_eq k0_t2))
  unfold trip_k0_t6
  dsimp only
  exact ⟨_, rfl, pair_of 7 k.val k0_t2.val hk (ho.trans (by rw [show 128 * 7 + 32 * k.val = 32 * k.val + 896 by omega])) _ hTv hTu hKv hKu hbv hbu rfl⟩

end Trips

end Cert.UpIdeal.Hand
-- ==== Proof.UpBlock.lean ====
/-
  The output block after the loops over the tile: every place holds its code.
-/
module

public import proofs.«01_k».proof.Proof.UpCodes

@[expose] public section

set_option maxRecDepth 8192
set_option maxHeartbeats 400000

noncomputable section

namespace Cert.UpIdeal.Hand

open Cert.UpIdeal Cert.UpIdeal.Gen Idealize.ShloMosaic Idealize.ShloMosaic.TcCoe Idealize.SL.Sem
open Idealize.ShloMosaic.ValueIdx
open scoped BigOperators

/-- The pairs of row `row` up to `n` are stored, and nothing else. -/
def Strips (G : S1024x512.Idx → EReal) (row pv n : ℕ) (L : List (View.Piece (Elt Ideal) S1024x512 .fp8e4m3)) : Prop :=
  (∀ q ∈ L, ∃ k, k < 4 ∧ Pair G row k pv q) ∧ ∀ k, k < n → ∃ q ∈ L, Pair G row k pv q

theorem strips_nil {G row pv} : Strips G row pv 0 [] := ⟨fun q h => (List.not_mem_nil h).elim, fun k h => absurd h (Nat.not_lt_zero k)⟩

theorem strips_cons {G row pv n L L'} (hn : n < 4) (h : Strips G row pv n L) (h' : ∃ q, L' = [q] ∧ Pair G row n pv q) : Strips G row pv (n + 1) (L' ++ L) := by
  obtain ⟨q, rfl, hq⟩ := h'
  refine ⟨fun q' hq' => ?_, fun k hk => ?_⟩
  · rcases List.mem_append.mp hq' with h1 | h1
    · rw [List.mem_singleton.mp h1]; exact ⟨n, hn, hq⟩
    · exact h.1 q' h1
  · by_cases he : k = n
    · subst he; exact ⟨q, List.mem_append_left _ (List.mem_singleton.mpr rfl), hq⟩
    · obtain ⟨q', h1, h2⟩ := h.2 k (by omega)
      exact ⟨q', List.mem_append_right _ h1, h2⟩

/-- The rows from `a` up to `b` are stored, and nothing else. -/
def Rows (G : S1024x512.Idx → EReal) (pv a b : ℕ) (L : List (View.Piece (Elt Ideal) S1024x512 .fp8e4m3)) : Prop :=
  (∀ q ∈ L, ∃ row k, Pair G row k pv q) ∧ ∀ row k, a ≤ row → row < b → k < 4 → ∃ q ∈ L, Pair G row k pv q

theorem rows_nil {G pv a} : Rows G pv a a [] := ⟨fun q h => (List.not_mem_nil h).elim, fun row k h h' => absurd h (by omega)⟩

theorem rows_append {G pv a b d L L'} (h : Rows G pv a b L) (h' : Rows G pv b d L') : Rows G pv a d (L' ++ L) := by
  refine ⟨fun q hq => ?_, fun row k ha hd hk => ?_⟩
  · rcases List.mem_append.mp hq with h1 | h1
    · exact h'.1 q h1
    · exact h.1 q h1
  · by_cases hb : row < b
    · obtain ⟨q, h1, h2⟩ := h.2 row k ha hb hk
      exact ⟨q, List.mem_append_right _ h1, h2⟩
    · obtain ⟨q, h1, h2⟩ := h'.2 row k (by omega) hd hk
      exact ⟨q, List.mem_append_left _ h1, h2⟩

theorem rows_strips {G row pv L} (h : Strips G row pv 4 L) : Rows G pv row (row + 1) L :=
  ⟨fun q hq => (h.1 q hq).elim fun k hk => ⟨row, k, hk.2⟩, fun r k h1 h2 hk => by
    obtain rfl : r = row := by omega
    exact h.2 k hk⟩

section Trips

variable (𝒱 : Variants) (c : Dev nD) (bd : Option 𝒱.V) (i : grid0.Coords)
  (arg1 : Memref sig .tc .smem S1 .f32) (harg1 : arg1.IsWhole)
  (arg2 : Memref sig .tc .vmem S1024x3072 .fp8e4m3) (harg2 : arg2.IsWhole)
  (arg3 : Memref sig .tc .vmem S3072x512 .fp8e4m3) (harg3 : arg3.IsWhole)
  (arg4 : Memref sig .tc .vmem S3072x512 .fp8e4m3) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S9x16x512 .bf16) (harg9 : arg9.IsWhole)
  (arg10 : Memref sig .tc .vmem S9x16x512 .bf16) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1024x512 .fp8e4m3) (harg13 : arg13.IsWhole)
  (arg14 : Memref sig .tc .vmem S8x4x144x128 .f32) (harg14 : arg14.IsWhole)
  (arg15 : Memref sig .tc .vmem S2x3x8x8x128x128 .bf16) (harg15 : arg15.IsWhole)
  (arg16 : Memref sig .tc .vmem S3x8x128x128 .bf16) (harg16 : arg16.IsWhole)
  (arg17 : Memref sig .tc .vmem S3x8x128x128 .bf16) (harg17 : arg17.IsWhole)
  (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X15 : BufTy.Contents (Elt Ideal) arg15.view.ty) (X16 : BufTy.Contents (Elt Ideal) arg16.view.ty) (X17 : BufTy.Contents (Elt Ideal) arg17.view.ty)
  (v6 : BitVec 32) (v17 : Elt Ideal .f32) (k0_t2 : Fin k0_t2_loop.trips) (arg18 v27 : BitVec 32) (v29 v32 : Vec Ideal S1x128 .f32)

theorem strips3
    (hbv : ∀ l : Fin 128, v29 (ix2 (n0 := 1) (n1 := 128) 0 l) = rd (arg11.view.read (Elt Ideal) X11) ![0, 128 * k0_t2.val + l.val])
    (hbu : ∀ l : Fin 128, v32 (ix2 (n0 := 1) (n1 := 128) 0 l) = rd (arg12.view.read (Elt Ideal) X12) ![0, 128 * k0_t2.val + l.val])
    (n : ℕ) (hn : n ≤ 4) : Strips (codes (arg15.view.read (Elt Ideal) X15) (arg16.view.read (Elt Ideal) X16) (arg17.view.read (Elt Ideal) X17) (arg9.view.read (Elt Ideal) X9) (arg10.view.read (Elt Ideal) X10) (arg11.view.read (Elt Ideal) X11) (arg12.view.read (Elt Ideal) X12) v17 (1 - (i 0).val % 2)) 0 k0_t2.val n (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 k0_t2 arg18 v27 v29 v32  X9 X10 X15 X16 n) := by
  induction n with
  | zero => exact strips_nil
  | succ n ih =>
    have hk : n < k0_t3_loop.trips := by rw [show k0_t3_loop.trips = 4 from by decide]; omega
    have hs := pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 k0_t2 arg18 v27 v29 v32  X9 X10 X15 X16 ⟨n, hk⟩
    rw [show n + 1 = (⟨n, hk⟩ : Fin k0_t3_loop.trips).val + 1 from rfl, hs]
    exact strips_cons (show n < 4 by omega) (ih (by omega)) (pair3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X9 X10 X11 X12 X15 X16 X17 v6 v17 k0_t2 arg18 v27 v29 v32  ⟨n, hk⟩ hbv hbu)

theorem strips5 (k0_t4 : Fin k0_t4_loop.trips) (arg19 : BitVec 32)
    (hbv : ∀ l : Fin 128, v29 (ix2 (n0 := 1) (n1 := 128) 0 l) = rd (arg11.view.read (Elt Ideal) X11) ![0, 128 * k0_t2.val + l.val])
    (hbu : ∀ l : Fin 128, v32 (ix2 (n0 := 1) (n1 := 128) 0 l) = rd (arg12.view.read (Elt Ideal) X12) ![0, 128 * k0_t2.val + l.val])
    (n : ℕ) (hn : n ≤ 4) : Strips (codes (arg15.view.read (Elt Ideal) X15) (arg16.view.read (Elt Ideal) X16) (arg17.view.read (Elt Ideal) X17) (arg9.view.read (Elt Ideal) X9) (arg10.view.read (Elt Ideal) X10) (arg11.view.read (Elt Ideal) X11) (arg12.view.read (Elt Ideal) X12) v17 (1 - (i 0).val % 2)) (k0_t4.val + 1) k0_t2.val n (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 k0_t2 arg18 v27 v29 v32 k0_t4 arg19 X9 X10 X15 n) := by
  induction n with
  | zero => exact strips_nil
  | succ n ih =>
    have hk : n < k0_t5_loop.trips := by rw [show k0_t5_loop.trips = 4 from by decide]; omega
    have hs := pb_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 k0_t2 arg18 v27 v29 v32 k0_t4 arg19 X9 X10 X15 ⟨n, hk⟩
    rw [show n + 1 = (⟨n, hk⟩ : Fin k0_t5_loop.trips).val + 1 from rfl, hs]
    exact strips_cons (show n < 4 by omega) (ih (by omega)) (pair5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X9 X10 X11 X12 X15 X16 X17 v6 v17 k0_t2 arg18 v27 v29 v32 k0_t4 arg19 ⟨n, hk⟩ hbv hbu)

theorem strips6
    (hbv : ∀ l : Fin 128, v29 (ix2 (n0 := 1) (n1 := 128) 0 l) = rd (arg11.view.read (Elt Ideal) X11) ![0, 128 * k0_t2.val + l.val])
    (hbu : ∀ l : Fin 128, v32 (ix2 (n0 := 1) (n1 := 128) 0 l) = rd (arg12.view.read (Elt Ideal) X12) ![0, 128 * k0_t2.val + l.val])
    (n : ℕ) (hn : n ≤ 4) : Strips (codes (arg15.view.read (Elt Ideal) X15) (arg16.view.read (Elt Ideal) X16) (arg17.view.read (Elt Ideal) X17) (arg9.view.read (Elt Ideal) X9) (arg10.view.read (Elt Ideal) X10) (arg11.view.read (Elt Ideal) X11) (arg12.view.read (Elt Ideal) X12) v17 (1 - (i 0).val % 2)) 7 k0_t2.val n (pb_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 k0_t2 arg18 v27 v29 v32  X9 X10 X15 X17 n) := by
  induction n with
  | zero => exact strips_nil
  | succ n ih =>
    have hk : n < k0_t6_loop.trips := by rw [show k0_t6_loop.trips = 4 from by decide]; omega
    have hs := pb_k0_t6_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 k0_t2 arg18 v27 v29 v32  X9 X10 X15 X17 ⟨n, hk⟩
    rw [show n + 1 = (⟨n, hk⟩ : Fin k0_t6_loop.trips).val + 1 from rfl, hs]
    exact strips_cons (show n < 4 by omega) (ih (by omega)) (pair6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X9 X10 X11 X12 X15 X16 X17 v6 v17 k0_t2 arg18 v27 v29 v32  ⟨n, hk⟩ hbv hbu)

theorem rows4
    (hbv : ∀ l : Fin 128, v29 (ix2 (n0 := 1) (n1 := 128) 0 l) = rd (arg11.view.read (Elt Ideal) X11) ![0, 128 * k0_t2.val + l.val])
    (hbu : ∀ l : Fin 128, v32 (ix2 (n0 := 1) (n1 := 128) 0 l) = rd (arg12.view.read (Elt Ideal) X12) ![0, 128 * k0_t2.val + l.val])
    (n : ℕ) (hn : n ≤ 6) : Rows (codes (arg15.view.read (Elt Ideal) X15) (arg16.view.read (Elt Ideal) X16) (arg17.view.read (Elt Ideal) X17) (arg9.view.read (Elt Ideal) X9) (arg10.view.read (Elt Ideal) X10) (arg11.view.read (Elt Ideal) X11) (arg12.view.read (Elt Ideal) X12) v17 (1 - (i 0).val % 2)) k0_t2.val 1 (n + 1) (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 k0_t2 arg18 v27 v29 v32  X9 X10 X15 n) := by
  induction n with
  | zero => exact rows_nil
  | succ n ih =>
    have hk : n < k0_t4_loop.trips := by rw [show k0_t4_loop.trips = 6 from by decide]; omega
    have hs := pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 k0_t2 arg18 v27 v29 v32 X9 X10 X15 ⟨n, hk⟩
    have e : pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 k0_t2 arg18 v27 v29 v32 X9 X10 X15 (n + 1) = _ := hs
    rw [e]
    refine rows_append (ih (by omega)) ?_
    unfold tripL_k0_t4 trip_k0_t4
    dsimp only
    have h := strips5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X9 X10 X11 X12 X15 X16 X17 v6 v17 k0_t2 arg18 v27 v29 v32 ⟨n, hk⟩ (trip_k0_t4.sl.arg19 ⟨n, hk⟩) hbv hbu 4 (Nat.le_refl 4)
    exact rows_strips h

theorem rows_trip (f13 : BufTy.Contents (Elt Ideal) arg13.view.ty) :
    ∃ L, (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 k0_t2).1 f13 = arg13.view.writes (Elt Ideal) f13 L ∧ Rows (codes (arg15.view.read (Elt Ideal) X15) (arg16.view.read (Elt Ideal) X16) (arg17.view.read (Elt Ideal) X17) (arg9.view.read (Elt Ideal) X9) (arg10.view.read (Elt Ideal) X10) (arg11.view.read (Elt Ideal) X11) (arg12.view.read (Elt Ideal) X12) v17 (1 - (i 0).val % 2)) k0_t2.val 0 8 L := by
  unfold trip
  dsimp only
  have hv : ∀ inb, ∀ l : Fin 128, bias arg11 X11 (k0_off51 k0_t2) inb (ix2 (n0 := 1) (n1 := 128) 0 l) = _ := fun inb l => bias_apply arg11 X11 (k0_off51_eq k0_t2) l
  have hu : ∀ inb, ∀ l : Fin 128, bias arg12 X12 (k0_off51 k0_t2) inb (ix2 (n0 := 1) (n1 := 128) 0 l) = _ := fun inb l => bias_apply arg12 X12 (k0_off51_eq k0_t2) l
  exact ⟨_, rfl, rows_append (rows_append (rows_strips (strips3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X9 X10 X11 X12 X15 X16 X17 v6 v17 k0_t2 _ _ _ _ (hv _) (hu _) 4 (Nat.le_refl 4))) (rows4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X9 X10 X11 X12 X15 X16 X17 v6 v17 k0_t2 _ _ _ _ (hv _) (hu _) 6 (Nat.le_refl 6))) (rows_strips (strips6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X9 X10 X11 X12 X15 X16 X17 v6 v17 k0_t2 _ _ _ _ (hv _) (hu _) 4 (Nat.le_refl 4)))⟩

theorem block_after (f13 : BufTy.Contents (Elt Ideal) arg13.view.ty) (n : ℕ) (hn : n ≤ 4) (y : S1024x512.Idx) (hy : (y 1).val < 128 * n) :
    arg13.view.read (Elt Ideal) (before (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 f13 n) y = (codes (arg15.view.read (Elt Ideal) X15) (arg16.view.read (Elt Ideal) X16) (arg17.view.read (Elt Ideal) X17) (arg9.view.read (Elt Ideal) X9) (arg10.view.read (Elt Ideal) X10) (arg11.view.read (Elt Ideal) X11) (arg12.view.read (Elt Ideal) X12) v17 (1 - (i 0).val % 2)) y := by
  induction n with
  | zero => exact absurd hy (by omega)
  | succ n ih =>
    have hk : n < k0_t2_loop.trips := by rw [show k0_t2_loop.trips = 4 from by decide]; omega
    have hs := before_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 f13 ⟨n, hk⟩
    obtain ⟨L, hL, hR⟩ := rows_trip 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X9 X10 X11 X12 X15 X16 X17 v6 v17 ⟨n, hk⟩ (before (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 f13 n)
    have e : before (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 f13 (n + 1) = arg13.view.writes (Elt Ideal) _ L := hs.trans hL
    rw [e]
    by_cases h : (y 1).val < 128 * n
    · refine (View.read_writes_apply_of_forall_not_mem arg13.view _ y _ (fun q hq hm => ?_)).trans (ih (by omega) h)
      obtain ⟨row, k, ⟨inb, hq1⟩, _⟩ := hR.1 q hq
      rw [hq1] at hm
      have h1 : 128 * n ≤ (y 1).val := ((Rect.mem_set_unit (inb := inb).mp hm) 1).1
      omega
    · refine View.read_writes_apply_of_pieces (Val := Elt Ideal) (e := .fp8e4m3) arg13.view _ (codes (arg15.view.read (Elt Ideal) X15) (arg16.view.read (Elt Ideal) X16) (arg17.view.read (Elt Ideal) X17) (arg9.view.read (Elt Ideal) X9) (arg10.view.read (Elt Ideal) X10) (arg11.view.read (Elt Ideal) X11) (arg12.view.read (Elt Ideal) X12) v17 (1 - (i 0).val % 2)) _ (fun q hq => ?_) y ?_
      · obtain ⟨row, k, _, hq2⟩ := hR.1 q hq
        exact hq2
      · have h0 : (y 0).val < 1024 := (y 0).isLt
        obtain ⟨q, hq, ⟨inb, hq1⟩, _⟩ := hR.2 ((y 0).val / 128) ((y 0).val % 128 / 32) (Nat.zero_le _) (by omega) (by omega)
        refine ⟨q, hq, ?_⟩
        rw [hq1]
        refine Rect.mem_set_unit (inb := inb).mpr (fun a => ?_)
        match a with
        | ⟨0, _⟩ => exact ⟨(by show 128 * ((y 0).val / 128) + 32 * ((y 0).val % 128 / 32) ≤ (y 0).val; omega), (by show (y 0).val < 128 * ((y 0).val / 128) + 32 * ((y 0).val % 128 / 32) + 32; omega)⟩
        | ⟨1, _⟩ => exact ⟨(by show 128 * n ≤ (y 1).val; omega), (by show (y 1).val < 128 * n + 128; omega)⟩

end Trips

end Cert.UpIdeal.Hand
-- ==== Proof.UpIdealBody.lean ====
/-
  One run of the body of the gated unit's call: what it leaves in the output block and in its four scratch buffers, as functions of
  what it found there. The first grid point also clears the padded buffer and the row above; every later point does not.
-/
module

public import proofs.«01_k».proof.Proof.UpIdealLoop

@[expose] public section

set_option maxRecDepth 8192
set_option maxHeartbeats 4000000

noncomputable section

namespace Cert.UpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.UpIdeal.Gen

variable {F : FTy → Type} [FloatOps F]

local notation "𝕄" => MT nD τ sig Unit (Elt F) ℕ (UR sig nD τ) ℕ

variable (𝒱 : Variants) (c : Dev nD) (bd : Option 𝒱.V) (i : grid0.Coords)
  (arg1 : Memref sig .tc .smem S1 .f32) (harg1 : arg1.IsWhole)
  (arg2 : Memref sig .tc .vmem S1024x3072 .fp8e4m3) (harg2 : arg2.IsWhole)
  (arg3 : Memref sig .tc .vmem S3072x512 .fp8e4m3) (harg3 : arg3.IsWhole)
  (arg4 : Memref sig .tc .vmem S3072x512 .fp8e4m3) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S9x16x512 .bf16) (harg9 : arg9.IsWhole)
  (arg10 : Memref sig .tc .vmem S9x16x512 .bf16) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1024x512 .fp8e4m3) (harg13 : arg13.IsWhole)
  (arg14 : Memref sig .tc .vmem S8x4x144x128 .f32) (harg14 : arg14.IsWhole)
  (arg15 : Memref sig .tc .vmem S2x3x8x8x128x128 .bf16) (harg15 : arg15.IsWhole)
  (arg16 : Memref sig .tc .vmem S3x8x128x128 .bf16) (harg16 : arg16.IsWhole)
  (arg17 : Memref sig .tc .vmem S3x8x128x128 .bf16) (harg17 : arg17.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty)

/-- The body's windows and scratch at their contents. -/
abbrev BodyRes (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12)
    ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17))

/-- The first grid point. -/
abbrev IsFirst : Prop := Scalar.cmpi .ne (Scalar.extui (Scalar.cmpi .eq (BitVec.ofNat 32 (i 0).val) 0#32) : BitVec 32) 0#32 = 1#1

/-- The body at a point that is not the first. -/
@[irreducible] def rest (hi : ¬ IsFirst i) :
    Σ' (N13 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg13.view.ty)
      (N14 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg14.view.ty)
      (N15 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg15.view.ty)
      (N16 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg16.view.ty),
      { N17 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg17.view.ty //
      ∀ (E : Set ℕ) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty),
        BodyRes (F := F) c arg1 arg2 arg3 arg4 arg5 arg6 arg7 arg8 arg9 arg10 arg11 arg12 arg13 arg14 arg15 arg16 arg17 X1 X2 X3 X4 X5 X6 X7 X8 X9 X10 X11 X12 f13 f14 f15 f16 f17
        ⊢ wp frame (wpE (defs₀ (F := F)) 𝒱 (c : Thread nD τ) bd) E (cc0_up_conv_glu (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
            (fun _ => BodyRes (F := F) c arg1 arg2 arg3 arg4 arg5 arg6 arg7 arg8 arg9 arg10 arg11 arg12 arg13 arg14 arg15 arg16 arg17 X1 X2 X3 X4 X5 X6 X7 X8 X9 X10 X11 X12 (N13 f13 f14 f15 f16 f17) (N14 f13 f14 f15 f16 f17) (N15 f13 f14 f15 f16 f17) (N16 f13 f14 f15 f16 f17) (N17 f13 f14 f15 f16 f17)) } := by
  refine ⟨?_, ?_, ?_, ?_, ?_, fun E f13 f14 f15 f16 f17 => ?run⟩
  case run =>
    rw [cc0_up_conv_glu_eq_skeleton]
    unfold cc0_up_conv_glu_skel
    iintro ⟨H1, H2, H3, H4, H5, H6, H7, H8, H9, H10, H11, H12, H13, H14, H15, H16, H17⟩
    sl_exec_parts
    sl_step
    sl_close

/-- The body at the first point. -/
@[irreducible] def first (hi : IsFirst i) :
    Σ' (N13 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg13.view.ty)
      (N14 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg14.view.ty)
      (N15 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg15.view.ty)
      (N16 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg16.view.ty),
      { N17 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg17.view.ty //
      ∀ (E : Set ℕ) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty),
        BodyRes (F := F) c arg1 arg2 arg3 arg4 arg5 arg6 arg7 arg8 arg9 arg10 arg11 arg12 arg13 arg14 arg15 arg16 arg17 X1 X2 X3 X4 X5 X6 X7 X8 X9 X10 X11 X12 f13 f14 f15 f16 f17
        ⊢ wp frame (wpE (defs₀ (F := F)) 𝒱 (c : Thread nD τ) bd) E (cc0_up_conv_glu (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
            (fun _ => BodyRes (F := F) c arg1 arg2 arg3 arg4 arg5 arg6 arg7 arg8 arg9 arg10 arg11 arg12 arg13 arg14 arg15 arg16 arg17 X1 X2 X3 X4 X5 X6 X7 X8 X9 X10 X11 X12 (N13 f13 f14 f15 f16 f17) (N14 f13 f14 f15 f16 f17) (N15 f13 f14 f15 f16 f17) (N16 f13 f14 f15 f16 f17) (N17 f13 f14 f15 f16 f17)) } := by
  refine ⟨?_, ?_, ?_, ?_, ?_, fun E f13 f14 f15 f16 f17 => ?run⟩
  case run =>
    rw [cc0_up_conv_glu_eq_skeleton]
    unfold cc0_up_conv_glu_skel
    iintro ⟨H1, H2, H3, H4, H5, H6, H7, H8, H9, H10, H11, H12, H13, H14, H15, H16, H17⟩
    sl_exec_parts
    sl_step
    sl_close

end Cert.UpIdeal.Hand

end
-- ==== Proof.UpStep.lean ====
/-
  One grid point of the gated unit: what the body leaves in the scratch buffers and in the output block.
-/
module

public import proofs.«01_k».proof.Proof.UpPanels
public import proofs.«01_k».proof.Proof.UpBlock
public import proofs.«01_k».proof.Proof.UpIdealBody

@[expose] public section

set_option maxRecDepth 8192
set_option maxHeartbeats 400000

noncomputable section

namespace Cert.UpIdeal.Hand

open Cert.UpIdeal Cert.UpIdeal.Gen Idealize.ShloMosaic Idealize.ShloMosaic.TcCoe Idealize.SL.Sem
open Idealize.ShloMosaic.ValueIdx
open scoped BigOperators

theorem first8 : ∀ n : Fin 241, Scalar.cmpi .eq (Scalar.remsi (Scalar.remsi (BitVec.ofNat 32 n.val) 16#32) 8#32) 0#32 = if n.val % 8 = 0 then 1#1 else 0#1 := by
  decide +kernel

theorem isFirst_zero : ∀ n : Fin 241, Scalar.cmpi .ne (Scalar.extui (Scalar.cmpi .eq (BitVec.ofNat 32 n.val) 0#32) : BitVec 32) 0#32 = 1#1 → n.val = 0 := by
  decide +kernel

theorem trips_four : Scf.trips (0#32) (Scalar.addi 0#32 4#32) 1#32 = 4 := by decide

theorem ofBits_bf16_zero : Ideal.ofBits .bf16 0x0000#16 = 0 := by simp [Ideal.ofBits, Ideal.ieee]

/-- A choice between zero and a row of the panels. -/
theorem choose_apply (i : grid0.Coords) (v : FVec Ideal S1x3x8x1x128x128 .bf16) (z : FVec Ideal S3x8x128x128 .bf16) (hz : ∀ y, z y = (0 : EReal)) (y : S3x8x128x128.Idx) :
    Scalar.select (Scalar.cmpi .eq (Scalar.remsi (Scalar.remsi (BitVec.ofNat 32 (i 0).val) 16#32) 8#32) 0#32) z
        (shapeCast S3x8x128x128 v shapeCasts_S1x3x8x1x128x128_S3x8x128x128 : FVec Ideal S3x8x128x128 .bf16) y
      = if (i 0).val % 8 = 0 then (0 : EReal) else v (fun d => match d with | ⟨0, _⟩ => (0 : Fin 1) | ⟨1, _⟩ => y 0 | ⟨2, _⟩ => y 1 | ⟨3, _⟩ => (0 : Fin 1) | ⟨4, _⟩ => y 2 | ⟨5, _⟩ => y 3 : S1x3x8x1x128x128.Idx) := by
  have h := first8 (i 0)
  rw [show (BitVec.ofNat 32 (i 0).val) = BitVec.ofNat 32 ((i 0 : Fin 241)).val from rfl, h]
  by_cases h8 : (i 0).val % 8 = 0
  · rw [if_pos h8, if_pos h8]
    exact hz y
  · rw [if_neg h8, if_neg h8]
    refine (shapeCast_apply v _ y _ ?_)
    rw [Shape.rowMajor_val_four, Shape.rowMajor_val_six]
    show ((((0 * 3 + (y 0).val) * 8 + (y 1).val) * 1 + 0) * 128 + (y 2).val) * 128 + (y 3).val = (((y 0).val * 8 + (y 1).val) * 128 + (y 2).val) * 128 + (y 3).val
    omega

/-- A buffer stored whole reads as what was stored. -/
theorem read_stored {κ : Kind} {sp : Space} {s : Shape} {e : EltTy} (v : View sig κ sp s e) (f : v.ty.Contents (Elt Ideal)) (off : Fin s.rank → ℕ) (inb : ∀ a, off a + s.size a ≤ s.size a)
    (w : s.Idx → Elt Ideal e) (L : List (View.Piece (Elt Ideal) s e)) (y : s.Idx) :
    v.read (Elt Ideal) (v.writes (Elt Ideal) f (⟨Rect.unit off s.size inb, w⟩ :: L)) y = w y :=
  View.read_writes_cons_hit_of_coords v f (Rect.unit off s.size inb) w L y y (fun a => by
    have := inb a
    show (y a).val = off a + 1 * (y a).val
    omega)

section Step

variable (𝒱 : Variants) (c : Dev nD) (bd : Option 𝒱.V) (i : grid0.Coords)
  (arg1 : Memref sig .tc .smem S1 .f32) (harg1 : arg1.IsWhole)
  (arg2 : Memref sig .tc .vmem S1024x3072 .fp8e4m3) (harg2 : arg2.IsWhole)
  (arg3 : Memref sig .tc .vmem S3072x512 .fp8e4m3) (harg3 : arg3.IsWhole)
  (arg4 : Memref sig .tc .vmem S3072x512 .fp8e4m3) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S9x16x512 .bf16) (harg9 : arg9.IsWhole)
  (arg10 : Memref sig .tc .vmem S9x16x512 .bf16) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1024x512 .fp8e4m3) (harg13 : arg13.IsWhole)
  (arg14 : Memref sig .tc .vmem S8x4x144x128 .f32) (harg14 : arg14.IsWhole)
  (arg15 : Memref sig .tc .vmem S2x3x8x8x128x128 .bf16) (harg15 : arg15.IsWhole)
  (arg16 : Memref sig .tc .vmem S3x8x128x128 .bf16) (harg16 : arg16.IsWhole)
  (arg17 : Memref sig .tc .vmem S3x8x128x128 .bf16) (harg17 : arg17.IsWhole)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty)
  (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty)

/-- A row of the panels as a load. -/
theorem rows_load {off : Fin 6 → ℕ} {inb : ∀ a, off a + S1x3x8x1x128x128.size a ≤ S2x3x8x8x128x128.size a} {p r : ℕ} (hoff : off = ![p, 0, 0, r, 0, 0]) (X15 : BufTy.Contents (Elt Ideal) arg15.view.ty) (y : S3x8x128x128.Idx) :
    (View.readAt (Elt Ideal) arg15.view (Rect.unit (s := S2x3x8x8x128x128) off S1x3x8x1x128x128.size inb).toLoadRect X15 : FVec Ideal S1x3x8x1x128x128 .bf16) (fun d => match d with | ⟨0, _⟩ => (0 : Fin 1) | ⟨1, _⟩ => y 0 | ⟨2, _⟩ => y 1 | ⟨3, _⟩ => (0 : Fin 1) | ⟨4, _⟩ => y 2 | ⟨5, _⟩ => y 3 : S1x3x8x1x128x128.Idx)
      = rd (arg15.view.read (Elt Ideal) X15) ![p, (y 0).val, (y 1).val, r, (y 2).val, (y 3).val] := by
  subst hoff
  exact readAt_rd (e := .bf16) (0 : EReal) arg15.view X15 _ _ _ _ _ (fun d => by
      match d with | ⟨0, _⟩ => rfl | ⟨1, _⟩ => exact Nat.zero_add _ | ⟨2, _⟩ => exact Nat.zero_add _ | ⟨3, _⟩ => rfl | ⟨4, _⟩ => exact Nat.zero_add _ | ⟨5, _⟩ => exact Nat.zero_add _)

/-- The row below the tile, as stored. -/
theorem below_apply (X15 : BufTy.Contents (Elt Ideal) arg15.view.ty) (inb) (y : S3x8x128x128.Idx) :
    k0_pay181 i (View.readAt (Elt Ideal) arg15.view (Rect.unit (s := S2x3x8x8x128x128) (k0_off50 i) S1x3x8x1x128x128.size inb).toLoadRect X15 : FVec Ideal S1x3x8x1x128x128 .bf16) y
      = if (i 0).val % 8 = 0 then (0 : EReal) else rd (arg15.view.read (Elt Ideal) X15) ![(i 0).val % 2, (y 0).val, (y 1).val, 0, (y 2).val, (y 3).val] := by
  unfold k0_pay181
  rw [shapeCast_self]
  refine (choose_apply i _ _ (fun _ => ofBits_bf16_zero) y).trans ?_
  rw [rows_load arg15 (k0_off50_eq i) X15 y]

/-- The row above the next tile, as stored. -/
theorem above_apply (X15 : BufTy.Contents (Elt Ideal) arg15.view.ty) (inb) (y : S3x8x128x128.Idx) :
    k0_pay1 (Scalar.cmpi .eq (Scalar.remsi (Scalar.remsi (BitVec.ofNat 32 (i 0).val) 16#32) 8#32) 0#32) (k0_pay185 (View.readAt (Elt Ideal) arg15.view (Rect.unit (s := S2x3x8x8x128x128) (k0_off124 i) S1x3x8x1x128x128.size inb).toLoadRect X15 : FVec Ideal S1x3x8x1x128x128 .bf16)) k0_pay186 y
      = if (i 0).val % 8 = 0 then (0 : EReal) else rd (arg15.view.read (Elt Ideal) X15) ![1 - (i 0).val % 2, (y 0).val, (y 1).val, 7, (y 2).val, (y 3).val] := by
  unfold k0_pay1 k0_pay185 k0_pay186
  rw [shapeCast_self]
  refine (choose_apply i _ _ (fun _ => ofBits_bf16_zero) y).trans ?_
  rw [rows_load arg15 (k0_off124_eq i) X15 y]

theorem inv_apply (inb h) : View.readAt (Elt Ideal) arg1.view (Rect.unit (s := S1) ![0] S1.size inb).toLoadRect X1 (Shape.Idx.first h) = rd (arg1.view.read (Elt Ideal) X1) ![0] :=
  readAt_rd (e := .f32) (0 : EReal) arg1.view X1 _ _ _ _ _ (fun d => by match d with | ⟨0, _⟩ => rfl)

/-- A point after the first. -/
theorem rest_step (hi : ¬ IsFirst i) (hz : ∀ y : S8x4x144x128.Idx, (y 2).val = 7 ∨ (y 2).val = 136 → arg14.view.read (Elt Ideal) f14 y = (0 : EReal)) :
    (∀ y : S8x4x144x128.Idx, (y 2).val = 7 ∨ (y 2).val = 136 → arg14.view.read (Elt Ideal) (((rest (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.1 f13 f14 f15 f16 f17)) y = (0 : EReal))
    ∧ (∀ y : S2x3x8x8x128x128.Idx, (y 0).val = (i 0).val % 2 → arg15.view.read (Elt Ideal) (((rest (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.1 f13 f14 f15 f16 f17)) y = shifted (hat arg2 arg3 arg4 arg5 arg6 arg7 arg8 X2 X3 X4 X5 X6 X7 X8) y)
    ∧ (∀ y : S2x3x8x8x128x128.Idx, (y 0).val ≠ (i 0).val % 2 → arg15.view.read (Elt Ideal) (((rest (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.1 f13 f14 f15 f16 f17)) y = arg15.view.read (Elt Ideal) f15 y)
    ∧ (∀ y : S3x8x128x128.Idx, arg16.view.read (Elt Ideal) (((rest (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.2.1 f13 f14 f15 f16 f17)) y = if (i 0).val % 8 = 0 then (0 : EReal) else rd (arg15.view.read (Elt Ideal) (((rest (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.1 f13 f14 f15 f16 f17))) ![1 - (i 0).val % 2, (y 0).val, (y 1).val, 7, (y 2).val, (y 3).val])
    ∧ ∃ B : S3x8x128x128.Idx → EReal, (∀ y, B y = if (i 0).val % 8 = 0 then (0 : EReal) else rd (arg15.view.read (Elt Ideal) (((rest (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.1 f13 f14 f15 f16 f17))) ![(i 0).val % 2, (y 0).val, (y 1).val, 0, (y 2).val, (y 3).val])
      ∧ ∀ y, arg13.view.read (Elt Ideal) (((rest (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).1 f13 f14 f15 f16 f17)) y = codes (arg15.view.read (Elt Ideal) (((rest (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.1 f13 f14 f15 f16 f17))) (arg16.view.read (Elt Ideal) f16) B (arg9.view.read (Elt Ideal) X9) (arg10.view.read (Elt Ideal) X10) (arg11.view.read (Elt Ideal) X11) (arg12.view.read (Elt Ideal) X12) (rd (arg1.view.read (Elt Ideal) X1) ![0]) (1 - (i 0).val % 2) y := by
  unfold rest
  dsimp only
  obtain ⟨p1, p2, p3⟩ := panels_after 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 f14 f15 (rest.sl.v0 i) hz (Scf.trips (0#32) (Scalar.addi 0#32 4#32) 1#32) (Nat.le_of_eq trips_four)
  refine ⟨p1, fun y h0 => p2 y h0 ?_, p3, fun y => ?_, arg17.view.read (Elt Ideal) (arg17.view.writes (Elt Ideal) arg17.view.junk (rest.sl.H17_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 f14 f15)), fun y => ?_, fun y => ?_⟩
  · rw [trips_four]; exact (y 3).isLt
  · exact (read_stored (e := .bf16) arg16.view _ _ _ _ _ y).trans (above_apply i arg15 _ _ y)
  rotate_left
  · rw [← inv_apply arg1 X1 inb_S1_S1_0 (by decide)]
    exact block_after 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X9 X10 X11 X12 _ f16 _ (rest.sl.v6 i) _ f13 (Scf.trips (0#32) (Scalar.addi 0#32 4#32) 1#32) (Nat.le_of_eq trips_four) y (by rw [trips_four]; exact (y 1).isLt)
  · exact (read_stored (e := .bf16) arg17.view _ _ _ _ _ y).trans (below_apply i arg15 _ _ y)

/-- The first point. -/
theorem first_step (hi : IsFirst i) :
    (i 0).val = 0
    ∧ (∀ y : S8x4x144x128.Idx, (y 2).val = 7 ∨ (y 2).val = 136 → arg14.view.read (Elt Ideal) (((first (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.1 f13 f14 f15 f16 f17)) y = (0 : EReal))
    ∧ (∀ y : S2x3x8x8x128x128.Idx, (y 0).val = (i 0).val % 2 → arg15.view.read (Elt Ideal) (((first (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.1 f13 f14 f15 f16 f17)) y = shifted (hat arg2 arg3 arg4 arg5 arg6 arg7 arg8 X2 X3 X4 X5 X6 X7 X8) y)
    ∧ (∀ y : S3x8x128x128.Idx, arg16.view.read (Elt Ideal) (((first (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.2.1 f13 f14 f15 f16 f17)) y = (0 : EReal)) := by
  have h0 : (i 0).val = 0 := isFirst_zero (i 0) hi
  refine ⟨h0, ?_⟩
  unfold first
  dsimp only
  obtain ⟨p1, p2, p3⟩ := panels_after 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 (arg14.view.writes (Elt Ideal) arg14.view.junk first.sl.H14_1) f15 (first.sl.v0 i) (fun y _ => (read_stored (e := .f32) arg14.view _ _ _ _ _ y).trans ofBits_zero) (Scf.trips (0#32) (Scalar.addi 0#32 4#32) 1#32) (Nat.le_of_eq trips_four)
  refine ⟨fun y hy => ?_, fun y h0 => p2 y h0 ?_, fun y => ?_⟩
  · rw [View.writes_append]
    exact p1 y hy
  · rw [trips_four]; exact (y 3).isLt
  · refine (read_stored (e := .bf16) arg16.view _ _ _ _ _ y).trans ((above_apply i arg15 _ _ y).trans ?_)
    rw [h0]; rfl

end Step

end Cert.UpIdeal.Hand
-- ==== Proof.UpIdealRegion.lean ====
/-
  The gated unit's call, launched: the body's run at every grid point under an invariant of the four scratch buffers (`J`), the output
  block held to a predicate at every point (`O`). The frame takes both trivial; the value of the result takes them as the shifted
  panels in the scratch and the finished block of codes.
-/
module

public import proofs.«01_k».proof.Proof.UpIdealBody
public import proofs.«01_k».proof.Proof.Gen.UpIdeal.Points
public import proofs.«01_k».proof.Proof.Gen.UpIdeal.Frame
public import Idealize.ShloMosaic.Lib.Pipeline.DatRel
public import Idealize.ShloMosaic.Lib.Pipeline.ArrRel

@[expose] public section

set_option maxRecDepth 8192
set_option maxHeartbeats 400000

noncomputable section

namespace Cert.UpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)
open Cert.UpIdeal Cert.UpIdeal.Gen

variable {F : FTy → Type} [FloatOps F]

local notation "𝕄" => MT nD τ sig Unit (Elt F) ℕ (UR sig nD τ) ℕ

section Point

variable (𝒱 : Variants) (c : Dev nD) (bd : Option 𝒱.V) (i : grid0.Coords)
  (arg1 : Memref sig .tc .smem S1 .f32) (harg1 : arg1.IsWhole)
  (arg2 : Memref sig .tc .vmem S1024x3072 .fp8e4m3) (harg2 : arg2.IsWhole)
  (arg3 : Memref sig .tc .vmem S3072x512 .fp8e4m3) (harg3 : arg3.IsWhole)
  (arg4 : Memref sig .tc .vmem S3072x512 .fp8e4m3) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S9x16x512 .bf16) (harg9 : arg9.IsWhole)
  (arg10 : Memref sig .tc .vmem S9x16x512 .bf16) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1024x512 .fp8e4m3) (harg13 : arg13.IsWhole)
  (arg14 : Memref sig .tc .vmem S8x4x144x128 .f32) (harg14 : arg14.IsWhole)
  (arg15 : Memref sig .tc .vmem S2x3x8x8x128x128 .bf16) (harg15 : arg15.IsWhole)
  (arg16 : Memref sig .tc .vmem S3x8x128x128 .bf16) (harg16 : arg16.IsWhole)
  (arg17 : Memref sig .tc .vmem S3x8x128x128 .bf16) (harg17 : arg17.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty)

/-- What the body leaves (`g…`) where it found `f…`. -/
def After (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) : Prop :=
  (∃ hi : ¬ IsFirst i, g13 = (rest (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).1 f13 f14 f15 f16 f17 ∧ g14 = (rest (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.1 f13 f14 f15 f16 f17 ∧ g15 = (rest (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.1 f13 f14 f15 f16 f17 ∧ g16 = (rest (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.2.1 f13 f14 f15 f16 f17 ∧ g17 = (rest (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.2.2.1 f13 f14 f15 f16 f17)
  ∨ (∃ hi : IsFirst i, g13 = (first (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).1 f13 f14 f15 f16 f17 ∧ g14 = (first (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.1 f13 f14 f15 f16 f17 ∧ g15 = (first (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.1 f13 f14 f15 f16 f17 ∧ g16 = (first (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.2.1 f13 f14 f15 f16 f17 ∧ g17 = (first (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.2.2.1 f13 f14 f15 f16 f17)

/-- The body's run at any point. -/
theorem run_body (E : Set ℕ) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    BodyRes (F := F) c arg1 arg2 arg3 arg4 arg5 arg6 arg7 arg8 arg9 arg10 arg11 arg12 arg13 arg14 arg15 arg16 arg17 X1 X2 X3 X4 X5 X6 X7 X8 X9 X10 X11 X12 f13 f14 f15 f16 f17
    ⊢ wp frame (wpE (defs₀ (F := F)) 𝒱 (c : Thread nD τ) bd) E (cc0_up_conv_glu (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(∃ g13 g14 g15 g16 g17, ⌜After (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 f13 f14 f15 f16 f17 g13 g14 g15 g16 g17⌝
          ∗ BodyRes (F := F) c arg1 arg2 arg3 arg4 arg5 arg6 arg7 arg8 arg9 arg10 arg11 arg12 arg13 arg14 arg15 arg16 arg17 X1 X2 X3 X4 X5 X6 X7 X8 X9 X10 X11 X12 g13 g14 g15 g16 g17)) := by
  by_cases hi : IsFirst i
  · refine ((first (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.2.2.2 E f13 f14 f15 f16 f17).trans (wp_mono _ _ _ fun _ => ?_)
    iintro H
    iexists _, _, _, _, _
    isplitr; · ipureintro; exact .inr ⟨hi, rfl, rfl, rfl, rfl, rfl⟩
    iexact H
  · refine ((rest (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.2.2.2 E f13 f14 f15 f16 f17).trans (wp_mono _ _ _ fun _ => ?_)
    iintro H
    iexists _, _, _, _, _
    isplitr; · ipureintro; exact .inl ⟨hi, rfl, rfl, rfl, rfl, rfl⟩
    iexact H

end Point

variable (m : (ℓ : Loc nD τ sig) → Buf (Elt F) ℓ) (ρ : Dev nD → PrngReg)

/-- What is held of the scratch buffers before each point, and of the output block after it; with a proof that the body keeps both. -/
structure Track where
  /-- The scratch buffers before point `t`. -/
  J : (c : Dev nD) → ℕ → Buf (Elt F) ((c : Thread nD τ).loc cc0_scratch0) → Buf (Elt F) ((c : Thread nD τ).loc cc0_scratch1) → Buf (Elt F) ((c : Thread nD τ).loc cc0_scratch2) → Buf (Elt F) ((c : Thread nD τ).loc cc0_scratch3) → Prop
  /-- The output block after point `t`. -/
  O : (c : Dev nD) → Fin cfg0.N → ((cfg0.win 12).block.Idx → Elt F (cfg0.win 12).elt) → Prop
  J_zero : ∀ c f14 f15 f16 f17, J c 0 f14 f15 f16 f17
  step : ∀ (c : Dev nD) (t : Fin cfg0.N) (X1 : BufTy.Contents (Elt F) (st0_0 t).view.ty) (X2 : BufTy.Contents (Elt F) (st0_1 t).view.ty) (X3 : BufTy.Contents (Elt F) (st0_2 t).view.ty) (X4 : BufTy.Contents (Elt F) (st0_3 t).view.ty) (X5 : BufTy.Contents (Elt F) (st0_4 t).view.ty) (X6 : BufTy.Contents (Elt F) (st0_5 t).view.ty) (X7 : BufTy.Contents (Elt F) (st0_6 t).view.ty) (X8 : BufTy.Contents (Elt F) (st0_7 t).view.ty) (X9 : BufTy.Contents (Elt F) (st0_8 t).view.ty) (X10 : BufTy.Contents (Elt F) (st0_9 t).view.ty) (X11 : BufTy.Contents (Elt F) (st0_10 t).view.ty) (X12 : BufTy.Contents (Elt F) (st0_11 t).view.ty) (f13 : BufTy.Contents (Elt F) (st0_12 t).view.ty) (f14 : Buf (Elt F) ((c : Thread nD τ).loc cc0_scratch0)) (f15 : Buf (Elt F) ((c : Thread nD τ).loc cc0_scratch1)) (f16 : Buf (Elt F) ((c : Thread nD τ).loc cc0_scratch2)) (f17 : Buf (Elt F) ((c : Thread nD τ).loc cc0_scratch3)) (g13 : BufTy.Contents (Elt F) (st0_12 t).view.ty) (g14 : Buf (Elt F) ((c : Thread nD τ).loc cc0_scratch0)) (g15 : Buf (Elt F) ((c : Thread nD τ).loc cc0_scratch1)) (g16 : Buf (Elt F) ((c : Thread nD τ).loc cc0_scratch2)) (g17 : Buf (Elt F) ((c : Thread nD τ).loc cc0_scratch3)),
    (st0_0 t).view.read (Elt F) X1 = iblk m c 0 t → (st0_1 t).view.read (Elt F) X2 = iblk m c 1 t → (st0_2 t).view.read (Elt F) X3 = iblk m c 2 t → (st0_3 t).view.read (Elt F) X4 = iblk m c 3 t → (st0_4 t).view.read (Elt F) X5 = iblk m c 4 t → (st0_5 t).view.read (Elt F) X6 = iblk m c 5 t → (st0_6 t).view.read (Elt F) X7 = iblk m c 6 t → (st0_7 t).view.read (Elt F) X8 = iblk m c 7 t → (st0_8 t).view.read (Elt F) X9 = iblk m c 8 t → (st0_9 t).view.read (Elt F) X10 = iblk m c 9 t → (st0_10 t).view.read (Elt F) X11 = iblk m c 10 t → (st0_11 t).view.read (Elt F) X12 = iblk m c 11 t →
    J c t.val f14 f15 f16 f17 →
    After (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) X1 X2 X3 X4 X5 X6 X7 X8 X9 X10 X11 X12 f13 f14 f15 f16 f17 g13 g14 g15 g16 g17 →
    J c (t.val + 1) g14 g15 g16 g17 ∧ O c t ((st0_12 t).view.read (Elt F) g13)

variable {m} (T : Track m)

/-- The region's invariant: the scratch at contents that meet `J`, and the generator's register. -/
def Phi (c : Dev nD) (n : ℕ) : sProp 𝕄 :=
  iprop((∃ f14 f15 f16 f17, ⌜T.J c n f14 f15 f16 f17⌝ ∗ (((c : Thread nD τ).loc cc0_scratch0) ↦{fullShare} f14) ∗ (((c : Thread nD τ).loc cc0_scratch1) ↦{fullShare} f15)
    ∗ (((c : Thread nD τ).loc cc0_scratch2) ↦{fullShare} f16) ∗ (((c : Thread nD τ).loc cc0_scratch3) ↦{fullShare} f17)) ∗ ∃ r, prngReg c r)

/-- The window that is written. -/
def isRes : Fin cfg0.W → Bool := fun w => decide (w.val = 12)

/-- The pipeline's proof data: the inputs' blocks left in place, the result's not named. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Dat.unnamed 12 t
  Φ t := Phi T c t.val
  q w := Pipeline.shareOf spec0 w
  owed _ := 0

theorem A_eq (c : Dev nD) (w : Fin cfg0.W) : (dat T c).A w = V m c (Pipeline.arrRef spec0 w) := by
  dsimp only [dat]
theorem after_0 (c : Dev nD) (t : Fin cfg0.N) : (dat T c).after 0 t = iblk m c 0 t := by dsimp only [dat]
theorem after_1 (c : Dev nD) (t : Fin cfg0.N) : (dat T c).after 1 t = iblk m c 1 t := by dsimp only [dat]
theorem after_2 (c : Dev nD) (t : Fin cfg0.N) : (dat T c).after 2 t = iblk m c 2 t := by dsimp only [dat]
theorem after_3 (c : Dev nD) (t : Fin cfg0.N) : (dat T c).after 3 t = iblk m c 3 t := by dsimp only [dat]
theorem after_4 (c : Dev nD) (t : Fin cfg0.N) : (dat T c).after 4 t = iblk m c 4 t := by dsimp only [dat]
theorem after_5 (c : Dev nD) (t : Fin cfg0.N) : (dat T c).after 5 t = iblk m c 5 t := by dsimp only [dat]
theorem after_6 (c : Dev nD) (t : Fin cfg0.N) : (dat T c).after 6 t = iblk m c 6 t := by dsimp only [dat]
theorem after_7 (c : Dev nD) (t : Fin cfg0.N) : (dat T c).after 7 t = iblk m c 7 t := by dsimp only [dat]
theorem after_8 (c : Dev nD) (t : Fin cfg0.N) : (dat T c).after 8 t = iblk m c 8 t := by dsimp only [dat]
theorem after_9 (c : Dev nD) (t : Fin cfg0.N) : (dat T c).after 9 t = iblk m c 9 t := by dsimp only [dat]
theorem after_10 (c : Dev nD) (t : Fin cfg0.N) : (dat T c).after 10 t = iblk m c 10 t := by dsimp only [dat]
theorem after_11 (c : Dev nD) (t : Fin cfg0.N) : (dat T c).after 11 t = iblk m c 11 t := by dsimp only [dat]
theorem before_0 (c : Dev nD) (t : Fin cfg0.N) (d) : (dat T c).before 0 t d = iblk m c 0 t :=
  before0_0_of m (dat T c) (A_eq T c 0) (after_0 T c) t d
theorem before_1 (c : Dev nD) (t : Fin cfg0.N) (d) : (dat T c).before 1 t d = iblk m c 1 t :=
  before0_1_of m (dat T c) (A_eq T c 1) (after_1 T c) t d
theorem before_2 (c : Dev nD) (t : Fin cfg0.N) (d) : (dat T c).before 2 t d = iblk m c 2 t :=
  before0_2_of m (dat T c) (A_eq T c 2) (after_2 T c) t d
theorem before_3 (c : Dev nD) (t : Fin cfg0.N) (d) : (dat T c).before 3 t d = iblk m c 3 t :=
  before0_3_of m (dat T c) (A_eq T c 3) (after_3 T c) t d
theorem before_4 (c : Dev nD) (t : Fin cfg0.N) (d) : (dat T c).before 4 t d = iblk m c 4 t :=
  before0_4_of m (dat T c) (A_eq T c 4) (after_4 T c) t d
theorem before_5 (c : Dev nD) (t : Fin cfg0.N) (d) : (dat T c).before 5 t d = iblk m c 5 t :=
  before0_5_of m (dat T c) (A_eq T c 5) (after_5 T c) t d
theorem before_6 (c : Dev nD) (t : Fin cfg0.N) (d) : (dat T c).before 6 t d = iblk m c 6 t :=
  before0_6_of m (dat T c) (A_eq T c 6) (after_6 T c) t d
theorem before_7 (c : Dev nD) (t : Fin cfg0.N) (d) : (dat T c).before 7 t d = iblk m c 7 t :=
  before0_7_of m (dat T c) (A_eq T c 7) (after_7 T c) t d
theorem before_8 (c : Dev nD) (t : Fin cfg0.N) (d) : (dat T c).before 8 t d = iblk m c 8 t :=
  before0_8_of m (dat T c) (A_eq T c 8) (after_8 T c) t d
theorem before_9 (c : Dev nD) (t : Fin cfg0.N) (d) : (dat T c).before 9 t d = iblk m c 9 t :=
  before0_9_of m (dat T c) (A_eq T c 9) (after_9 T c) t d
theorem before_10 (c : Dev nD) (t : Fin cfg0.N) (d) : (dat T c).before 10 t d = iblk m c 10 t :=
  before0_10_of m (dat T c) (A_eq T c 10) (after_10 T c) t d
theorem before_11 (c : Dev nD) (t : Fin cfg0.N) (d) : (dat T c).before 11 t d = iblk m c 11 t :=
  before0_11_of m (dat T c) (A_eq T c 11) (after_11 T c) t d

/-- The result's predicate, as one of every window. -/
def Rl (c : Dev nD) (w : Fin cfg0.W) (t : Fin cfg0.N) : ((cfg0.win w).block.Idx → Elt F (cfg0.win w).elt) → Prop :=
  match w with
  | ⟨12, _⟩ => fun X => T.O c t X
  | _ => fun _ => True

theorem defs₀_row (t : Fin cfg0.N) :
    defs₀ (F := F) .tc cfg0.body (cfg0.bodyArgs t (cfg0.slots t)) = bodyAt0 t := by
  unfold defs₀; rw [Defs.onTc_tc]

omit [FloatOps F] in
/-- A whole buffer held through its view is the buffer held. -/
theorem whole_pts (b : Ref sig .tc) (c : Dev nD) (f : Buf (Elt F) ((c : Thread nD τ).loc b)) :
    ((Memref.whole (sig := sig) (κ := .tc) b).view.loc (c : Thread nD τ) ↦[(Memref.whole (sig := sig) (κ := .tc) b).view.set]{fullShare} f)
      ⊢ (((c : Thread nD τ).loc b ↦{fullShare} f) : sProp 𝕄) := by
  simp only [Memref.view_whole, View.set_whole]; exact .rfl

def bodyPre (c : Dev nD) (t : Fin cfg0.N) : sProp 𝕄 :=
  iprop((dat T c).Φ t.castSucc ∗ (dat T c).owesAt () t.castSucc
    ∗ (∃ d, owns (c : Thread nD τ) (st0_0 t) fullShare ((dat T c).before 0 t d))
    ∗ (∃ d, owns (c : Thread nD τ) (st0_1 t) fullShare ((dat T c).before 1 t d))
    ∗ (∃ d, owns (c : Thread nD τ) (st0_2 t) fullShare ((dat T c).before 2 t d))
    ∗ (∃ d, owns (c : Thread nD τ) (st0_3 t) fullShare ((dat T c).before 3 t d))
    ∗ (∃ d, owns (c : Thread nD τ) (st0_4 t) fullShare ((dat T c).before 4 t d))
    ∗ (∃ d, owns (c : Thread nD τ) (st0_5 t) fullShare ((dat T c).before 5 t d))
    ∗ (∃ d, owns (c : Thread nD τ) (st0_6 t) fullShare ((dat T c).before 6 t d))
    ∗ (∃ d, owns (c : Thread nD τ) (st0_7 t) fullShare ((dat T c).before 7 t d))
    ∗ (∃ d, owns (c : Thread nD τ) (st0_8 t) fullShare ((dat T c).before 8 t d))
    ∗ (∃ d, owns (c : Thread nD τ) (st0_9 t) fullShare ((dat T c).before 9 t d))
    ∗ (∃ d, owns (c : Thread nD τ) (st0_10 t) fullShare ((dat T c).before 10 t d))
    ∗ (∃ d, owns (c : Thread nD τ) (st0_11 t) fullShare ((dat T c).before 11 t d))
    ∗ (∃ Y, ⌜((dat T c).toRRel isRes (Rl T c)).Finds 12 t Y⌝ ∗ owns (c : Thread nD τ) (st0_12 t) fullShare Y))

def bodyPost (c : Dev nD) (t : Fin cfg0.N) : sProp 𝕄 :=
  iprop((dat T c).Φ t.succ ∗ (dat T c).owesAt () t.succ
    ∗ owns (c : Thread nD τ) (st0_0 t) fullShare ((dat T c).after 0 t)
    ∗ owns (c : Thread nD τ) (st0_1 t) fullShare ((dat T c).after 1 t)
    ∗ owns (c : Thread nD τ) (st0_2 t) fullShare ((dat T c).after 2 t)
    ∗ owns (c : Thread nD τ) (st0_3 t) fullShare ((dat T c).after 3 t)
    ∗ owns (c : Thread nD τ) (st0_4 t) fullShare ((dat T c).after 4 t)
    ∗ owns (c : Thread nD τ) (st0_5 t) fullShare ((dat T c).after 5 t)
    ∗ owns (c : Thread nD τ) (st0_6 t) fullShare ((dat T c).after 6 t)
    ∗ owns (c : Thread nD τ) (st0_7 t) fullShare ((dat T c).after 7 t)
    ∗ owns (c : Thread nD τ) (st0_8 t) fullShare ((dat T c).after 8 t)
    ∗ owns (c : Thread nD τ) (st0_9 t) fullShare ((dat T c).after 9 t)
    ∗ owns (c : Thread nD τ) (st0_10 t) fullShare ((dat T c).after 10 t)
    ∗ owns (c : Thread nD τ) (st0_11 t) fullShare ((dat T c).after 11 t)
    ∗ (∃ X, ⌜Rl T c 12 t X⌝ ∗ owns (c : Thread nD τ) (st0_12 t) fullShare X))

theorem sound_body (c : Dev nD) (t : Fin cfg0.N) :
    bodyPre T c t ⊢ wp frame (wpE (defs₀ (F := F)) Variants.none c none) Set.univ (bodyAt0 t) (fun _ => bodyPost T c t) := by
  unfold bodyPre bodyPost bodyAt0
  simp only [before_0, after_0, before_1, after_1, before_2, after_2, before_3, after_3, before_4, after_4, before_5, after_5, before_6, after_6, before_7, after_7, before_8, after_8, before_9, after_9, before_10, after_10, before_11, after_11]
  rw [show (dat T c).Φ t.succ = Phi T c (t.val + 1) from rfl, show (dat T c).Φ t.castSucc = Phi T c t.val from rfl,
    show (dat T c).owesAt () t.succ = (dat T c).owesAt () t.castSucc from rfl]
  unfold owns Phi
  iintro ⟨⟨⟨%f14, %f15, %f16, %f17, %hJ, H14, H15, H16, H17⟩, Hr⟩, Ho, ⟨%d1, %X1, %e1, H1⟩, ⟨%d2, %X2, %e2, H2⟩, ⟨%d3, %X3, %e3, H3⟩, ⟨%d4, %X4, %e4, H4⟩, ⟨%d5, %X5, %e5, H5⟩, ⟨%d6, %X6, %e6, H6⟩, ⟨%d7, %X7, %e7, H7⟩, ⟨%d8, %X8, %e8, H8⟩, ⟨%d9, %X9, %e9, H9⟩, ⟨%d10, %X10, %e10, H10⟩, ⟨%d11, %X11, %e11, H11⟩, ⟨%d12, %X12, %e12, H12⟩, ⟨%Y, -, %f13, -, H13⟩⟩
  iapply (wp_wand_r Idealize.ShloMosaic.frame (wpE (defs₀ (F := F)) Variants.none (c : Thread nD τ) none) Set.univ)
  isplitl [H1 H2 H3 H4 H5 H6 H7 H8 H9 H10 H11 H12 H13 H14 H15 H16 H17]
  · iapply (run_body (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) X1 X2 X3 X4 X5 X6 X7 X8 X9 X10 X11 X12 Set.univ f13 f14 f15 f16 f17)
    unfold BodyRes
    simp only [Memref.view_whole, View.set_whole]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iintro %_ ⟨%g13, %g14, %g15, %g16, %g17, %hA, H1, H2, H3, H4, H5, H6, H7, H8, H9, H10, H11, H12, H13, H14, H15, H16, H17⟩
    have hs := T.step c t X1 X2 X3 X4 X5 X6 X7 X8 X9 X10 X11 X12 f13 f14 f15 f16 f17 g13 g14 g15 g16 g17 e1 e2 e3 e4 e5 e6 e7 e8 e9 e10 e11 e12 hJ hA
    isplitl [H14 H15 H16 H17 Hr]
    · isplitr [Hr]
      · iexists g14, g15, g16, g17
        isplitr; · ipureintro; exact hs.1
        isplitl [H14]; · iapply (whole_pts cc0_scratch0 c g14); iexact H14
        isplitl [H15]; · iapply (whole_pts cc0_scratch1 c g15); iexact H15
        isplitl [H16]; · iapply (whole_pts cc0_scratch2 c g16); iexact H16
        iapply (whole_pts cc0_scratch3 c g17); iexact H17
      · iexact Hr
    isplitl [Ho]; · iexact Ho
    isplitl [H1]
    · iexists X1; isplitr; · ipureintro; exact e1
      iexact H1
    isplitl [H2]
    · iexists X2; isplitr; · ipureintro; exact e2
      iexact H2
    isplitl [H3]
    · iexists X3; isplitr; · ipureintro; exact e3
      iexact H3
    isplitl [H4]
    · iexists X4; isplitr; · ipureintro; exact e4
      iexact H4
    isplitl [H5]
    · iexists X5; isplitr; · ipureintro; exact e5
      iexact H5
    isplitl [H6]
    · iexists X6; isplitr; · ipureintro; exact e6
      iexact H6
    isplitl [H7]
    · iexists X7; isplitr; · ipureintro; exact e7
      iexact H7
    isplitl [H8]
    · iexists X8; isplitr; · ipureintro; exact e8
      iexact H8
    isplitl [H9]
    · iexists X9; isplitr; · ipureintro; exact e9
      iexact H9
    isplitl [H10]
    · iexists X10; isplitr; · ipureintro; exact e10
      iexact H10
    isplitl [H11]
    · iexists X11; isplitr; · ipureintro; exact e11
      iexact H11
    isplitl [H12]
    · iexists X12; isplitr; · ipureintro; exact e12
      iexact H12
    iexists _; isplitr
    · ipureintro; exact hs.2
    · iexists g13; isplitr; · ipureintro; rfl
      iexact H13

theorem body_obligation (c : Dev nD) :
    Pipeline.BodyObligationRel (dat T c) (defs₀ (F := F)) Variants.none () Set.univ isRes (Rl T c) := fun t => by
  rw [bigSep_W0, bigSep_W0, defs₀_row]
  exact triple_restated (sound_body T c t) rfl .rfl fun _ => .rfl

theorem hin (c : Dev nD) : Pipeline.ΦA spec0 c ⊢ Phi T c 0 := by
  unfold Pipeline.ΦA Phi
  rw [scopedRest0_eq]
  iintro ⟨⟨⟨%f14, H14⟩, ⟨%f15, H15⟩, ⟨%f16, H16⟩, ⟨%f17, H17⟩⟩, Hr⟩
  isplitr [Hr]
  · iexists f14, f15, f16, f17
    isplitr; · ipureintro; exact T.J_zero c f14 f15 f16 f17
    isplitl [H14]; · iexact H14
    isplitl [H15]; · iexact H15
    isplitl [H16]; · iexact H16
    iexact H17
  · iexact Hr

theorem hout (c : Dev nD) (n : ℕ) : Phi T c n ⊢ Pipeline.ΦA spec0 c := by
  unfold Pipeline.ΦA Phi
  rw [scopedRest0_eq]
  iintro ⟨⟨%f14, %f15, %f16, %f17, -, H14, H15, H16, H17⟩, Hr⟩
  isplitr [Hr]
  · isplitl [H14]; · iexists f14; iexact H14
    isplitl [H15]; · iexists f15; iexact H15
    isplitl [H16]; · iexists f16; iexact H16
    iexists f17; iexact H17
  · iexact Hr

/-- The relational data of the launch. -/
def rdat (c : Dev nD) : RDat τ (Elt F) Unit ℕ (UR sig nD τ) ℕ cfg0 c := (dat T c).toRRel isRes (Rl T c)

set_option backward.isDefEq.respectTransparency.types false in
theorem run_main_quiescent : θ_run defs (onTc (τ := τ) (main (F := F))) (s₀ m ρ)
    (fun r => RDat.FramePost cfg0 (rdat T) (V m) r ∧ r.2.sem = fun _ => 0) :=
  RDat.θ_run_frame_track_shared (Q' := _) cfgs (0 : Fin 1) launch₀0 defs₀ Variants.none (rdat T) m ρ main
    (hbody := fun c => (body_obligation T c).toRRel) (hq := fun c w _ => rfl) (howed := fun _ _ => rfl)
    (V := V m) (hmain := hmain m Variants.none) (hA := fun c w => A_eq T c w) (hin := fun c => hin T c) (hout := fun c => hout T c _)

/-- The argument arrays end unchanged, whatever is tracked. -/
theorem args_of_post {r : PUnit × MemSt nD τ sig (Elt F)} (h : RDat.FramePost cfg0 (rdat T) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- Nothing tracked. -/
def untracked : Track m where
  J _ _ _ _ _ _ := True
  O _ _ _ := True
  J_zero := by intros; trivial
  step := by intros; exact ⟨trivial, trivial⟩

/-- The frame: every run ends, faults nowhere, leaves the arguments as they were and every semaphore at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨args_of_post untracked h.1, h.2⟩) (run_main_quiescent ρ (untracked (m := m)))

end Cert.UpIdeal.Hand

end
-- ==== Proof.UpTrack.lean ====
/-
  What is held of the scratch buffers before each grid point, and what the output block holds after it, over the extended reals.
-/
module

public import proofs.«01_k».proof.Proof.UpStep
public import proofs.«01_k».proof.Proof.UpIdealRegion

@[expose] public section

set_option maxRecDepth 8192
set_option maxHeartbeats 400000

noncomputable section

namespace Cert.UpIdeal.Hand

open Cert.UpIdeal Cert.UpIdeal.Gen Idealize.ShloMosaic Idealize.ShloMosaic.TcCoe Idealize.SL.Sem
open Idealize.ShloMosaic.ValueIdx
open scoped BigOperators

theorem isFirst_of_zero : ∀ n : Fin 241, n.val = 0 → Scalar.cmpi .ne (Scalar.extui (Scalar.cmpi .eq (BitVec.ofNat 32 n.val) 0#32) : BitVec 32) 0#32 = 1#1 := by
  decide +kernel

theorem rd_in {s : Shape} (x : s.Idx → EReal) (i : Fin s.rank → ℕ) (h : ∀ a, i a < s.size a) : rd x i = x (fun a => ⟨i a, h a⟩) := dif_pos h

/-- The tap of tile row `row`: from the tile's rows `H`, from the last row of the tile above unless there is none (`a = 0`), or from the first
    row of the tile below unless there is none (`b = 0`). -/
def tapT (a b : ℕ) (Hp H Hn : ℕ → ℕ → ℕ → ℕ → EReal) (row dr dc p w l : ℕ) : EReal :=
  if row + dr = 0 then (if a = 0 then 0 else pad Hp dc p 7 w l) else if row + dr = 9 then (if b = 0 then 0 else pad Hn dc p 0 w l) else pad H dc p (row + dr - 1) w l

/-- An output block of codes, from the activated rows of three consecutive tiles. -/
def codeT (a b : ℕ) (Hp H Hn : ℕ → ℕ → ℕ → ℕ → EReal) (kv kg : S9x16x512.Idx → EReal) (cv cg : S1x512.Idx → EReal) (inv : EReal) (y : S1024x512.Idx) : EReal :=
  unit (fun n => tapT a b Hp H Hn ((y 0).val / 128) (n.val / 3) (n.val % 3) ((y 1).val / 128) ((y 0).val % 128) ((y 1).val % 128))
    (fun n => rd kv ![n.val, (y 0).val % 128 % 16, 128 * ((y 1).val / 128) + (y 1).val % 128]) (rd cv ![0, 128 * ((y 1).val / 128) + (y 1).val % 128])
    (fun n => tapT a b Hp H Hn ((y 0).val / 128) (n.val / 3) (n.val % 3) ((y 1).val / 128 + 4) ((y 0).val % 128) ((y 1).val % 128))
    (fun n => rd kg ![n.val, (y 0).val % 128 % 16, 128 * ((y 1).val / 128) + (y 1).val % 128]) (rd cg ![0, 128 * ((y 1).val / 128) + (y 1).val % 128]) inv

/-- What the buffers hold gives every tap. -/
theorem tapAt_eq {a b : ℕ} {Hp H Hn : ℕ → ℕ → ℕ → ℕ → EReal} {P : S2x3x8x8x128x128.Idx → EReal} {top bot : S3x8x128x128.Idx → EReal} {prev : ℕ} (hprev : prev < 2)
    (hP : ∀ y : S2x3x8x8x128x128.Idx, (y 0).val = prev → P y = shifted H y)
    (htop : ∀ y : S3x8x128x128.Idx, top y = if a = 0 then 0 else pad Hp (y 0).val (y 1).val 7 (y 2).val (y 3).val)
    (hbot : ∀ y : S3x8x128x128.Idx, bot y = if b = 0 then 0 else pad Hn (y 0).val (y 1).val 0 (y 2).val (y 3).val)
    {row dr dc p w l : ℕ} (hr : row < 8) (hd : dr < 3) (hc : dc < 3) (hp : p < 8) (hw : w < 128) (hl : l < 128) :
    tapAt P top bot prev row dr dc p w l = tapT a b Hp H Hn row dr dc p w l := by
  unfold tapAt tapT
  have h4 : ∀ d, (![dc, p, w, l] : Fin 4 → ℕ) d < S3x8x128x128.size d := fun d => by
    match d with | ⟨0, _⟩ => exact hc | ⟨1, _⟩ => exact hp | ⟨2, _⟩ => exact hw | ⟨3, _⟩ => exact hl
  by_cases h0 : row + dr = 0
  · rw [if_pos h0, if_pos h0, rd_in top _ h4, htop]
    rfl
  rw [if_neg h0, if_neg h0]
  by_cases h9 : row + dr = 9
  · rw [if_pos h9, if_pos h9, rd_in bot _ h4, hbot]
    rfl
  rw [if_neg h9, if_neg h9]
  have h6 : ∀ d, (![prev, dc, p, row + dr - 1, w, l] : Fin 6 → ℕ) d < S2x3x8x8x128x128.size d := fun d => by
    match d with
    | ⟨0, _⟩ => exact hprev | ⟨1, _⟩ => exact hc | ⟨2, _⟩ => exact hp | ⟨3, _⟩ => exact (show row + dr - 1 < 8 by omega) | ⟨4, _⟩ => exact hw | ⟨5, _⟩ => exact hl
  rw [rd_in P _ h6, hP _ rfl]
  rfl

theorem codes_eq {a b : ℕ} {Hp H Hn : ℕ → ℕ → ℕ → ℕ → EReal} {P : S2x3x8x8x128x128.Idx → EReal} {top bot : S3x8x128x128.Idx → EReal} {prev : ℕ} (hprev : prev < 2)
    (hP : ∀ y : S2x3x8x8x128x128.Idx, (y 0).val = prev → P y = shifted H y)
    (htop : ∀ y : S3x8x128x128.Idx, top y = if a = 0 then 0 else pad Hp (y 0).val (y 1).val 7 (y 2).val (y 3).val)
    (hbot : ∀ y : S3x8x128x128.Idx, bot y = if b = 0 then 0 else pad Hn (y 0).val (y 1).val 0 (y 2).val (y 3).val)
    (kv kg : S9x16x512.Idx → EReal) (cv cg : S1x512.Idx → EReal) (inv : EReal) (y : S1024x512.Idx) :
    codes P top bot kv kg cv cg inv prev y = codeT a b Hp H Hn kv kg cv cg inv y := by
  have h0 : (y 0).val < 1024 := (y 0).isLt
  have h1 : (y 1).val < 512 := (y 1).isLt
  have hT : ∀ (p : ℕ), p < 8 → (fun n : Fin 9 => tapAt P top bot prev ((y 0).val / 128) (n.val / 3) (n.val % 3) p ((y 0).val % 128) ((y 1).val % 128))
      = fun n : Fin 9 => tapT a b Hp H Hn ((y 0).val / 128) (n.val / 3) (n.val % 3) p ((y 0).val % 128) ((y 1).val % 128) := fun p hp => funext fun n => by
    have hn : n.val < 9 := n.isLt
    exact tapAt_eq hprev hP htop hbot (by omega) (by omega) (by omega) hp (by omega) (by omega)
  unfold codes code codeT
  rw [hT _ (by omega), hT _ (by omega)]

section Keep

variable (𝒱 : Variants) (c : Dev nD) (bd : Option 𝒱.V) (i : grid0.Coords)
  (arg1 : Memref sig .tc .smem S1 .f32) (harg1 : arg1.IsWhole)
  (arg2 : Memref sig .tc .vmem S1024x3072 .fp8e4m3) (harg2 : arg2.IsWhole)
  (arg3 : Memref sig .tc .vmem S3072x512 .fp8e4m3) (harg3 : arg3.IsWhole)
  (arg4 : Memref sig .tc .vmem S3072x512 .fp8e4m3) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S9x16x512 .bf16) (harg9 : arg9.IsWhole)
  (arg10 : Memref sig .tc .vmem S9x16x512 .bf16) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1024x512 .fp8e4m3) (harg13 : arg13.IsWhole)
  (arg14 : Memref sig .tc .vmem S8x4x144x128 .f32) (harg14 : arg14.IsWhole)
  (arg15 : Memref sig .tc .vmem S2x3x8x8x128x128 .bf16) (harg15 : arg15.IsWhole)
  (arg16 : Memref sig .tc .vmem S3x8x128x128 .bf16) (harg16 : arg16.IsWhole)
  (arg17 : Memref sig .tc .vmem S3x8x128x128 .bf16) (harg17 : arg17.IsWhole)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty)
  (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty)
  (g13 : BufTy.Contents (Elt Ideal) arg13.view.ty) (g14 : BufTy.Contents (Elt Ideal) arg14.view.ty) (g15 : BufTy.Contents (Elt Ideal) arg15.view.ty) (g16 : BufTy.Contents (Elt Ideal) arg16.view.ty) (g17 : BufTy.Contents (Elt Ideal) arg17.view.ty)

/-- What a point leaves, from what the point before it left: `H` is the activated tile of the point before, `Hp` that of the one before it. -/
theorem keep (ha : After (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 f13 f14 f15 f16 f17 g13 g14 g15 g16 g17) (a : ℕ) (Hp H : ℕ → ℕ → ℕ → ℕ → EReal)
    (hz : (i 0).val ≠ 0 → ∀ y : S8x4x144x128.Idx, (y 2).val = 7 ∨ (y 2).val = 136 → arg14.view.read (Elt Ideal) f14 y = (0 : EReal))
    (hP : (i 0).val ≠ 0 → ∀ y : S2x3x8x8x128x128.Idx, (y 0).val = 1 - (i 0).val % 2 → arg15.view.read (Elt Ideal) f15 y = shifted H y)
    (hT : (i 0).val ≠ 0 → ∀ y : S3x8x128x128.Idx, arg16.view.read (Elt Ideal) f16 y = if a = 0 then (0 : EReal) else pad Hp (y 0).val (y 1).val 7 (y 2).val (y 3).val) :
    ((∀ y : S8x4x144x128.Idx, (y 2).val = 7 ∨ (y 2).val = 136 → arg14.view.read (Elt Ideal) g14 y = (0 : EReal))
    ∧ (∀ y : S2x3x8x8x128x128.Idx, (y 0).val = (i 0).val % 2 → arg15.view.read (Elt Ideal) g15 y = shifted (hat arg2 arg3 arg4 arg5 arg6 arg7 arg8 X2 X3 X4 X5 X6 X7 X8) y)
    ∧ (∀ y : S3x8x128x128.Idx, arg16.view.read (Elt Ideal) g16 y = if (i 0).val % 8 = 0 then (0 : EReal) else pad H (y 0).val (y 1).val 7 (y 2).val (y 3).val))
    ∧ ((i 0).val ≠ 0 → ∀ y, arg13.view.read (Elt Ideal) g13 y = codeT a ((i 0).val % 8) Hp H (hat arg2 arg3 arg4 arg5 arg6 arg7 arg8 X2 X3 X4 X5 X6 X7 X8) (arg9.view.read (Elt Ideal) X9) (arg10.view.read (Elt Ideal) X10) (arg11.view.read (Elt Ideal) X11) (arg12.view.read (Elt Ideal) X12) (rd (arg1.view.read (Elt Ideal) X1) ![0]) y) := by
  rcases ha with ⟨hi, h13, h14, h15, h16, -⟩ | ⟨hi, h13, h14, h15, h16, -⟩
  · have hn : (i 0).val ≠ 0 := fun h => hi (isFirst_of_zero (i 0) h)
    obtain ⟨s1, s2, s3, s4, B, s5, s6⟩ := rest_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 f13 f14 f15 f16 f17 hi (hz hn)
    rw [← h14] at s1
    rw [← h15] at s2 s3 s4 s5 s6
    rw [← h16] at s4
    rw [← h13] at s6
    have hpar : (i 0).val % 2 < 2 := Nat.mod_lt _ (by decide)
    have hq : ∀ y : S2x3x8x8x128x128.Idx, (y 0).val = 1 - (i 0).val % 2 → arg15.view.read (Elt Ideal) g15 y = shifted H y := fun y hy =>
      (s3 y (by omega)).trans (hP hn y hy)
    refine ⟨⟨s1, s2, fun y => (s4 y).trans ?_⟩, fun _ y => (s6 y).trans (codes_eq (by omega) hq (hT hn) (fun y => (s5 y).trans ?_) _ _ _ _ _ y)⟩
    · refine if_congr Iff.rfl rfl ?_
      rw [rd_in _ _ (fun d => by
        match d with
        | ⟨0, _⟩ => exact (show 1 - (i 0).val % 2 < 2 by omega) | ⟨1, _⟩ => exact (y 0).isLt | ⟨2, _⟩ => exact (y 1).isLt | ⟨3, _⟩ => exact (show 7 < 8 by decide) | ⟨4, _⟩ => exact (y 2).isLt | ⟨5, _⟩ => exact (y 3).isLt), hq _ rfl]
      rfl
    · refine if_congr Iff.rfl rfl ?_
      rw [rd_in _ _ (fun d => by
        match d with
        | ⟨0, _⟩ => exact hpar | ⟨1, _⟩ => exact (y 0).isLt | ⟨2, _⟩ => exact (y 1).isLt | ⟨3, _⟩ => exact (show 0 < 8 by decide) | ⟨4, _⟩ => exact (y 2).isLt | ⟨5, _⟩ => exact (y 3).isLt), s2 _ rfl]
      rfl
  · obtain ⟨h0, s1, s2, s4⟩ := first_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 f13 f14 f15 f16 f17 hi
    rw [← h14] at s1
    rw [← h15] at s2
    rw [← h16] at s4
    refine ⟨⟨s1, s2, fun y => (s4 y).trans ?_⟩, fun h => absurd h0 h⟩
    rw [h0]; rfl

end Keep

section Tracked

variable (m : (ℓ : Loc nD τ sig) → Buf (Elt Ideal) ℓ)

/-- The activated tile of point `t`. -/
def act_tile (c : Dev nD) (t : ℕ) : ℕ → ℕ → ℕ → ℕ → EReal :=
  if h : t < cfg0.N then hcell (iblk m c 1 ⟨t, h⟩) (iblk m c 2 ⟨t, h⟩) (iblk m c 3 ⟨t, h⟩) (iblk m c 4 ⟨t, h⟩) (iblk m c 5 ⟨t, h⟩) (iblk m c 6 ⟨t, h⟩) (iblk m c 7 ⟨t, h⟩)
  else fun _ _ _ _ => 0

/-- The block of codes that point `t` leaves. -/
def out_tile (c : Dev nD) (t : Fin cfg0.N) : S1024x512.Idx → EReal :=
  codeT ((t.val - 1) % 8) (t.val % 8) (act_tile m c (t.val - 1 - 1)) (act_tile m c (t.val - 1)) (act_tile m c t.val) (iblk m c 8 t) (iblk m c 9 t) (iblk m c 10 t) (iblk m c 11 t) (rd (s := S1) (iblk m c 0 t) ![0])

theorem coords_val (t : Fin cfg0.N) : (grid0.coords t 0).val = t.val :=
  (by decide +kernel : ∀ t : Fin grid0.N, (grid0.coords t 0).val = t.val) t

/-- What the loop keeps. -/
def tracked : Track (F := Ideal) m where
  J c n f14 f15 f16 _ := n ≠ 0 →
    (∀ y : S8x4x144x128.Idx, (y 2).val = 7 ∨ (y 2).val = 136 → (Memref.whole cc0_scratch0).view.read (Elt Ideal) f14 y = (0 : EReal))
    ∧ (∀ y : S2x3x8x8x128x128.Idx, (y 0).val = (n - 1) % 2 → (Memref.whole cc0_scratch1).view.read (Elt Ideal) f15 y = shifted (act_tile m c (n - 1)) y)
    ∧ (∀ y : S3x8x128x128.Idx, (Memref.whole cc0_scratch2).view.read (Elt Ideal) f16 y = if (n - 1) % 8 = 0 then (0 : EReal) else pad (act_tile m c (n - 1 - 1)) (y 0).val (y 1).val 7 (y 2).val (y 3).val)
  O c t X := t.val ≠ 0 → ∀ y, X y = out_tile m c t y
  J_zero _ _ _ _ _ h := absurd rfl h
  step c t X1 X2 X3 X4 X5 X6 X7 X8 X9 X10 X11 X12 f13 f14 f15 f16 f17 g13 g14 g15 g16 g17 e1 e2 e3 e4 e5 e6 e7 e8 e9 e10 e11 e12 hJ ha := by
    have hk := keep Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) X1 X2 X3 X4 X5 X6 X7 X8 X9 X10 X11 X12 f13 f14 f15 f16 f17 g13 g14 g15 g16 g17 ha ((t.val - 1) % 8) (act_tile m c (t.val - 1 - 1)) (act_tile m c (t.val - 1))
      (fun h => (hJ (by rwa [coords_val] at h)).1)
      (fun h y hy => (hJ (by rwa [coords_val] at h)).2.1 y (by rw [coords_val] at h hy; omega))
      (fun h => (hJ (by rwa [coords_val] at h)).2.2)
    have hH : hat (st0_1 t) (st0_2 t) (st0_3 t) (st0_4 t) (st0_5 t) (st0_6 t) (st0_7 t) X2 X3 X4 X5 X6 X7 X8 = act_tile m c t.val := by
      unfold act_tile
      rw [dif_pos t.isLt]
      unfold hat
      rw [e2, e3, e4, e5, e6, e7, e8]
    rw [hH, e9, e10, e11, e12, e1, coords_val] at hk
    exact ⟨fun _ => hk.1, hk.2⟩

end Tracked

end Cert.UpIdeal.Hand
-- ==== Proof.UpKernel.lean ====
/-
  What the gated unit's kernel leaves in its result array, over the extended reals: every code is the clip of a value times a gate, each a 3x3
  convolution of one channel of the activated products, with a border of zeros.
-/
module

public import proofs.«01_k».proof.Proof.UpTrack
public import Idealize.ShloMosaic.Lib.Pipeline.ArrRel

@[expose] public section

set_option maxRecDepth 8192
set_option maxHeartbeats 400000

noncomputable section

namespace Cert.UpIdeal.Hand

open Cert.UpIdeal Cert.UpIdeal.Gen Idealize.ShloMosaic Idealize.ShloMosaic.TcCoe Idealize.SL.Sem
open Idealize.ShloMosaic.ValueIdx
open scoped BigOperators

/-- The tap of row `r` of the images at row offset `dr` and column offset `dc`, zero outside the image. -/
def imgTap (h : ℕ → ℕ → EReal) (r dr dc ch : ℕ) : EReal :=
  if 1 ≤ r / 128 % 64 + dr ∧ r / 128 % 64 + dr ≤ 64 ∧ 1 ≤ r % 128 + dc ∧ r % 128 + dc ≤ 128 then h (r + 128 * dr + dc - 129) ch else 0

/-- Three consecutive tiles of a column panel hold the image around the middle one. -/
theorem tapT_eq {h : ℕ → ℕ → EReal} {Hp H Hn : ℕ → ℕ → ℕ → ℕ → EReal} {s p ch l : ℕ}
    (hp : s % 8 ≠ 0 → ∀ row w, row < 8 → w < 128 → Hp p row w l = h ((s - 1) % 16 * 1024 + row * 128 + w) ch)
    (hH : ∀ row w, row < 8 → w < 128 → H p row w l = h (s % 16 * 1024 + row * 128 + w) ch)
    (hn : (s + 1) % 8 ≠ 0 → ∀ row w, row < 8 → w < 128 → Hn p row w l = h ((s + 1) % 16 * 1024 + row * 128 + w) ch)
    {row dr dc w : ℕ} (hr : row < 8) (hd : dr < 3) (hc : dc < 3) (hw : w < 128) :
    tapT (s % 8) ((s + 1) % 8) Hp H Hn row dr dc p w l = imgTap h (s % 16 * 1024 + row * 128 + w) dr dc ch := by
  unfold tapT imgTap
  have hy : (s % 16 * 1024 + row * 128 + w) / 128 % 64 = s % 8 * 8 + row := by omega
  have hx : (s % 16 * 1024 + row * 128 + w) % 128 = w := by omega
  rw [hy, hx]
  unfold pad
  by_cases h0 : row + dr = 0
  · rw [if_pos h0]
    by_cases ha : s % 8 = 0
    · rw [if_pos ha, if_neg (by omega)]
    · rw [if_neg ha]
      by_cases hi : 1 ≤ w + dc ∧ w + dc ≤ 128
      · rw [if_pos hi, if_pos (by omega), hp ha _ _ (by omega) (by omega)]
        exact congrArg (fun k => h k ch) (by omega)
      · rw [if_neg hi, if_neg (by omega)]
  rw [if_neg h0]
  by_cases h9 : row + dr = 9
  · rw [if_pos h9]
    by_cases ha : (s + 1) % 8 = 0
    · rw [if_pos ha, if_neg (by omega)]
    · rw [if_neg ha]
      by_cases hi : 1 ≤ w + dc ∧ w + dc ≤ 128
      · rw [if_pos hi, if_pos (by omega), hn ha _ _ (by omega) (by omega)]
        exact congrArg (fun k => h k ch) (by omega)
      · rw [if_neg hi, if_neg (by omega)]
  rw [if_neg h9]
  by_cases hi : 1 ≤ w + dc ∧ w + dc ≤ 128
  · rw [if_pos hi, if_pos (by omega), hH _ _ (by omega) (by omega)]
    exact congrArg (fun k => h k ch) (by omega)
  · rw [if_neg hi, if_neg (by omega)]

/-- A block read at natural-number coordinates is its array read at the block's coordinates. -/
theorem rd_block {s s' : Shape} (x : s.Idx → EReal) (X : s'.Idx → EReal) (e : s.Idx → s'.Idx) (hx : ∀ y, x y = X (e y)) (i : Fin s.rank → ℕ) (h : ∀ a, i a < s.size a)
    (j : Fin s'.rank → ℕ) (hj : ∀ a, (e (fun a => ⟨i a, h a⟩) a).val = j a) : rd x i = rd X j := by
  rw [rd_in x i h, hx]
  exact rd_of 0 X _ j hj

variable (m : (ℓ : Loc nD τ sig) → Buf (Elt Ideal) ℓ)

/-- The codes of the rows. -/
abbrev Xq (c : Dev nD) : S16384x3072.Idx → EReal := V m c main_v19
/-- The weights' codes. -/
abbrev Wq (c : Dev nD) : S3072x15360.Idx → EReal := V m c main_v20
/-- One scale for each channel. -/
abbrev S (c : Dev nD) : S1x15360.Idx → EReal := V m c main_v4
/-- One bias for each channel. -/
abbrev B (c : Dev nD) : S1x15360.Idx → EReal := V m c main_v7
/-- The convolution's weights. -/
abbrev K (c : Dev nD) : S9x16x15360.Idx → EReal := V m c main_v16
/-- The convolution's bias. -/
abbrev C (c : Dev nD) : S1x15360.Idx → EReal := V m c main_v18
/-- The reciprocal of the result's scale. -/
abbrev INV (c : Dev nD) : S1.Idx → EReal := V m c main_v22

/-- The activated product at row `r` and channel `ch`. -/
def hid (c : Dev nD) (r ch : ℕ) : EReal :=
  act ((∑ k : Fin 3072, rd (Xq m c) ![r, k.val] * rd (Wq m c) ![k.val, ch]) * rd (S m c) ![0, ch] + rd (B m c) ![0, ch])

/-- The result array, element by element. -/
def G (c : Dev nD) : S16384x7680.Idx → EReal := fun i =>
  unit (fun n => imgTap (hid m c) (i 0).val (n.val / 3) (n.val % 3) (i 1).val) (fun n => rd (K m c) ![n.val, (i 0).val % 16, (i 1).val]) (rd (C m c) ![0, (i 1).val])
    (fun n => imgTap (hid m c) (i 0).val (n.val / 3) (n.val % 3) (7680 + (i 1).val)) (fun n => rd (K m c) ![n.val, (i 0).val % 16, 7680 + (i 1).val]) (rd (C m c) ![0, 7680 + (i 1).val])
    (rd (INV m c) ![0])

theorem index1 (t : Fin cfg0.N) : win0_1.index t 0 = min t.val 239 % 16 ∧ win0_1.index t 1 = 0 :=
  (by decide +kernel : ∀ t : Fin grid0.N, win0_1.index t 0 = min t.val 239 % 16 ∧ win0_1.index t 1 = 0) t
theorem index2 (t : Fin cfg0.N) : win0_2.index t 0 = 0 ∧ win0_2.index t 1 = min t.val 239 / 16 :=
  (by decide +kernel : ∀ t : Fin grid0.N, win0_2.index t 0 = 0 ∧ win0_2.index t 1 = min t.val 239 / 16) t
theorem index3 (t : Fin cfg0.N) : win0_3.index t 0 = 0 ∧ win0_3.index t 1 = min t.val 239 / 16 + 15 :=
  (by decide +kernel : ∀ t : Fin grid0.N, win0_3.index t 0 = 0 ∧ win0_3.index t 1 = min t.val 239 / 16 + 15) t
theorem index4 (t : Fin cfg0.N) : win0_4.index t 0 = 0 ∧ win0_4.index t 1 = min t.val 239 / 16 :=
  (by decide +kernel : ∀ t : Fin grid0.N, win0_4.index t 0 = 0 ∧ win0_4.index t 1 = min t.val 239 / 16) t
theorem index5 (t : Fin cfg0.N) : win0_5.index t 0 = 0 ∧ win0_5.index t 1 = min t.val 239 / 16 + 15 :=
  (by decide +kernel : ∀ t : Fin grid0.N, win0_5.index t 0 = 0 ∧ win0_5.index t 1 = min t.val 239 / 16 + 15) t
theorem index6 (t : Fin cfg0.N) : win0_6.index t 0 = 0 ∧ win0_6.index t 1 = min t.val 239 / 16 :=
  (by decide +kernel : ∀ t : Fin grid0.N, win0_6.index t 0 = 0 ∧ win0_6.index t 1 = min t.val 239 / 16) t
theorem index7 (t : Fin cfg0.N) : win0_7.index t 0 = 0 ∧ win0_7.index t 1 = min t.val 239 / 16 + 15 :=
  (by decide +kernel : ∀ t : Fin grid0.N, win0_7.index t 0 = 0 ∧ win0_7.index t 1 = min t.val 239 / 16 + 15) t
theorem index8 (t : Fin cfg0.N) : win0_8.index t 0 = 0 ∧ win0_8.index t 1 = 0 ∧ win0_8.index t 2 = (t.val - 1) / 16 :=
  (by decide +kernel : ∀ t : Fin grid0.N, win0_8.index t 0 = 0 ∧ win0_8.index t 1 = 0 ∧ win0_8.index t 2 = (t.val - 1) / 16) t
theorem index9 (t : Fin cfg0.N) : win0_9.index t 0 = 0 ∧ win0_9.index t 1 = 0 ∧ win0_9.index t 2 = (t.val - 1) / 16 + 15 :=
  (by decide +kernel : ∀ t : Fin grid0.N, win0_9.index t 0 = 0 ∧ win0_9.index t 1 = 0 ∧ win0_9.index t 2 = (t.val - 1) / 16 + 15) t
theorem index10 (t : Fin cfg0.N) : win0_10.index t 0 = 0 ∧ win0_10.index t 1 = (t.val - 1) / 16 :=
  (by decide +kernel : ∀ t : Fin grid0.N, win0_10.index t 0 = 0 ∧ win0_10.index t 1 = (t.val - 1) / 16) t
theorem index11 (t : Fin cfg0.N) : win0_11.index t 0 = 0 ∧ win0_11.index t 1 = (t.val - 1) / 16 + 15 :=
  (by decide +kernel : ∀ t : Fin grid0.N, win0_11.index t 0 = 0 ∧ win0_11.index t 1 = (t.val - 1) / 16 + 15) t
theorem index12 (t : Fin cfg0.N) : win0_12.index t 0 = (t.val - 1) % 16 ∧ win0_12.index t 1 = (t.val - 1) / 16 :=
  (by decide +kernel : ∀ t : Fin grid0.N, win0_12.index t 0 = (t.val - 1) % 16 ∧ win0_12.index t 1 = (t.val - 1) / 16) t
theorem block1 (c : Dev nD) (t : Fin cfg0.N) (u v : ℕ) (hu : u < 1024) (hv : v < 3072) : rd (s := S1024x3072) (iblk m c 1 t) ![u, v] = rd (Xq m c) ![(min t.val 239 % 16) * 1024 + u, v] := by
  obtain ⟨i0, i1⟩ := index1 t
  refine rd_block (s := S1024x3072) (iblk m c 1 t) (Xq m c) (win0_1.rect t).emb (fun _ => rfl) _ (fun d => by match d with | ⟨0, _⟩ => exact hu | ⟨1, _⟩ => exact hv) _ (fun d => ?_)
  match d with
    | ⟨0, _⟩ => exact (win0_1.rect_emb_val t _ 0).trans (by rw [i0]; rfl)
    | ⟨1, _⟩ => exact win0_1.rect_emb_val_of_index_zero t 1 i1 _
theorem block2 (c : Dev nD) (t : Fin cfg0.N) (u v : ℕ) (hu : u < 3072) (hv : v < 512) : rd (s := S3072x512) (iblk m c 2 t) ![u, v] = rd (Wq m c) ![u, (min t.val 239 / 16) * 512 + v] := by
  obtain ⟨i0, i1⟩ := index2 t
  refine rd_block (s := S3072x512) (iblk m c 2 t) (Wq m c) (win0_2.rect t).emb (fun _ => rfl) _ (fun d => by match d with | ⟨0, _⟩ => exact hu | ⟨1, _⟩ => exact hv) _ (fun d => ?_)
  match d with
    | ⟨0, _⟩ => exact win0_2.rect_emb_val_of_index_zero t 0 i0 _
    | ⟨1, _⟩ => exact (win0_2.rect_emb_val t _ 1).trans (by rw [i1]; rfl)
theorem block3 (c : Dev nD) (t : Fin cfg0.N) (u v : ℕ) (hu : u < 3072) (hv : v < 512) : rd (s := S3072x512) (iblk m c 3 t) ![u, v] = rd (Wq m c) ![u, (min t.val 239 / 16 + 15) * 512 + v] := by
  obtain ⟨i0, i1⟩ := index3 t
  refine rd_block (s := S3072x512) (iblk m c 3 t) (Wq m c) (win0_3.rect t).emb (fun _ => rfl) _ (fun d => by match d with | ⟨0, _⟩ => exact hu | ⟨1, _⟩ => exact hv) _ (fun d => ?_)
  match d with
    | ⟨0, _⟩ => exact win0_3.rect_emb_val_of_index_zero t 0 i0 _
    | ⟨1, _⟩ => exact (win0_3.rect_emb_val t _ 1).trans (by rw [i1]; rfl)
theorem block4 (c : Dev nD) (t : Fin cfg0.N) (u v : ℕ) (hu : u < 1) (hv : v < 512) : rd (s := S1x512) (iblk m c 4 t) ![u, v] = rd (S m c) ![u, (min t.val 239 / 16) * 512 + v] := by
  obtain ⟨i0, i1⟩ := index4 t
  refine rd_block (s := S1x512) (iblk m c 4 t) (S m c) (win0_4.rect t).emb (fun _ => rfl) _ (fun d => by match d with | ⟨0, _⟩ => exact hu | ⟨1, _⟩ => exact hv) _ (fun d => ?_)
  match d with
    | ⟨0, _⟩ => exact win0_4.rect_emb_val_of_index_zero t 0 i0 _
    | ⟨1, _⟩ => exact (win0_4.rect_emb_val t _ 1).trans (by rw [i1]; rfl)
theorem block5 (c : Dev nD) (t : Fin cfg0.N) (u v : ℕ) (hu : u < 1) (hv : v < 512) : rd (s := S1x512) (iblk m c 5 t) ![u, v] = rd (S m c) ![u, (min t.val 239 / 16 + 15) * 512 + v] := by
  obtain ⟨i0, i1⟩ := index5 t
  refine rd_block (s := S1x512) (iblk m c 5 t) (S m c) (win0_5.rect t).emb (fun _ => rfl) _ (fun d => by match d with | ⟨0, _⟩ => exact hu | ⟨1, _⟩ => exact hv) _ (fun d => ?_)
  match d with
    | ⟨0, _⟩ => exact win0_5.rect_emb_val_of_index_zero t 0 i0 _
    | ⟨1, _⟩ => exact (win0_5.rect_emb_val t _ 1).trans (by rw [i1]; rfl)
theorem block6 (c : Dev nD) (t : Fin cfg0.N) (u v : ℕ) (hu : u < 1) (hv : v < 512) : rd (s := S1x512) (iblk m c 6 t) ![u, v] = rd (B m c) ![u, (min t.val 239 / 16) * 512 + v] := by
  obtain ⟨i0, i1⟩ := index6 t
  refine rd_block (s := S1x512) (iblk m c 6 t) (B m c) (win0_6.rect t).emb (fun _ => rfl) _ (fun d => by match d with | ⟨0, _⟩ => exact hu | ⟨1, _⟩ => exact hv) _ (fun d => ?_)
  match d with
    | ⟨0, _⟩ => exact win0_6.rect_emb_val_of_index_zero t 0 i0 _
    | ⟨1, _⟩ => exact (win0_6.rect_emb_val t _ 1).trans (by rw [i1]; rfl)
theorem block7 (c : Dev nD) (t : Fin cfg0.N) (u v : ℕ) (hu : u < 1) (hv : v < 512) : rd (s := S1x512) (iblk m c 7 t) ![u, v] = rd (B m c) ![u, (min t.val 239 / 16 + 15) * 512 + v] := by
  obtain ⟨i0, i1⟩ := index7 t
  refine rd_block (s := S1x512) (iblk m c 7 t) (B m c) (win0_7.rect t).emb (fun _ => rfl) _ (fun d => by match d with | ⟨0, _⟩ => exact hu | ⟨1, _⟩ => exact hv) _ (fun d => ?_)
  match d with
    | ⟨0, _⟩ => exact win0_7.rect_emb_val_of_index_zero t 0 i0 _
    | ⟨1, _⟩ => exact (win0_7.rect_emb_val t _ 1).trans (by rw [i1]; rfl)
theorem block8 (c : Dev nD) (t : Fin cfg0.N) (u v w : ℕ) (hu : u < 9) (hv : v < 16) (hw : w < 512) : rd (s := S9x16x512) (iblk m c 8 t) ![u, v, w] = rd (K m c) ![u, v, ((t.val - 1) / 16) * 512 + w] := by
  obtain ⟨i0, i1, i2⟩ := index8 t
  refine rd_block (s := S9x16x512) (iblk m c 8 t) (K m c) (win0_8.rect t).emb (fun _ => rfl) _ (fun d => by match d with | ⟨0, _⟩ => exact hu | ⟨1, _⟩ => exact hv | ⟨2, _⟩ => exact hw) _ (fun d => ?_)
  match d with
    | ⟨0, _⟩ => exact win0_8.rect_emb_val_of_index_zero t 0 i0 _
    | ⟨1, _⟩ => exact win0_8.rect_emb_val_of_index_zero t 1 i1 _
    | ⟨2, _⟩ => exact (win0_8.rect_emb_val t _ 2).trans (by rw [i2]; rfl)
theorem block9 (c : Dev nD) (t : Fin cfg0.N) (u v w : ℕ) (hu : u < 9) (hv : v < 16) (hw : w < 512) : rd (s := S9x16x512) (iblk m c 9 t) ![u, v, w] = rd (K m c) ![u, v, ((t.val - 1) / 16 + 15) * 512 + w] := by
  obtain ⟨i0, i1, i2⟩ := index9 t
  refine rd_block (s := S9x16x512) (iblk m c 9 t) (K m c) (win0_9.rect t).emb (fun _ => rfl) _ (fun d => by match d with | ⟨0, _⟩ => exact hu | ⟨1, _⟩ => exact hv | ⟨2, _⟩ => exact hw) _ (fun d => ?_)
  match d with
    | ⟨0, _⟩ => exact win0_9.rect_emb_val_of_index_zero t 0 i0 _
    | ⟨1, _⟩ => exact win0_9.rect_emb_val_of_index_zero t 1 i1 _
    | ⟨2, _⟩ => exact (win0_9.rect_emb_val t _ 2).trans (by rw [i2]; rfl)
theorem block10 (c : Dev nD) (t : Fin cfg0.N) (u v : ℕ) (hu : u < 1) (hv : v < 512) : rd (s := S1x512) (iblk m c 10 t) ![u, v] = rd (C m c) ![u, ((t.val - 1) / 16) * 512 + v] := by
  obtain ⟨i0, i1⟩ := index10 t
  refine rd_block (s := S1x512) (iblk m c 10 t) (C m c) (win0_10.rect t).emb (fun _ => rfl) _ (fun d => by match d with | ⟨0, _⟩ => exact hu | ⟨1, _⟩ => exact hv) _ (fun d => ?_)
  match d with
    | ⟨0, _⟩ => exact win0_10.rect_emb_val_of_index_zero t 0 i0 _
    | ⟨1, _⟩ => exact (win0_10.rect_emb_val t _ 1).trans (by rw [i1]; rfl)
theorem block11 (c : Dev nD) (t : Fin cfg0.N) (u v : ℕ) (hu : u < 1) (hv : v < 512) : rd (s := S1x512) (iblk m c 11 t) ![u, v] = rd (C m c) ![u, ((t.val - 1) / 16 + 15) * 512 + v] := by
  obtain ⟨i0, i1⟩ := index11 t
  refine rd_block (s := S1x512) (iblk m c 11 t) (C m c) (win0_11.rect t).emb (fun _ => rfl) _ (fun d => by match d with | ⟨0, _⟩ => exact hu | ⟨1, _⟩ => exact hv) _ (fun d => ?_)
  match d with
    | ⟨0, _⟩ => exact win0_11.rect_emb_val_of_index_zero t 0 i0 _
    | ⟨1, _⟩ => exact (win0_11.rect_emb_val t _ 1).trans (by rw [i1]; rfl)

theorem block0 (c : Dev nD) (t : Fin cfg0.N) : rd (s := S1) (iblk m c 0 t) ![0] = rd (INV m c) ![0] :=
  rd_block (s := S1) (iblk m c 0 t) (INV m c) (win0_0.rect t).emb (fun _ => rfl) _ (fun d => by match d with | ⟨0, _⟩ => exact Nat.one_pos) _
    (fun d => by match d with | ⟨0, _⟩ => exact win0_0.rect_emb_val_of_index_zero t 0 (by rfl) _)

/-- The channel of lane `l` of panel `p` in the column block `g`. -/
def chan (g p l : ℕ) : ℕ := if p < 4 then g * 512 + (p % 4 * 128 + l) else (g + 15) * 512 + (p % 4 * 128 + l)

/-- A tile of the activated product. -/
theorem tile_eq (c : Dev nD) (s : ℕ) (hs : s < 240) (p row w l : ℕ) (hr : row < 8) (hw : w < 128) (hl : l < 128) :
    act_tile m c s p row w l = hid m c (s % 16 * 1024 + row * 128 + w) (chan (s / 16) p l) := by
  have hN : s < cfg0.N := lt_of_lt_of_eq (show s < 241 by omega) N_0.symm
  have hm : min s 239 = s := by omega
  unfold act_tile chan hid
  rw [dif_pos hN]
  unfold hcell cell
  have hx : ∀ k : Fin 3072, rd (s := S1024x3072) (iblk m c 1 ⟨s, hN⟩) ![row * 128 + w, k.val] = rd (Xq m c) ![s % 16 * 1024 + row * 128 + w, k.val] := fun k => by
    refine (block1 m c ⟨s, hN⟩ (row * 128 + w) k.val (by omega) k.isLt).trans ?_
    rw [show min (⟨s, hN⟩ : Fin cfg0.N).val 239 = s from hm, ← Nat.add_assoc]
  have hlt : p % 4 * 128 + l < 512 := by omega
  by_cases h4 : p < 4
  · rw [if_pos h4, if_pos h4, block4 m c ⟨s, hN⟩ 0 _ Nat.one_pos hlt, block6 m c ⟨s, hN⟩ 0 _ Nat.one_pos hlt]
    rw [show min (⟨s, hN⟩ : Fin cfg0.N).val 239 = s from hm]
    refine congrArg (fun z : EReal => act (z * _ + _)) (Finset.sum_congr rfl fun k _ => ?_)
    rw [hx k, block2 m c ⟨s, hN⟩ k.val _ k.isLt hlt, show min (⟨s, hN⟩ : Fin cfg0.N).val 239 = s from hm]
  · rw [if_neg h4, if_neg h4, block5 m c ⟨s, hN⟩ 0 _ Nat.one_pos hlt, block7 m c ⟨s, hN⟩ 0 _ Nat.one_pos hlt]
    rw [show min (⟨s, hN⟩ : Fin cfg0.N).val 239 = s from hm]
    refine congrArg (fun z : EReal => act (z * _ + _)) (Finset.sum_congr rfl fun k _ => ?_)
    rw [hx k, block3 m c ⟨s, hN⟩ k.val _ k.isLt hlt, show min (⟨s, hN⟩ : Fin cfg0.N).val 239 = s from hm]

/-- A tap of the image, from the tiles around it. -/
theorem tap_eq (c : Dev nD) (s : ℕ) (hs : s < 240) (p l : ℕ) (hl : l < 128) {row dr dc w : ℕ} (hr : row < 8) (hd : dr < 3) (hc : dc < 3) (hw : w < 128) :
    tapT (s % 8) ((s + 1) % 8) (act_tile m c (s - 1)) (act_tile m c s) (act_tile m c (s + 1)) row dr dc p w l
      = imgTap (hid m c) (s % 16 * 1024 + row * 128 + w) dr dc (chan (s / 16) p l) :=
  tapT_eq (fun h8 row w hr hw => by rw [tile_eq m c (s - 1) (by omega) p row w l hr hw hl, show (s - 1) / 16 = s / 16 by omega])
    (fun row w hr hw => tile_eq m c s hs p row w l hr hw hl)
    (fun h8 row w hr hw => by rw [tile_eq m c (s + 1) (by omega) p row w l hr hw hl, show (s + 1) / 16 = s / 16 by omega]) hr hd hc hw

/-- What a point leaves is its block of `G`. -/
theorem out_eq (c : Dev nD) (t : Fin cfg0.N) (ht : t.val ≠ 0) (y : S1024x512.Idx) : out_tile m c t y = G m c ((win0_12.rect t).emb y) := by
  obtain ⟨i0, i1⟩ := index12 t
  have e0 : ((win0_12.rect t).emb y 0).val = (t.val - 1) % 16 * 1024 + (y 0).val := (win0_12.rect_emb_val t y 0).trans (by rw [i0]; rfl)
  have e1 : ((win0_12.rect t).emb y 1).val = (t.val - 1) / 16 * 512 + (y 1).val := (win0_12.rect_emb_val t y 1).trans (by rw [i1]; rfl)
  have hN : t.val < 241 := lt_of_lt_of_eq t.isLt N_0
  have h0 : (y 0).val < 1024 := (y 0).isLt
  have h1 : (y 1).val < 512 := (y 1).isLt
  obtain ⟨s, hs⟩ : ∃ s, t.val = s + 1 := ⟨t.val - 1, by omega⟩
  have hb : 128 * ((y 1).val / 128) + (y 1).val % 128 = (y 1).val := by omega
  have h16 : (y 0).val % 128 % 16 < 16 := by omega
  have er : (s % 16 * 1024 + (y 0).val) % 16 = (y 0).val % 128 % 16 := by omega
  have eg : 7680 + (s / 16 * 512 + (y 1).val) = (s / 16 + 15) * 512 + (y 1).val := by omega
  have hT : ∀ (p ch : ℕ), chan (s / 16) p ((y 1).val % 128) = ch →
      (fun n : Fin 9 => tapT (s % 8) ((s + 1) % 8) (act_tile m c (s - 1)) (act_tile m c s) (act_tile m c (s + 1)) ((y 0).val / 128) (n.val / 3) (n.val % 3) p ((y 0).val % 128) ((y 1).val % 128))
      = fun n : Fin 9 => imgTap (hid m c) (s % 16 * 1024 + (y 0).val) (n.val / 3) (n.val % 3) ch := fun p ch hch => funext fun n => by
    have hn : n.val < 9 := n.isLt
    rw [tap_eq m c s (by omega) p _ (by omega) (by omega) (by omega) (by omega) (by omega), hch]
    exact congrArg (fun r => imgTap (hid m c) r _ _ ch) (by omega)
  unfold out_tile codeT G
  rw [e0, e1, hb]
  have f8 : (fun n : Fin 9 => rd (s := S9x16x512) (iblk m c 8 t) ![n.val, (y 0).val % 128 % 16, (y 1).val]) = fun n : Fin 9 => rd (K m c) ![n.val, (s % 16 * 1024 + (y 0).val) % 16, s / 16 * 512 + (y 1).val] := funext fun n => by
    rw [block8 m c t n.val _ _ n.isLt h16 h1, er, hs, Nat.add_sub_cancel]
  have f9 : (fun n : Fin 9 => rd (s := S9x16x512) (iblk m c 9 t) ![n.val, (y 0).val % 128 % 16, (y 1).val]) = fun n : Fin 9 => rd (K m c) ![n.val, (s % 16 * 1024 + (y 0).val) % 16, 7680 + (s / 16 * 512 + (y 1).val)] := funext fun n => by
    rw [block9 m c t n.val _ _ n.isLt h16 h1, er, eg, hs, Nat.add_sub_cancel]
  rw [block10 m c t 0 _ Nat.one_pos h1, block11 m c t 0 _ Nat.one_pos h1, block0, f8, f9, hs, Nat.add_sub_cancel, eg]
  rw [hT ((y 1).val / 128) (s / 16 * 512 + (y 1).val) (by unfold chan; rw [if_pos (by omega)]; omega),
    hT ((y 1).val / 128 + 4) ((s / 16 + 15) * 512 + (y 1).val) (by unfold chan; rw [if_neg (by omega)]; omega)]

theorem flush12 (t : Fin cfg0.N) : (cfg0.win 12).flush t = true ↔ t.val ≠ 0 :=
  (by decide +kernel : ∀ t : Fin grid0.N, win0_12.flush t = true ↔ t.val ≠ 0) t

/-- Being in a point's block, coordinate by coordinate. -/
theorem mem_blk (t : Fin cfg0.N) (i : S16384x7680.Idx) :
    i ∈ ((cfg0.win 12).blk t).view.set ↔ ∀ a, win0_12.index t a * win0_12.size a ≤ (i a : Nat)
      ∧ (i a : Nat) < win0_12.index t a * win0_12.size a + win0_12.xsize (grid0.coords t) a := by
  show i ∈ ((View.whole main_v23).slice (win0_12.rect t)).set ↔ _
  rw [View.set_slice_whole, Rect.mem_set_unit]

/-- The blocks tile the result array. -/
theorem cover (i : S16384x7680.Idx) : ∃ t : Fin cfg0.N, (cfg0.win 12).flush t = true ∧ i ∈ ((cfg0.win 12).blk t).view.set := by
  have h0 : (i 0 : Nat) < 16384 := (i 0).isLt
  have h1 : (i 1 : Nat) < 7680 := (i 1).isLt
  have hN : cfg0.N = 241 := N_0
  refine ⟨⟨(i 1 : Nat) / 512 * 16 + (i 0 : Nat) / 1024 + 1, by omega⟩, (flush12 _).mpr (Nat.succ_ne_zero _), ?_⟩
  rw [mem_blk]
  intro a
  match a with
  | ⟨0, _⟩ =>
    show win0_12.index _ 0 * 1024 ≤ (i 0 : Nat) ∧ (i 0 : Nat) < win0_12.index _ 0 * 1024 + 1024
    rw [(index12 _).1]; dsimp only; omega
  | ⟨1, _⟩ =>
    show win0_12.index _ 1 * 512 ≤ (i 1 : Nat) ∧ (i 1 : Nat) < win0_12.index _ 1 * 512 + 512
    rw [(index12 _).2]; dsimp only; omega

/-- So after every run the result array holds `G`. -/
theorem result {r : PUnit × MemSt nD τ sig (Elt Ideal)} (h : Pipeline.RDat.FramePost cfg0 (rdat (tracked m)) (V m) r) (c : Dev nD) :
    r.2.mem ((c : Thread nD τ).loc main_v23) = G m c := by
  obtain ⟨after, hl, ha⟩ := Pipeline.RDat.FramePost.exists_exact h c
  refine (ha 12).trans (((rdat (tracked m) c).withAfter after).arrAt_eq_of_cover 12 (G m c) (fun t hf => ?_) cover)
  have ho : (tracked m).O c t (after 12 t) := Pipeline.Dat.toRRel_leaves _ (by rfl) (hl 12 t hf)
  funext y
  show after 12 t y = G m c ((win0_12.rect t).emb y)
  exact (ho ((flush12 t).mp hf) y).trans (out_eq m c t ((flush12 t).mp hf) y)

end Cert.UpIdeal.Hand
-- ==== Proof.UpReference.lean ====
/-
  What the gated unit's reference computes, over the extended reals.
-/
module

public import proofs.«01_k».proof.Proof.Gen.UpRefIdeal.Value
public import proofs.«01_k».proof.Proof.UpKernel
public import Idealize.ShloMosaic.Lib.MatmulPlain
public import Idealize.ShloMosaic.Lib.ValueIdx
public import Idealize.ShloMosaic.Lib.Claim

@[expose] public section

set_option maxRecDepth 8192
set_option maxHeartbeats 400000

noncomputable section

namespace Cert.UpRefIdeal.Hand

open Cert.UpRefIdeal Cert.UpRefIdeal.Gen Idealize.ShloMosaic Idealize.ShloMosaic.TcCoe Idealize.SL.Sem
open Idealize.ShloMosaic.ValueIdx
open Cert.UpIdeal.Hand (rd rdD rd_of rd_in clip conv9 imgTap ofBits_zero ofBits_bf16_zero)
open scoped BigOperators

/-- The activation, written with the logistic function. -/
def silu (z : EReal) : EReal := z * Ideal.logistic z

/-- One code of the gated unit, from the taps of the value and of the gate. -/
def unit (tv kv : Fin 9 → EReal) (bv : EReal) (tu ku : Fin 9 → EReal) (bu inv : EReal) : EReal :=
  clip (conv9 tv kv bv * silu (conv9 tu ku bu) * inv)

/-- The activated product at row `r` and channel `ch`. -/
def hidOf (x : S16384x3072.Idx → EReal) (w : S3072x15360.Idx → EReal) (xs : S1x1.Idx → EReal) (ws b : S1x15360.Idx → EReal) (r ch : ℕ) : EReal :=
  silu ((∑ k : Fin 3072, rd x ![r, k.val] * rd w ![k.val, ch]) * rd xs ![0, 0] * rd ws ![0, ch] + rd b ![0, ch])

/-- The images with a border of zeros. -/
def bordered (h : ℕ → ℕ → EReal) (j : S2x66x130x15360.Idx) : EReal :=
  if 1 ≤ (j 1).val ∧ (j 1).val ≤ 64 ∧ 1 ≤ (j 2).val ∧ (j 2).val ≤ 128 then h ((j 0).val * 8192 + ((j 1).val - 1) * 128 + ((j 2).val - 1)) (j 3).val else 0

section Border

variable (h20 : FVec Ideal S2x64x128x15360 .bf16) (zr : FVec Ideal S2x1x128x15360 .bf16) (zc : FVec Ideal S2x66x1x15360 .bf16)

theorem rows_apply (hzr : ∀ y, zr y = (0 : EReal)) (j : S2x66x128x15360.Idx) :
    (concatenate S2x66x128x15360 1 [⟨S2x1x128x15360, zr⟩, ⟨S2x64x128x15360, h20⟩, ⟨S2x1x128x15360, zr⟩] concatenates_S2x1x128x15360_S2x64x128x15360_S2x1x128x15360_S2x66x128x15360_d1 : FVec Ideal S2x66x128x15360 .bf16) j
      = if hj : 1 ≤ (j 1).val ∧ (j 1).val ≤ 64 then h20 (fun d => match d with | ⟨0, _⟩ => j 0 | ⟨1, _⟩ => (⟨(j 1).val - 1, by omega⟩ : Fin 64) | ⟨2, _⟩ => j 2 | ⟨3, _⟩ => j 3) else (0 : EReal) := by
  have h66 : (j 1).val < 66 := (j 1).isLt
  by_cases h0 : (j 1).val = 0
  · rw [dif_neg (by omega)]
    refine (concatenate_apply_piece 1 _ _ j 0 (by show 0 < 3; decide) S2x1x128x15360 zr rfl rfl 0 rfl
      (fun d => match d with | ⟨0, _⟩ => j 0 | ⟨1, _⟩ => (0 : Fin 1) | ⟨2, _⟩ => j 2 | ⟨3, _⟩ => j 3) (fun b hb => ?_) ?_).trans (hzr _)
    · match b with
      | ⟨0, _⟩ => rfl
      | ⟨1, _⟩ => exact absurd rfl hb
      | ⟨2, _⟩ => rfl
      | ⟨3, _⟩ => rfl
    · exact h0.symm
  by_cases h64 : (j 1).val ≤ 64
  · rw [dif_pos ⟨by omega, h64⟩]
    refine concatenate_apply_piece 1 _ _ j 1 (by show 1 < 3; decide) S2x64x128x15360 h20 rfl rfl 1 rfl
      (fun d => match d with | ⟨0, _⟩ => j 0 | ⟨1, _⟩ => (⟨(j 1).val - 1, by omega⟩ : Fin 64) | ⟨2, _⟩ => j 2 | ⟨3, _⟩ => j 3) (fun b hb => ?_) ?_
    · match b with
      | ⟨0, _⟩ => rfl
      | ⟨1, _⟩ => exact absurd rfl hb
      | ⟨2, _⟩ => rfl
      | ⟨3, _⟩ => rfl
    · show 1 + ((j 1).val - 1) = (j 1).val
      omega
  · rw [dif_neg (by omega)]
    refine (concatenate_apply_piece 1 _ _ j 2 (by show 2 < 3; decide) S2x1x128x15360 zr rfl rfl 65 rfl
      (fun d => match d with | ⟨0, _⟩ => j 0 | ⟨1, _⟩ => (0 : Fin 1) | ⟨2, _⟩ => j 2 | ⟨3, _⟩ => j 3) (fun b hb => ?_) ?_).trans (hzr _)
    · match b with
      | ⟨0, _⟩ => rfl
      | ⟨1, _⟩ => exact absurd rfl hb
      | ⟨2, _⟩ => rfl
      | ⟨3, _⟩ => rfl
    · show 65 + 0 = (j 1).val
      omega

theorem cols_apply (h23 : FVec Ideal S2x66x128x15360 .bf16) (hzc : ∀ y, zc y = (0 : EReal)) (j : S2x66x130x15360.Idx) :
    (concatenate S2x66x130x15360 2 [⟨S2x66x1x15360, zc⟩, ⟨S2x66x128x15360, h23⟩, ⟨S2x66x1x15360, zc⟩] concatenates_S2x66x1x15360_S2x66x128x15360_S2x66x1x15360_S2x66x130x15360_d2 : FVec Ideal S2x66x130x15360 .bf16) j
      = if hj : 1 ≤ (j 2).val ∧ (j 2).val ≤ 128 then h23 (fun d => match d with | ⟨0, _⟩ => j 0 | ⟨1, _⟩ => j 1 | ⟨2, _⟩ => (⟨(j 2).val - 1, by omega⟩ : Fin 128) | ⟨3, _⟩ => j 3) else (0 : EReal) := by
  have h130 : (j 2).val < 130 := (j 2).isLt
  by_cases h0 : (j 2).val = 0
  · rw [dif_neg (by omega)]
    refine (concatenate_apply_piece 2 _ _ j 0 (by show 0 < 3; decide) S2x66x1x15360 zc rfl rfl 0 rfl
      (fun d => match d with | ⟨0, _⟩ => j 0 | ⟨1, _⟩ => j 1 | ⟨2, _⟩ => (0 : Fin 1) | ⟨3, _⟩ => j 3) (fun b hb => ?_) ?_).trans (hzc _)
    · match b with
      | ⟨0, _⟩ => rfl
      | ⟨1, _⟩ => rfl
      | ⟨2, _⟩ => exact absurd rfl hb
      | ⟨3, _⟩ => rfl
    · exact h0.symm
  by_cases h128 : (j 2).val ≤ 128
  · rw [dif_pos ⟨by omega, h128⟩]
    refine concatenate_apply_piece 2 _ _ j 1 (by show 1 < 3; decide) S2x66x128x15360 h23 rfl rfl 1 rfl
      (fun d => match d with | ⟨0, _⟩ => j 0 | ⟨1, _⟩ => j 1 | ⟨2, _⟩ => (⟨(j 2).val - 1, by omega⟩ : Fin 128) | ⟨3, _⟩ => j 3) (fun b hb => ?_) ?_
    · match b with
      | ⟨0, _⟩ => rfl
      | ⟨1, _⟩ => rfl
      | ⟨2, _⟩ => exact absurd rfl hb
      | ⟨3, _⟩ => rfl
    · show 1 + ((j 2).val - 1) = (j 2).val
      omega
  · rw [dif_neg (by omega)]
    refine (concatenate_apply_piece 2 _ _ j 2 (by show 2 < 3; decide) S2x66x1x15360 zc rfl rfl 129 rfl
      (fun d => match d with | ⟨0, _⟩ => j 0 | ⟨1, _⟩ => j 1 | ⟨2, _⟩ => (0 : Fin 1) | ⟨3, _⟩ => j 3) (fun b hb => ?_) ?_).trans (hzc _)
    · match b with
      | ⟨0, _⟩ => rfl
      | ⟨1, _⟩ => rfl
      | ⟨2, _⟩ => exact absurd rfl hb
      | ⟨3, _⟩ => rfl
    · show 129 + 0 = (j 2).val
      omega

end Border

/-- The linear map inside the activation. -/
def linR (v0 : Vec Ideal S16384x3072 .fp8e4m3) (v2 : Vec Ideal S3072x15360 .fp8e4m3) (v5 : Vec Ideal S1x1 .f32) (v9 v13 : Vec Ideal S1x15360 .f32) : FVec Ideal S16384x15360 .f32 :=
  addf (mulf (mulf (matmul dot_S16384x3072_S3072x15360_S16384x15360_1_0_0_1_n_n none (shapeCast S16384x3072 v0 shapeCasts_S16384x3072_S16384x3072 : FVec Ideal S16384x3072 .fp8e4m3)
        (shapeCast S3072x15360 v2 shapeCasts_S3072x15360_S3072x15360 : FVec Ideal S3072x15360 .fp8e4m3) (constant S16384x15360 .f32 0x00000000#32))
      (broadcastTo S16384x15360 (shapeCast S1x1 v5 shapeCasts_S1x1_S1x1 : FVec Ideal S1x1 .f32) broadcasts_S1x1_S16384x15360))
      (broadcastTo S16384x15360 (shapeCast S1x15360 v9 shapeCasts_S1x15360_S1x15360 : FVec Ideal S1x15360 .f32) broadcasts_S1x15360_S16384x15360))
    (broadcastTo S16384x15360 (shapeCast S1x15360 v13 shapeCasts_S1x15360_S1x15360 : FVec Ideal S1x15360 .f32) broadcasts_S1x15360_S16384x15360)

theorem linR_apply (v0 : Vec Ideal S16384x3072 .fp8e4m3) (v2 : Vec Ideal S3072x15360 .fp8e4m3) (v5 : Vec Ideal S1x1 .f32) (v9 v13 : Vec Ideal S1x15360 .f32) (r : Fin 16384) (ch : Fin 15360) :
    linR v0 v2 v5 v9 v13 (ix2 r ch) = (∑ k : Fin 3072, rd (s := S16384x3072) v0 ![r.val, k.val] * rd (s := S3072x15360) v2 ![k.val, ch.val]) * rd (s := S1x1) v5 ![0, 0] * rd (s := S1x15360) v9 ![0, ch.val] + rd (s := S1x15360) v13 ![0, ch.val] := by
  unfold linR
  simp only [shapeCast_self]
  rw [addf_apply, mulf_apply, mulf_apply]
  have row : ∀ v : Vec Ideal S1x15360 .f32, (broadcastTo S16384x15360 v broadcasts_S1x15360_S16384x15360 : FVec Ideal S16384x15360 .f32) (ix2 r ch) = rd (s := S1x15360) v ![0, ch.val] := fun v =>
    (broadcastTo_apply _ _ _ (ix2 (0 : Fin 1) ch) (fun a => by match a with | ⟨0, _⟩ => rfl | ⟨1, _⟩ => rfl)).trans
      (rd_of 0 v _ _ (fun a => by match a with | ⟨0, _⟩ => rfl | ⟨1, _⟩ => rfl))
  refine congrArg₂ (fun a b : EReal => a + b) (congrArg₂ (fun a b : EReal => a * b) (congrArg₂ (fun a b : EReal => a * b) ?_ ?_) (row v9)) (row v13)
  · refine (Ideal.matmul_plain_apply none v0 v2 _ r ch).trans ?_
    rw [constant_apply, ofBits_zero, zero_add]
    refine Finset.sum_congr rfl fun k _ => congrArg₂ (fun a b : EReal => a * b) ?_ ?_
    · exact rd_of 0 v0 _ _ (fun a => by match a with | ⟨0, _⟩ => rfl | ⟨1, _⟩ => rfl)
    · exact rd_of 0 v2 _ _ (fun a => by match a with | ⟨0, _⟩ => rfl | ⟨1, _⟩ => rfl)
  · exact (broadcastTo_apply _ _ _ (ix2 (0 : Fin 1) (0 : Fin 1)) (fun a => by match a with | ⟨0, _⟩ => rfl | ⟨1, _⟩ => rfl)).trans
      (rd_of 0 v5 _ _ (fun a => by match a with | ⟨0, _⟩ => rfl | ⟨1, _⟩ => rfl))

/-- The bordered images of the activated product. -/
theorem pay2_apply (v0 : Vec Ideal S16384x3072 .fp8e4m3) (v2 : Vec Ideal S3072x15360 .fp8e4m3) (v5 : Vec Ideal S1x1 .f32) (v9 v13 : Vec Ideal S1x15360 .f32) (j : S2x66x130x15360.Idx) :
    k0_pay2 v0 v2 v5 v9 v13 j = bordered (hidOf v0 v2 v5 v9 v13) j := by
  have hb : k0_pay2 v0 v2 v5 v9 v13 = concatenate S2x66x130x15360 2 [⟨S2x66x1x15360, broadcast S2x66x1x15360 (Scalar.ofBits .bf16 0x0000#16 : Ideal .bf16)⟩,
      ⟨S2x66x128x15360, concatenate S2x66x128x15360 1 [⟨S2x1x128x15360, broadcast S2x1x128x15360 (Scalar.ofBits .bf16 0x0000#16 : Ideal .bf16)⟩,
        ⟨S2x64x128x15360, shapeCast S2x64x128x15360 (truncf .bf16 (mulf (linR v0 v2 v5 v9 v13) (logistic (linR v0 v2 v5 v9 v13))) bitsLt_bf16_f32 : FVec Ideal S16384x15360 .bf16) shapeCasts_S16384x15360_S2x64x128x15360⟩,
        ⟨S2x1x128x15360, broadcast S2x1x128x15360 (Scalar.ofBits .bf16 0x0000#16 : Ideal .bf16)⟩] concatenates_S2x1x128x15360_S2x64x128x15360_S2x1x128x15360_S2x66x128x15360_d1⟩,
      ⟨S2x66x1x15360, broadcast S2x66x1x15360 (Scalar.ofBits .bf16 0x0000#16 : Ideal .bf16)⟩] concatenates_S2x66x1x15360_S2x66x128x15360_S2x66x1x15360_S2x66x130x15360_d2 := by
    unfold k0_pay2 linR
    rfl
  rw [hb]
  refine (cols_apply _ _ (fun _ => ofBits_bf16_zero) j).trans ?_
  unfold bordered
  by_cases h2 : 1 ≤ (j 2).val ∧ (j 2).val ≤ 128
  · rw [dif_pos h2]
    refine (rows_apply _ _ (fun _ => ofBits_bf16_zero) _).trans ?_
    by_cases h1 : 1 ≤ (j 1).val ∧ (j 1).val ≤ 64
    · rw [if_pos ⟨h1.1, h1.2, h2.1, h2.2⟩]
      refine (dif_pos h1).trans ?_
      have b0 : (j 0).val < 2 := (j 0).isLt
      have hr : (j 0).val * 8192 + ((j 1).val - 1) * 128 + ((j 2).val - 1) < 16384 := by omega
      refine (shapeCast_apply _ _ _ (ix2 (⟨(j 0).val * 8192 + ((j 1).val - 1) * 128 + ((j 2).val - 1), hr⟩ : Fin 16384) (j 3 : Fin 15360)) ?_).trans ?_
      · rw [Shape.rowMajor_val_two, Shape.rowMajor_val_four]
        show ((j 0).val * 8192 + ((j 1).val - 1) * 128 + ((j 2).val - 1)) * 15360 + (j 3).val = (((j 0).val * 64 + ((j 1).val - 1)) * 128 + ((j 2).val - 1)) * 15360 + (j 3).val
        omega
      · exact congrArg silu (linR_apply v0 v2 v5 v9 v13 ⟨_, hr⟩ (j 3))
    · rw [if_neg (fun h => h1 ⟨h.1, h.2.1⟩)]
      exact dif_neg h1
  · rw [dif_neg h2, if_neg (fun h => h2 h.2.2)]

section Conv

variable {h : ℕ → ℕ → EReal} {v24 : FVec Ideal S2x66x130x15360 .bf16} (hv : ∀ j, v24 j = bordered h j)

/-- One product of a tap and its weights. -/
def tapR (v24 : FVec Ideal S2x66x130x15360 .bf16) (off : Fin 4 → ℕ) (hs : S2x66x130x15360.Slices off S2x64x128x15360) (w : Vec Ideal S1x1x1x1x15360 .bf16) : FVec Ideal S2x64x128x15360 .f32 :=
  mulf (extf .f32 (extractStridedSlice S2x64x128x15360 off v24 hs : FVec Ideal S2x64x128x15360 .bf16) bitsLt_bf16_f32)
    (broadcastTo S2x64x128x15360 (extf .f32 (shapeCast S1x1x1x15360 w shapeCasts_S1x1x1x1x15360_S1x1x1x15360 : FVec Ideal S1x1x1x15360 .bf16) bitsLt_bf16_f32 : FVec Ideal S1x1x1x15360 .f32) broadcasts_S1x1x1x15360_S2x64x128x15360)

include hv in
theorem tapR_apply {off : Fin 4 → ℕ} {hs} (n : Fin 9) (hoff : off = ![0, n.val / 3, n.val % 3, 0]) (dw : Vec Ideal S9x1x1x1x15360 .bf16) (offw : Fin 5 → ℕ) (inb)
    (hw : offw = ![n.val, 0, 0, 0, 0]) (y : S2x64x128x15360.Idx) :
    tapR v24 off hs (View.ld dw (Rect.unit (s := S9x1x1x1x15360) offw S1x1x1x1x15360.size inb)) y
      = imgTap h ((y 0).val * 8192 + (y 1).val * 128 + (y 2).val) (n.val / 3) (n.val % 3) (y 3).val * rd (s := S9x1x1x1x15360) dw ![n.val, 0, 0, 0, (y 3).val] := by
  subst hoff
  subst hw
  have b0 : (y 0).val < 2 := (y 0).isLt
  have b1 : (y 1).val < 64 := (y 1).isLt
  have b2 : (y 2).val < 128 := (y 2).isLt
  have bn := n.isLt
  unfold tapR
  rw [mulf_apply]
  refine congrArg₂ (fun a b : EReal => a * b) ?_ ?_
  · rw [extf_apply]
    refine (extractStridedSlice_apply (s := S2x66x130x15360) _ _ _ _ (fun d => match d with | ⟨0, _⟩ => y 0 | ⟨1, _⟩ => (⟨n.val / 3 + (y 1).val, by omega⟩ : Fin 66) | ⟨2, _⟩ => (⟨n.val % 3 + (y 2).val, by omega⟩ : Fin 130) | ⟨3, _⟩ => y 3) (fun a => by
      match a with
      | ⟨0, _⟩ => exact (Nat.zero_add _).symm
      | ⟨1, _⟩ => rfl
      | ⟨2, _⟩ => rfl
      | ⟨3, _⟩ => exact (Nat.zero_add _).symm)).trans ?_
    rw [hv]
    unfold bordered imgTap
    have e1 : ((y 0).val * 8192 + (y 1).val * 128 + (y 2).val) / 128 % 64 = (y 1).val := by omega
    have e2 : ((y 0).val * 8192 + (y 1).val * 128 + (y 2).val) % 128 = (y 2).val := by omega
    rw [e1, e2]
    show (if 1 ≤ n.val / 3 + (y 1).val ∧ n.val / 3 + (y 1).val ≤ 64 ∧ 1 ≤ n.val % 3 + (y 2).val ∧ n.val % 3 + (y 2).val ≤ 128
      then h ((y 0).val * 8192 + (n.val / 3 + (y 1).val - 1) * 128 + (n.val % 3 + (y 2).val - 1)) (y 3).val else 0) = _
    by_cases hc : 1 ≤ (y 1).val + n.val / 3 ∧ (y 1).val + n.val / 3 ≤ 64 ∧ 1 ≤ (y 2).val + n.val % 3 ∧ (y 2).val + n.val % 3 ≤ 128
    · rw [if_pos hc, if_pos (by omega)]
      exact congrArg (fun k => h k (y 3).val) (by omega)
    · rw [if_neg hc, if_neg (by omega)]
  · refine (broadcastTo_apply (s := S1x1x1x15360) _ _ _ (fun d => match d with | ⟨0, _⟩ => (0 : Fin 1) | ⟨1, _⟩ => (0 : Fin 1) | ⟨2, _⟩ => (0 : Fin 1) | ⟨3, _⟩ => y 3) (fun a => by
      match a with | ⟨0, _⟩ => rfl | ⟨1, _⟩ => rfl | ⟨2, _⟩ => rfl | ⟨3, _⟩ => rfl)).trans ?_
    rw [extf_apply]
    refine (shapeCast_apply (s := S1x1x1x1x15360) _ _ _ (fun d => match d with | ⟨0, _⟩ => (0 : Fin 1) | ⟨1, _⟩ => (0 : Fin 1) | ⟨2, _⟩ => (0 : Fin 1) | ⟨3, _⟩ => (0 : Fin 1) | ⟨4, _⟩ => y 3) ?_).trans ?_
    · rw [Shape.rowMajor_val_five, Shape.rowMajor_val_four]
      show (((0 * 1 + 0) * 1 + 0) * 1 + 0) * 15360 + (y 3).val = ((0 * 1 + 0) * 1 + 0) * 15360 + (y 3).val
      omega
    · exact rd_of 0 dw ((Rect.unit (s := S9x1x1x1x15360) ![n.val, 0, 0, 0, 0] S1x1x1x1x15360.size inb).emb _) _ (fun a => by
        match a with
        | ⟨0, _⟩ => show n.val + 1 * 0 = n.val; omega
        | ⟨1, _⟩ => rfl
        | ⟨2, _⟩ => rfl
        | ⟨3, _⟩ => rfl
        | ⟨4, _⟩ => show 0 + 1 * (y 3).val = (y 3).val; omega)

/-- The nine products of the convolution, added from the left. -/
def nineR (v24 : FVec Ideal S2x66x130x15360 .bf16) (dw : Vec Ideal S9x1x1x1x15360 .bf16) : FVec Ideal S2x64x128x15360 .f32 :=
  addf (addf (addf (addf (addf (addf (addf (addf
    (tapR v24 ![0, 0, 0, 0] slices_S2x66x130x15360_o0_0_0_0_S2x64x128x15360 (View.ld dw r0_4))
    (tapR v24 ![0, 0, 1, 0] slices_S2x66x130x15360_o0_0_1_0_S2x64x128x15360 (View.ld dw r0_5)))
    (tapR v24 ![0, 0, 2, 0] slices_S2x66x130x15360_o0_0_2_0_S2x64x128x15360 (View.ld dw r0_6)))
    (tapR v24 ![0, 1, 0, 0] slices_S2x66x130x15360_o0_1_0_0_S2x64x128x15360 (View.ld dw r0_7)))
    (tapR v24 ![0, 1, 1, 0] slices_S2x66x130x15360_o0_1_1_0_S2x64x128x15360 (View.ld dw r0_8)))
    (tapR v24 ![0, 1, 2, 0] slices_S2x66x130x15360_o0_1_2_0_S2x64x128x15360 (View.ld dw r0_9)))
    (tapR v24 ![0, 2, 0, 0] slices_S2x66x130x15360_o0_2_0_0_S2x64x128x15360 (View.ld dw r0_10)))
    (tapR v24 ![0, 2, 1, 0] slices_S2x66x130x15360_o0_2_1_0_S2x64x128x15360 (View.ld dw r0_11)))
    (tapR v24 ![0, 2, 2, 0] slices_S2x66x130x15360_o0_2_2_0_S2x64x128x15360 (View.ld dw r0_12))

include hv in
theorem nineR_apply (dw : Vec Ideal S9x1x1x1x15360 .bf16) (y : S2x64x128x15360.Idx) :
    nineR v24 dw y = (fun (t k : Fin 9 → EReal) => t 0 * k 0 + t 1 * k 1 + t 2 * k 2 + t 3 * k 3 + t 4 * k 4 + t 5 * k 5 + t 6 * k 6 + t 7 * k 7 + t 8 * k 8)
      (fun n => imgTap h ((y 0).val * 8192 + (y 1).val * 128 + (y 2).val) (n.val / 3) (n.val % 3) (y 3).val) (fun n => rd (s := S9x1x1x1x15360) dw ![n.val, 0, 0, 0, (y 3).val]) :=
  congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (tapR_apply hv 0 rfl dw _ _ rfl y)
    (tapR_apply hv 1 rfl dw _ _ rfl y))
    (tapR_apply hv 2 rfl dw _ _ rfl y))
    (tapR_apply hv 3 rfl dw _ _ rfl y))
    (tapR_apply hv 4 rfl dw _ _ rfl y))
    (tapR_apply hv 5 rfl dw _ _ rfl y))
    (tapR_apply hv 6 rfl dw _ _ rfl y))
    (tapR_apply hv 7 rfl dw _ _ rfl y))
    (tapR_apply hv 8 rfl dw _ _ rfl y)

/-- The convolution with its bias, row by channel. -/
def convR (v24 : FVec Ideal S2x66x130x15360 .bf16) (dw : Vec Ideal S9x1x1x1x15360 .bf16) (b : Vec Ideal S1x15360 .f32) : FVec Ideal S16384x15360 .f32 :=
  addf (shapeCast S16384x15360 (nineR v24 dw) shapeCasts_S2x64x128x15360_S16384x15360) (broadcastTo S16384x15360 b broadcasts_S1x15360_S16384x15360)

include hv in
theorem convR_apply (dw : Vec Ideal S9x1x1x1x15360 .bf16) (b : Vec Ideal S1x15360 .f32) (i : S16384x15360.Idx) :
    convR v24 dw b i = conv9 (fun n => imgTap h (i 0).val (n.val / 3) (n.val % 3) (i 1).val) (fun n => rd (s := S9x1x1x1x15360) dw ![n.val, 0, 0, 0, (i 1).val]) (rd (s := S1x15360) b ![0, (i 1).val]) := by
  have b0 : (i 0).val < 16384 := (i 0).isLt
  unfold convR conv9
  rw [addf_apply]
  refine congrArg₂ (fun a b : EReal => a + b) ?_ ?_
  · refine (shapeCast_apply (s := S2x64x128x15360) _ _ _ (fun d => match d with | ⟨0, _⟩ => (⟨(i 0).val / 8192, by omega⟩ : Fin 2) | ⟨1, _⟩ => (⟨(i 0).val / 128 % 64, by omega⟩ : Fin 64) | ⟨2, _⟩ => (⟨(i 0).val % 128, by omega⟩ : Fin 128) | ⟨3, _⟩ => i 1) ?_).trans ?_
    · rw [Shape.rowMajor_val_two, Shape.rowMajor_val_four]
      show (((i 0).val / 8192 * 64 + (i 0).val / 128 % 64) * 128 + (i 0).val % 128) * 15360 + (i 1).val = (i 0).val * 15360 + (i 1).val
      omega
    · have hr : (i 0).val / 8192 * 8192 + (i 0).val / 128 % 64 * 128 + (i 0).val % 128 = (i 0).val := by omega
      refine (nineR_apply hv dw _).trans ?_
      dsimp only
      rw [hr]
  · exact (broadcastTo_apply _ _ _ (ix2 (0 : Fin 1) (i 1 : Fin 15360)) (fun a => by match a with | ⟨0, _⟩ => rfl | ⟨1, _⟩ => rfl)).trans
      (rd_of 0 b _ _ (fun a => by match a with | ⟨0, _⟩ => rfl | ⟨1, _⟩ => rfl))

end Conv

/-- The result, element by element, from the windows' arrays. -/
def GOf (x : S16384x3072.Idx → EReal) (w : S3072x15360.Idx → EReal) (ws b : S1x15360.Idx → EReal) (xs : S1x1.Idx → EReal) (dw : S9x1x1x1x15360.Idx → EReal) (bdw : S1x15360.Idx → EReal)
    (gs : S1x1.Idx → EReal) : S16384x7680.Idx → EReal := fun i =>
  unit (fun n => imgTap (hidOf x w xs ws b) (i 0).val (n.val / 3) (n.val % 3) (i 1).val) (fun n => rd dw ![n.val, 0, 0, 0, (i 1).val]) (rd bdw ![0, (i 1).val])
    (fun n => imgTap (hidOf x w xs ws b) (i 0).val (n.val / 3) (n.val % 3) (7680 + (i 1).val)) (fun n => rd dw ![n.val, 0, 0, 0, 7680 + (i 1).val]) (rd bdw ![0, 7680 + (i 1).val])
    (Ideal.div (Ideal.ofBits .f32 0x3F800000#32) (rd gs ![0, 0]))

theorem hz : (![0, 0] : Fin 2 → Nat) = fun _ => 0 := funext fun a => by fin_cases a <;> rfl

/-- What the last lines make of the convolution. -/
def lastR (C : FVec Ideal S16384x15360 .f32) (gs : Vec Ideal S1x1 .f32) : FVec Ideal S16384x7680 .fp8e4m3 :=
  truncf .fp8e4m3 (minimumf (broadcast S16384x7680 (Scalar.ofBits .f32 0x43E00000#32 : Ideal .f32)) (maximumf (broadcast S16384x7680 (Scalar.ofBits .f32 0xC3E00000#32 : Ideal .f32))
    (mulf (mulf (extractStridedSlice S16384x7680 ![0, 0] C slices_S16384x15360_o0_0_S16384x7680 : FVec Ideal S16384x7680 .f32)
        (mulf (extractStridedSlice S16384x7680 ![0, 7680] C slices_S16384x15360_o0_7680_S16384x7680) (logistic (extractStridedSlice S16384x7680 ![0, 7680] C slices_S16384x15360_o0_7680_S16384x7680))))
      (broadcastTo S16384x7680 (divf (broadcast S1x1 (Scalar.ofBits .f32 0x3F800000#32 : Ideal .f32)) gs : FVec Ideal S1x1 .f32) broadcasts_S1x1_S16384x7680)))) bitsLt_fp8e4m3_f32

theorem lastR_apply (C : FVec Ideal S16384x15360 .f32) (gs : Vec Ideal S1x1 .f32) (i : S16384x7680.Idx) :
    lastR C gs i = clip (rd (s := S16384x15360) C ![(i 0).val, (i 1).val] * silu (rd (s := S16384x15360) C ![(i 0).val, 7680 + (i 1).val]) * Ideal.div (Ideal.ofBits .f32 0x3F800000#32) (rd (s := S1x1) gs ![0, 0])) := by
  have b1 : (i 1).val < 7680 := (i 1).isLt
  have h1 : (extractStridedSlice S16384x7680 ![0, 0] C slices_S16384x15360_o0_0_S16384x7680 : FVec Ideal S16384x7680 .f32) i = rd (s := S16384x15360) C ![(i 0).val, (i 1).val] :=
    (extractStridedSlice_apply _ _ _ _ (ix2 (i 0 : Fin 16384) (⟨(i 1).val, by omega⟩ : Fin 15360)) (fun a => by match a with | ⟨0, _⟩ => exact (Nat.zero_add _).symm | ⟨1, _⟩ => exact (Nat.zero_add _).symm)).trans
      (rd_of 0 C _ _ (fun a => by match a with | ⟨0, _⟩ => rfl | ⟨1, _⟩ => rfl))
  have h2 : (extractStridedSlice S16384x7680 ![0, 7680] C slices_S16384x15360_o0_7680_S16384x7680 : FVec Ideal S16384x7680 .f32) i = rd (s := S16384x15360) C ![(i 0).val, 7680 + (i 1).val] :=
    (extractStridedSlice_apply _ _ _ _ (ix2 (i 0 : Fin 16384) (⟨7680 + (i 1).val, by omega⟩ : Fin 15360)) (fun a => by match a with | ⟨0, _⟩ => exact (Nat.zero_add _).symm | ⟨1, _⟩ => rfl)).trans
      (rd_of 0 C _ _ (fun a => by match a with | ⟨0, _⟩ => rfl | ⟨1, _⟩ => rfl))
  have h3 : (broadcastTo S16384x7680 (divf (broadcast S1x1 (Scalar.ofBits .f32 0x3F800000#32 : Ideal .f32)) gs : FVec Ideal S1x1 .f32) broadcasts_S1x1_S16384x7680 : FVec Ideal S16384x7680 .f32) i
      = Ideal.div (Ideal.ofBits .f32 0x3F800000#32) (rd (s := S1x1) gs ![0, 0]) :=
    (broadcastTo_apply _ _ _ (ix2 (0 : Fin 1) (0 : Fin 1)) (fun a => by match a with | ⟨0, _⟩ => rfl | ⟨1, _⟩ => rfl)).trans
      (congrArg (Ideal.div (Ideal.ofBits .f32 0x3F800000#32)) (rd_of 0 gs _ _ (fun a => by match a with | ⟨0, _⟩ => rfl | ⟨1, _⟩ => rfl)))
  rw [← h1, ← h2, ← h3]
  rfl

/-- The payload, element by element. -/
theorem out_apply (x0 : Vec Ideal S16384x3072 .fp8e4m3) (x1 : Vec Ideal S3072x15360 .fp8e4m3) (x2 x3 : Vec Ideal S1x15360 .f32) (x4 : Vec Ideal S1x1 .f32) (x5 : Vec Ideal S9x1x1x1x15360 .bf16)
    (x6 : Vec Ideal S1x15360 .f32) (x7 : Vec Ideal S1x1 .f32) : out0_8 x0 x1 x2 x3 x4 x5 x6 x7 = GOf x0 x1 x2 x3 x4 x5 x6 x7 := by
  have ho : out0_8 x0 x1 x2 x3 x4 x5 x6 x7 = lastR (convR (k0_pay2 x0 x1 x4 x2 x3) x5 x6) x7 := by
    unfold out0_8 k0_pay10
    rw [View.canon_unit_zero hz]
    have e0 : View.ld x0 r0_0 = x0 := View.ld_unit_zero (S := S16384x3072) hz _ _
    have e1 : View.ld x1 r0_1 = x1 := View.ld_unit_zero (S := S3072x15360) hz _ _
    have e2 : View.ld x2 r0_3 = x2 := View.ld_unit_zero (S := S1x15360) hz _ _
    have e3 : View.ld x3 r0_3 = x3 := View.ld_unit_zero (S := S1x15360) hz _ _
    have e4 : View.ld x4 r0_2 = x4 := View.ld_unit_zero (S := S1x1) hz _ _
    have e6 : View.ld x6 r0_3 = x6 := View.ld_unit_zero (S := S1x15360) hz _ _
    have e7 : View.ld x7 r0_2 = x7 := View.ld_unit_zero (S := S1x1) hz _ _
    rw [e0, e1, e2, e3, e4, e6, e7]
    unfold k0_pay1 k0_pay8 k0_pay7 k0_pay6 k0_pay3 k0_pay4 k0_pay5 k0_pay9 lastR convR nineR tapR
    simp only [shapeCast_self]
  have hv : ∀ j, k0_pay2 x0 x1 x4 x2 x3 j = bordered (hidOf x0 x1 x4 x2 x3) j := pay2_apply x0 x1 x4 x2 x3
  rw [ho]
  funext i
  have b0 : (i 0).val < 16384 := (i 0).isLt
  have b1 : (i 1).val < 7680 := (i 1).isLt
  have hc : ∀ k, k < 15360 → rd (s := S16384x15360) (convR (k0_pay2 x0 x1 x4 x2 x3) x5 x6) ![(i 0).val, k]
      = conv9 (fun n => imgTap (hidOf x0 x1 x4 x2 x3) (i 0).val (n.val / 3) (n.val % 3) k) (fun n => rd (s := S9x1x1x1x15360) x5 ![n.val, 0, 0, 0, k]) (rd (s := S1x15360) x6 ![0, k]) := fun k hk => by
    rw [rd_in _ _ (fun d => by match d with | ⟨0, _⟩ => exact b0 | ⟨1, _⟩ => exact hk)]
    exact convR_apply hv x5 x6 _
  rw [lastR_apply, hc _ (by omega), hc _ (by omega)]
  rfl

variable (m : (ℓ : Loc nD τ sig) → Buf (Elt Ideal) ℓ) (ρ : Dev nD → PrngReg)

/-- The result array, from what the region finds. -/
def G (c : Dev nD) : S16384x7680.Idx → EReal :=
  GOf (V m c main_v0) (V m c main_v1) (V m c main_v2) (V m c main_v3) (V m c main_v4) (V m c main_v5) (V m c main_v6) (V m c main_v7)

theorem index (t : Fin cfg0.N) : (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) ∧ (∀ a, win0_6.index t a = 0) ∧ (∀ a, win0_7.index t a = 0) ∧ ∀ a, win0_8.index t a = 0 :=
  (by decide +kernel : ∀ t : Fin grid0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) ∧ (∀ a, win0_6.index t a = 0) ∧ (∀ a, win0_7.index t a = 0) ∧ ∀ a, win0_8.index t a = 0) t

/-- The one point writes back the whole of `G`. -/
theorem flushed_eq (c : Dev nD) (t : Fin cfg0.N) :
    (dats m 0 c).flushed 8 t = ((cfg0.win 8).blk t).view.read (Elt Ideal) (G m c) := by
  rw [Value.flushed8]
  obtain ⟨h0, h1, h2, h3, h4, h5, h6, h7, h8⟩ := index t
  have b0 : (iblk m c 0 t : S16384x3072.Idx → EReal) = V m c main_v0 := funext fun y => congrArg (V m c main_v0)
    (funext fun a => Fin.ext (win0_0.rect_emb_val_of_index_zero t a (h0 a) y))
  have b1 : (iblk m c 1 t : S3072x15360.Idx → EReal) = V m c main_v1 := funext fun y => congrArg (V m c main_v1)
    (funext fun a => Fin.ext (win0_1.rect_emb_val_of_index_zero t a (h1 a) y))
  have b2 : (iblk m c 2 t : S1x15360.Idx → EReal) = V m c main_v2 := funext fun y => congrArg (V m c main_v2)
    (funext fun a => Fin.ext (win0_2.rect_emb_val_of_index_zero t a (h2 a) y))
  have b3 : (iblk m c 3 t : S1x15360.Idx → EReal) = V m c main_v3 := funext fun y => congrArg (V m c main_v3)
    (funext fun a => Fin.ext (win0_3.rect_emb_val_of_index_zero t a (h3 a) y))
  have b4 : (iblk m c 4 t : S1x1.Idx → EReal) = V m c main_v4 := funext fun y => congrArg (V m c main_v4)
    (funext fun a => Fin.ext (win0_4.rect_emb_val_of_index_zero t a (h4 a) y))
  have b5 : (iblk m c 5 t : S9x1x1x1x15360.Idx → EReal) = V m c main_v5 := funext fun y => congrArg (V m c main_v5)
    (funext fun a => Fin.ext (win0_5.rect_emb_val_of_index_zero t a (h5 a) y))
  have b6 : (iblk m c 6 t : S1x15360.Idx → EReal) = V m c main_v6 := funext fun y => congrArg (V m c main_v6)
    (funext fun a => Fin.ext (win0_6.rect_emb_val_of_index_zero t a (h6 a) y))
  have b7 : (iblk m c 7 t : S1x1.Idx → EReal) = V m c main_v7 := funext fun y => congrArg (V m c main_v7)
    (funext fun a => Fin.ext (win0_7.rect_emb_val_of_index_zero t a (h7 a) y))
  funext y
  show out0_8 (F := Ideal) (iblk m c 0 t) (iblk m c 1 t) (iblk m c 2 t) (iblk m c 3 t) (iblk m c 4 t) (iblk m c 5 t) (iblk m c 6 t) (iblk m c 7 t) y = G m c ((win0_8.rect t).emb y)
  have e8 : (win0_8.rect t).emb y = y := funext fun a => Fin.ext (win0_8.rect_emb_val_of_index_zero t a (h8 a) y)
  rw [e8]
  refine (congrFun (out_apply _ _ _ _ _ _ _ _) y).trans ?_
  unfold G
  rw [b0, b1, b2, b3, b4, b5, b6, b7]

/-- Being in a point's block, coordinate by coordinate. -/
theorem mem_blk (t : Fin cfg0.N) (i : S16384x7680.Idx) :
    i ∈ ((cfg0.win 8).blk t).view.set ↔ ∀ a, win0_8.index t a * win0_8.size a ≤ (i a : Nat)
      ∧ (i a : Nat) < win0_8.index t a * win0_8.size a + win0_8.xsize (grid0.coords t) a := by
  show i ∈ ((View.whole main_v8).slice (win0_8.rect t)).set ↔ _
  rw [View.set_slice_whole, Rect.mem_set_unit]

/-- The one block is the whole array. -/
theorem cover (i : S16384x7680.Idx) : ∃ t : Fin cfg0.N, (cfg0.win 8).flush t = true ∧ i ∈ ((cfg0.win 8).blk t).view.set := by
  have h0 : (i 0 : Nat) < 16384 := (i 0).isLt
  have h1 : (i 1 : Nat) < 7680 := (i 1).isLt
  have hN : cfg0.N = 1 := N_0
  refine ⟨⟨0, by omega⟩, flush0_8 _, ?_⟩
  rw [mem_blk]
  have h := (index ⟨0, by omega⟩).2.2.2.2.2.2.2.2
  intro a
  match a with
  | ⟨0, _⟩ =>
    show win0_8.index _ 0 * 16384 ≤ (i 0 : Nat) ∧ (i 0 : Nat) < win0_8.index _ 0 * 16384 + 16384
    rw [h 0]; omega
  | ⟨1, _⟩ =>
    show win0_8.index _ 1 * 7680 ≤ (i 1 : Nat) ∧ (i 1 : Nat) < win0_8.index _ 1 * 7680 + 7680
    rw [h 1]; omega

/-- So the result array ends at `G`. -/
theorem final (c : Dev nD) : (dats m 0 c).arrAt 8 cfg0.N = G m c :=
  (dats m 0 c).arrAt_eq_of_cover 8 (G m c) (fun t _ => flushed_eq m c t) cover

end Cert.UpRefIdeal.Hand

end
-- ==== Proof.UpFinite.lean ====
/-
  Facts about real numbers inside the extended reals: what the activation and the convolution become when every
  argument is finite, and what the precondition says of the arguments.
-/
module

public import proofs.«01_k».proof.Defs
public import proofs.«01_k».proof.Proof.Gen.Pre_finite
public import proofs.«01_k».proof.Proof.UpReference

@[expose] public section

noncomputable section

namespace Cert.UpHand

open Idealize.ShloMosaic Idealize.ShloMosaic.TcCoe Idealize.SL.Sem Idealize.ShloMosaic.ValueIdx
open Cert.UpIdeal.Hand (rd act conv9 imgTap)
open Cert.UpRefIdeal.Hand (silu)
open scoped BigOperators

/-- Neither infinity. -/
def IsReal (e : EReal) : Prop := ∃ r : ℝ, e = (r : EReal)

theorem isReal_coe (r : ℝ) : IsReal (r : EReal) := ⟨r, rfl⟩

theorem isReal_zero : IsReal 0 := ⟨0, rfl⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem isReal_sum {n : ℕ} (f : Fin n → EReal) (h : ∀ k, IsReal (f k)) : IsReal (∑ k, f k) :=
  Finset.sum_induction f IsReal (fun _ _ => IsReal.add) isReal_zero (fun k _ => h k)

theorem isReal_silu {z : EReal} (h : IsReal z) : IsReal (silu z) := by
  obtain ⟨r, rfl⟩ := h
  unfold silu
  rw [Ideal.logistic_coe]
  exact IsReal.mul (isReal_coe _) (isReal_coe _)

/-- The kernel's activation of half of `z` is `z` times the logistic function of `z`. -/
theorem act_half (z : ℝ) : act ((z / 2 : ℝ) : EReal) = silu (z : EReal) := by
  unfold act silu
  rw [Ideal.tanh_coe, Ideal.logistic_coe, ← EReal.coe_mul, ← EReal.coe_mul, ← EReal.coe_add]
  refine congrArg (fun r : ℝ => (r : EReal)) ?_
  have hu : (0 : ℝ) < Real.exp (z / 2) := Real.exp_pos _
  have h1 : Real.exp (-(z / 2)) = (Real.exp (z / 2))⁻¹ := Real.exp_neg _
  have h2 : Real.exp (-z) = (Real.exp (z / 2))⁻¹ * (Real.exp (z / 2))⁻¹ := by
    rw [← h1, ← Real.exp_add]
    exact congrArg Real.exp (by ring)
  rw [Real.tanh_eq_sinh_div_cosh, Real.sinh_eq, Real.cosh_eq, h1, h2]
  generalize Real.exp (z / 2) = u at hu
  have hu' : u ≠ 0 := hu.ne'
  have hs : u * u + 1 ≠ 0 := by positivity
  field_simp
  ring

/-- One half, as the program writes it. -/
theorem half_eq : (Ideal.ofBits .f32 0x3F000000#32 : EReal) = ((1 / 2 : ℝ) : EReal) := by
  simp [Ideal.ofBits, Ideal.ieee, -EReal.coe_mul]
  norm_num

/-- One, as the program writes it. -/
theorem one_eq : (Ideal.ofBits .f32 0x3F800000#32 : EReal) = 1 := by
  simp [Ideal.ofBits, Ideal.ieee, -EReal.coe_mul]
  norm_num

/-- Half of a real. -/
theorem half_mul (r : ℝ) : (Ideal.ofBits .f32 0x3F000000#32 : EReal) * (r : EReal) = ((r / 2 : ℝ) : EReal) := by
  rw [half_eq, ← EReal.coe_mul]
  exact congrArg (fun r : ℝ => (r : EReal)) (by ring)

/-- The linear map with halved scale and halved bias is half of the linear map. -/
theorem act_lin {a xs ws b : EReal} (ha : IsReal a) (hx : IsReal xs) (hw : IsReal ws) (hb : IsReal b) :
    act (a * ((Ideal.ofBits .f32 0x3F000000#32 * xs) * ws) + Ideal.ofBits .f32 0x3F000000#32 * b) = silu (a * xs * ws + b) := by
  obtain ⟨a, rfl⟩ := ha
  obtain ⟨x, rfl⟩ := hx
  obtain ⟨w, rfl⟩ := hw
  obtain ⟨b, rfl⟩ := hb
  rw [half_mul, half_mul]
  simp only [← EReal.coe_mul, ← EReal.coe_add]
  rw [← act_half]
  exact congrArg act (congrArg (fun r : ℝ => (r : EReal)) (by ring))

/-- With halved weights and halved bias the convolution is half of the convolution. -/
theorem act_conv {t k : Fin 9 → EReal} {b : EReal} (ht : ∀ n, IsReal (t n)) (hk : ∀ n, IsReal (k n)) (hb : IsReal b) :
    act (conv9 t (fun n => k n * Ideal.ofBits .f32 0x3F000000#32) (b * Ideal.ofBits .f32 0x3F000000#32)) = silu (conv9 t k b) := by
  choose t' ht using ht
  choose k' hk using hk
  obtain ⟨b, rfl⟩ := hb
  unfold conv9
  rw [half_eq]
  simp only [ht, hk, ← EReal.coe_mul, ← EReal.coe_add]
  rw [← act_half]
  exact congrArg act (congrArg (fun r : ℝ => (r : EReal)) (by ring))

/-- A tap of real values is real. -/
theorem isReal_tap {h : ℕ → ℕ → EReal} (hh : ∀ r ch, IsReal (h r ch)) (r dr dc ch : ℕ) : IsReal (imgTap h r dr dc ch) := by
  unfold imgTap
  split
  · exact hh _ _
  · exact isReal_zero

/-- A number whose difference with itself is zero is real. -/
theorem isReal_of_sub {x : EReal} (h : Ideal.cmp .oeq (x - x) 0 = 1#1) : IsReal x := by
  induction x using EReal.rec with
  | bot => simp [Ideal.cmp] at h
  | coe r => exact isReal_coe r
  | top => simp [Ideal.cmp] at h

theorem isReal_of_cmp {s : Shape} {φ : FTy} {a z : FVec Ideal s φ} (hz : ∀ i, z i = (0 : EReal)) (h : cmpf .oeq (subf a a) z = fun _ => 1#1) (i : s.Idx) : IsReal (a i) := by
  have e : Ideal.cmp .oeq ((a i : EReal) - a i) (z i) = 1#1 := congrFun h i
  rw [hz i] at e
  exact isReal_of_sub e

variable {m : (ℓ : Loc UpIdeal.nD UpIdeal.τ UpIdeal.sig) → Buf (Elt Ideal) ℓ}

/-- What the precondition says: the first seven arguments hold real numbers. -/
theorem pre_real (h : Cert.Pre_UpIdeal_finite m) (c : Dev UpIdeal.nD) :
    (∀ i, IsReal (m ((c : Thread UpIdeal.nD UpIdeal.τ).loc UpIdeal.main_arg0) i)) ∧ (∀ i, IsReal (m ((c : Thread UpIdeal.nD UpIdeal.τ).loc UpIdeal.main_arg1) i))
    ∧ (∀ i, IsReal (m ((c : Thread UpIdeal.nD UpIdeal.τ).loc UpIdeal.main_arg2) i)) ∧ (∀ i, IsReal (m ((c : Thread UpIdeal.nD UpIdeal.τ).loc UpIdeal.main_arg3) i))
    ∧ (∀ i, IsReal (m ((c : Thread UpIdeal.nD UpIdeal.τ).loc UpIdeal.main_arg4) i)) ∧ (∀ i, IsReal (m ((c : Thread UpIdeal.nD UpIdeal.τ).loc UpIdeal.main_arg5) i))
    ∧ ∀ i, IsReal (m ((c : Thread UpIdeal.nD UpIdeal.τ).loc UpIdeal.main_arg6) i) := by
  obtain ⟨h0, h1, h2, h3, h4, h5, h6⟩ := h c
  exact ⟨isReal_of_cmp (fun _ => Cert.UpIdeal.Hand.ofBits_zero) h0, isReal_of_cmp (fun _ => Cert.UpIdeal.Hand.ofBits_zero) h1, isReal_of_cmp (fun _ => Cert.UpIdeal.Hand.ofBits_zero) h2,
    isReal_of_cmp (fun _ => Cert.UpIdeal.Hand.ofBits_zero) h3, isReal_of_cmp (fun _ => Cert.UpIdeal.Hand.ofBits_bf16_zero) h4, isReal_of_cmp (fun _ => Cert.UpIdeal.Hand.ofBits_zero) h5,
    isReal_of_cmp (fun _ => Cert.UpIdeal.Hand.ofBits_zero) h6⟩

end Cert.UpHand

end
-- ==== Proof.UpValue.lean ====
/-
  The gated unit's kernel and reference compute one function over the extended reals, for finite arguments.  The kernel
  halves the first linear map's scale and bias and the gate's convolution weights and bias, and computes
  `t * tanh t + t` of the halved number; the reference multiplies a number by its logistic function.
-/
module

public import proofs.«01_k».proof.Proof.UpFinite

@[expose] public section

noncomputable section

namespace Cert.UpHand

open Idealize.ShloMosaic Idealize.ShloMosaic.TcCoe Idealize.SL.Sem Idealize.ShloMosaic.ValueIdx
open Cert.UpIdeal.Hand (rd rdD rd_of rd_in act conv9 imgTap clip)
open Cert.UpRefIdeal.Hand (silu)
open Cert.UpIdeal (S1x15360 S15360 S3x3x15360 S9x16x15360 S9x1x15360 S1x1x15360 S1 S16384x3072 S3072x15360 S16384x7680)
open scoped BigOperators

/-- One half and one, as the program writes them. -/
abbrev half : EReal := Ideal.ofBits .f32 0x3F000000#32
abbrev one : EReal := Ideal.ofBits .f32 0x3F800000#32

theorem rd_out {s : Shape} (x : s.Idx → EReal) (i : Fin s.rank → ℕ) (h : ¬∀ a, i a < s.size a) : rd x i = 0 := dif_neg h

theorem isReal_rd {s : Shape} {x : s.Idx → EReal} (h : ∀ i, IsReal (x i)) (i : Fin s.rank → ℕ) : IsReal (rd x i) := by
  by_cases hi : ∀ a, i a < s.size a
  · rw [rd_in x i hi]; exact h _
  · rw [rd_out x i hi]; exact isReal_zero

theorem rd_row (x : S1x15360.Idx → EReal) (ch : Fin 15360) : rd x ![0, ch.val] = x (ix2 (0 : Fin 1) ch) :=
  (rd_of 0 x _ _ (fun a => by match a with | ⟨0, _⟩ => rfl | ⟨1, _⟩ => rfl)).symm

theorem rd_vec (x : S15360.Idx → EReal) (ch : Fin 15360) : rd x ![ch.val] = x (ix1 ch) :=
  (rd_of 0 x _ _ (fun a => by match a with | ⟨0, _⟩ => rfl)).symm

theorem rd_one (x : S1.Idx → EReal) : rd x ![0] = x (ix1 (0 : Fin 1)) :=
  (rd_of 0 x _ _ (fun a => by match a with | ⟨0, _⟩ => rfl)).symm

theorem row_out (x : S1x15360.Idx → EReal) {ch : ℕ} (h : ¬ch < 15360) : rd x ![0, ch] = 0 := rd_out _ _ (fun hh => h (hh 1))

theorem vec_out (x : S15360.Idx → EReal) {ch : ℕ} (h : ¬ch < 15360) : rd x ![ch] = 0 := rd_out _ _ (fun hh => h (hh 0))

/-- A vector laid out as one row. -/
theorem cast_row (x : S15360.Idx → EReal) (h : S15360.ShapeCasts S1x15360) (ch : Fin 15360) : shapeCast S1x15360 x h (ix2 (0 : Fin 1) ch) = x (ix1 ch) := by
  refine shapeCast_apply _ _ _ (ix1 ch) ?_
  rw [Shape.rowMajor_val_one, Shape.rowMajor_val_two]
  simp [ix2, ix1]

/-- The three by three weights laid out as nine. -/
theorem cast_nine (x : S3x3x15360.Idx → EReal) (h : S3x3x15360.ShapeCasts S9x1x15360) (n : Fin 9) (ch : Fin 15360) :
    shapeCast S9x1x15360 x h (ix3 n (0 : Fin 1) ch) = x (ix3 (⟨n.val / 3, by omega⟩ : Fin 3) (⟨n.val % 3, by omega⟩ : Fin 3) ch) := by
  refine shapeCast_apply _ _ _ (ix3 (⟨n.val / 3, by omega⟩ : Fin 3) (⟨n.val % 3, by omega⟩ : Fin 3) ch) ?_
  rw [Shape.rowMajor_val_three, Shape.rowMajor_val_three]
  show (n.val / 3 * 3 + n.val % 3) * 15360 + ch.val = (n.val * 1 + 0) * 15360 + ch.val
  omega

/-- An index of the nine weights with three more unit axes. -/
abbrev ix9 (n : Fin 9) (ch : Fin 15360) : UpRefIdeal.S9x1x1x1x15360.Idx := fun d =>
  match d with | ⟨0, _⟩ => n | ⟨1, _⟩ => (0 : Fin 1) | ⟨2, _⟩ => (0 : Fin 1) | ⟨3, _⟩ => (0 : Fin 1) | ⟨4, _⟩ => ch

theorem cast_nine_units (x : S3x3x15360.Idx → EReal) (h : S3x3x15360.ShapeCasts UpRefIdeal.S9x1x1x1x15360) (n : Fin 9) (ch : Fin 15360) :
    shapeCast UpRefIdeal.S9x1x1x1x15360 x h (ix9 n ch) = x (ix3 (⟨n.val / 3, by omega⟩ : Fin 3) (⟨n.val % 3, by omega⟩ : Fin 3) ch) := by
  refine shapeCast_apply _ _ _ (ix3 (⟨n.val / 3, by omega⟩ : Fin 3) (⟨n.val % 3, by omega⟩ : Fin 3) ch) ?_
  rw [Shape.rowMajor_val_three, Shape.rowMajor_val_five]
  show (n.val / 3 * 3 + n.val % 3) * 15360 + ch.val = (((n.val * 1 + 0) * 1 + 0) * 1 + 0) * 15360 + ch.val
  omega

section Kernel

variable (m : (ℓ : Loc UpIdeal.nD UpIdeal.τ UpIdeal.sig) → Buf (Elt Ideal) ℓ) (c : Dev UpIdeal.nD)

abbrev A0 : S16384x3072.Idx → EReal := m ((c : Thread UpIdeal.nD UpIdeal.τ).loc UpIdeal.main_arg0)
abbrev A1 : S3072x15360.Idx → EReal := m ((c : Thread UpIdeal.nD UpIdeal.τ).loc UpIdeal.main_arg1)
abbrev A2 : S15360.Idx → EReal := m ((c : Thread UpIdeal.nD UpIdeal.τ).loc UpIdeal.main_arg2)
abbrev A3 : S15360.Idx → EReal := m ((c : Thread UpIdeal.nD UpIdeal.τ).loc UpIdeal.main_arg3)
abbrev A4 : S3x3x15360.Idx → EReal := m ((c : Thread UpIdeal.nD UpIdeal.τ).loc UpIdeal.main_arg4)
abbrev A5 : S15360.Idx → EReal := m ((c : Thread UpIdeal.nD UpIdeal.τ).loc UpIdeal.main_arg5)
abbrev A6 : S1.Idx → EReal := m ((c : Thread UpIdeal.nD UpIdeal.τ).loc UpIdeal.main_arg6)
abbrev A7 : S1.Idx → EReal := m ((c : Thread UpIdeal.nD UpIdeal.τ).loc UpIdeal.main_arg7)

theorem x_eq : UpIdeal.Hand.Xq m c = A0 m c := by
  unfold UpIdeal.Hand.Xq A0
  entry_read
  rfl

theorem w_eq : UpIdeal.Hand.Wq m c = A1 m c := by
  unfold UpIdeal.Hand.Wq A1
  entry_read
  rfl

theorem s_eq (ch : Fin 15360) : UpIdeal.Hand.S m c (ix2 (0 : Fin 1) ch) = half * A6 m c (ix1 (0 : Fin 1)) * A2 m c (ix1 ch) := by
  unfold UpIdeal.Hand.S
  entry_read
  refine (cast_row _ _ ch).trans ?_
  rw [mulf_apply]
  refine congrArg₂ (fun a b : EReal => a * b) ?_ rfl
  refine (broadcastInDim_apply _ _ _ _ ix0 (fun a => a.elim0)).trans ?_
  rw [mulf_apply]
  exact congrArg₂ (fun a b : EReal => a * b) rfl (shapeCast_apply _ _ ix0 (ix1 (0 : Fin 1)) rfl)

theorem b_eq (ch : Fin 15360) : UpIdeal.Hand.B m c (ix2 (0 : Fin 1) ch) = half * A3 m c (ix1 ch) := by
  unfold UpIdeal.Hand.B
  entry_read
  refine (cast_row _ _ ch).trans ?_
  rw [mulf_apply]
  refine congrArg₂ (fun a b : EReal => a * b) ?_ rfl
  exact (broadcastInDim_apply _ _ _ _ ix0 (fun a => a.elim0)).trans rfl

/-- The factor of each channel of the convolution: one for a value, one half for a gate. -/
def fac (ch : ℕ) : EReal := if ch < 7680 then one else half

theorem fac_eq (a b : UpIdeal.S7680.Idx → EReal) (ha : ∀ i, a i = one) (hb : ∀ i, b i = half) (h) (ch : Fin 15360) :
    concatenate S15360 0 [⟨UpIdeal.S7680, a⟩, ⟨UpIdeal.S7680, b⟩] h (ix1 ch) = fac ch.val := by
  unfold fac
  by_cases hc : ch.val < 7680
  · rw [if_pos hc]
    exact (concatenate_apply_piece 0 _ _ (ix1 ch) 0 (by show 0 < 2; decide) UpIdeal.S7680 a rfl rfl 0 rfl (ix1 (⟨ch.val, hc⟩ : Fin 7680))
      (fun d hd => absurd (Subsingleton.elim (α := Fin 1) d 0) hd) (Nat.zero_add _)).trans (ha _)
  · rw [if_neg hc]
    exact (concatenate_apply_piece 0 _ _ (ix1 ch) 1 (by show 1 < 2; decide) UpIdeal.S7680 b rfl rfl 7680 rfl (ix1 (⟨ch.val - 7680, by have := ch.isLt; omega⟩ : Fin 7680))
      (fun d hd => absurd (Subsingleton.elim (α := Fin 1) d 0) hd) (by show 7680 + (ch.val - 7680) = ch.val; omega)).trans (hb _)

theorem k_eq (n : Fin 9) (q : Fin 16) (ch : Fin 15360) :
    UpIdeal.Hand.K m c (ix3 n q ch) = A4 m c (ix3 (⟨n.val / 3, by omega⟩ : Fin 3) (⟨n.val % 3, by omega⟩ : Fin 3) ch) * fac ch.val := by
  unfold UpIdeal.Hand.K
  entry_read
  refine (broadcastInDim_apply _ _ _ _ (ix3 n (0 : Fin 1) ch) (fun a => by match a with | ⟨0, _⟩ => rfl | ⟨1, _⟩ => rfl | ⟨2, _⟩ => rfl)).trans ?_
  rw [mulf_apply]
  refine congrArg₂ (fun a b : EReal => a * b) ?_ ?_
  · exact cast_nine _ _ n ch
  · refine (broadcastInDim_apply _ _ _ _ (ix3 (0 : Fin 1) (0 : Fin 1) ch) (fun a => by match a with | ⟨0, _⟩ => rfl | ⟨1, _⟩ => rfl | ⟨2, _⟩ => rfl)).trans ?_
    refine (broadcastInDim_apply _ _ _ _ (ix1 ch) (fun a => by match a with | ⟨0, _⟩ => rfl)).trans ?_
    exact fac_eq _ _ (fun i => (broadcastInDim_apply _ _ _ _ ix0 (fun a => a.elim0)).trans rfl) (fun i => (broadcastInDim_apply _ _ _ _ ix0 (fun a => a.elim0)).trans rfl) UpIdeal.Gen.concatenates_S7680_S7680_S15360_d0 ch

theorem c_eq (ch : Fin 15360) : UpIdeal.Hand.C m c (ix2 (0 : Fin 1) ch) = A5 m c (ix1 ch) * fac ch.val := by
  unfold UpIdeal.Hand.C
  entry_read
  refine (cast_row _ _ ch).trans ?_
  rw [mulf_apply]
  refine congrArg₂ (fun a b : EReal => a * b) rfl ?_
  exact fac_eq _ _ (fun i => (broadcastInDim_apply _ _ _ _ ix0 (fun a => a.elim0)).trans rfl) (fun i => (broadcastInDim_apply _ _ _ _ ix0 (fun a => a.elim0)).trans rfl) UpIdeal.Gen.concatenates_S7680_S7680_S15360_d0 ch

theorem inv_eq : UpIdeal.Hand.INV m c (ix1 (0 : Fin 1)) = Ideal.div one (A7 m c (ix1 (0 : Fin 1))) := by
  unfold UpIdeal.Hand.INV
  entry_read
  rfl

end Kernel

section Reference

variable (m : (ℓ : Loc UpRefIdeal.nD UpRefIdeal.τ UpRefIdeal.sig) → Buf (Elt Ideal) ℓ) (c : Dev UpRefIdeal.nD)

abbrev R0 : S16384x3072.Idx → EReal := UpRefIdeal.Gen.V m c UpRefIdeal.main_v0
abbrev R1 : S3072x15360.Idx → EReal := UpRefIdeal.Gen.V m c UpRefIdeal.main_v1
abbrev R2 : S1x15360.Idx → EReal := UpRefIdeal.Gen.V m c UpRefIdeal.main_v2
abbrev R3 : S1x15360.Idx → EReal := UpRefIdeal.Gen.V m c UpRefIdeal.main_v3
abbrev R4 : UpRefIdeal.S1x1.Idx → EReal := UpRefIdeal.Gen.V m c UpRefIdeal.main_v4
abbrev R5 : UpRefIdeal.S9x1x1x1x15360.Idx → EReal := UpRefIdeal.Gen.V m c UpRefIdeal.main_v5
abbrev R6 : S1x15360.Idx → EReal := UpRefIdeal.Gen.V m c UpRefIdeal.main_v6
abbrev R7 : UpRefIdeal.S1x1.Idx → EReal := UpRefIdeal.Gen.V m c UpRefIdeal.main_v7
abbrev B2 : S15360.Idx → EReal := m ((c : Thread UpRefIdeal.nD UpRefIdeal.τ).loc UpRefIdeal.main_arg2)
abbrev B3 : S15360.Idx → EReal := m ((c : Thread UpRefIdeal.nD UpRefIdeal.τ).loc UpRefIdeal.main_arg3)
abbrev B4 : S3x3x15360.Idx → EReal := m ((c : Thread UpRefIdeal.nD UpRefIdeal.τ).loc UpRefIdeal.main_arg4)
abbrev B5 : S15360.Idx → EReal := m ((c : Thread UpRefIdeal.nD UpRefIdeal.τ).loc UpRefIdeal.main_arg5)
abbrev B6 : S1.Idx → EReal := m ((c : Thread UpRefIdeal.nD UpRefIdeal.τ).loc UpRefIdeal.main_arg6)
abbrev B7 : S1.Idx → EReal := m ((c : Thread UpRefIdeal.nD UpRefIdeal.τ).loc UpRefIdeal.main_arg7)

theorem r0_eq : R0 m c = (m ((c : Thread UpRefIdeal.nD UpRefIdeal.τ).loc UpRefIdeal.main_arg0) : S16384x3072.Idx → EReal) := by
  unfold R0
  entry_read
  rfl

theorem r1_eq : R1 m c = (m ((c : Thread UpRefIdeal.nD UpRefIdeal.τ).loc UpRefIdeal.main_arg1) : S3072x15360.Idx → EReal) := by
  unfold R1
  entry_read
  rfl

theorem r2_eq (ch : Fin 15360) : R2 m c (ix2 (0 : Fin 1) ch) = B2 m c (ix1 ch) := by
  unfold R2
  entry_read
  exact cast_row _ _ ch

theorem r3_eq (ch : Fin 15360) : R3 m c (ix2 (0 : Fin 1) ch) = B3 m c (ix1 ch) := by
  unfold R3
  entry_read
  exact cast_row _ _ ch

theorem r6_eq (ch : Fin 15360) : R6 m c (ix2 (0 : Fin 1) ch) = B5 m c (ix1 ch) := by
  unfold R6
  entry_read
  exact cast_row _ _ ch

theorem r4_eq : R4 m c (ix2 (0 : Fin 1) (0 : Fin 1)) = B6 m c (ix1 (0 : Fin 1)) := by
  unfold R4
  entry_read
  exact shapeCast_apply _ _ (ix2 (0 : Fin 1) (0 : Fin 1)) (ix1 (0 : Fin 1)) rfl

theorem r7_eq : R7 m c (ix2 (0 : Fin 1) (0 : Fin 1)) = B7 m c (ix1 (0 : Fin 1)) := by
  unfold R7
  entry_read
  exact shapeCast_apply _ _ (ix2 (0 : Fin 1) (0 : Fin 1)) (ix1 (0 : Fin 1)) rfl

theorem r5_eq (n : Fin 9) (ch : Fin 15360) :
    rd (s := UpRefIdeal.S9x1x1x1x15360) (R5 m c) ![n.val, 0, 0, 0, ch.val] = B4 m c (ix3 (⟨n.val / 3, by omega⟩ : Fin 3) (⟨n.val % 3, by omega⟩ : Fin 3) ch) := by
  refine (rd_of (s := UpRefIdeal.S9x1x1x1x15360) 0 (R5 m c) (ix9 n ch) _ (fun a => by
    match a with | ⟨0, _⟩ => rfl | ⟨1, _⟩ => rfl | ⟨2, _⟩ => rfl | ⟨3, _⟩ => rfl | ⟨4, _⟩ => rfl)).symm.trans ?_
  unfold R5
  entry_read
  exact cast_nine_units _ _ n ch

end Reference

variable (m : (ℓ : Loc UpIdeal.nD UpIdeal.τ UpIdeal.sig) → Buf (Elt Ideal) ℓ)
variable (m' : (ℓ : Loc UpRefIdeal.nD UpRefIdeal.τ UpRefIdeal.sig) → Buf (Elt Ideal) ℓ)

/-- From equal finite arguments the two result arrays are equal. -/
theorem result_eq (hp : Cert.Pre_UpIdeal_finite m) (c : Dev UpIdeal.nD)
    (h0 : m' ((c : Thread UpRefIdeal.nD UpRefIdeal.τ).loc UpRefIdeal.main_arg0) = m ((c : Thread UpIdeal.nD UpIdeal.τ).loc UpIdeal.main_arg0))
    (h1 : m' ((c : Thread UpRefIdeal.nD UpRefIdeal.τ).loc UpRefIdeal.main_arg1) = m ((c : Thread UpIdeal.nD UpIdeal.τ).loc UpIdeal.main_arg1))
    (h2 : m' ((c : Thread UpRefIdeal.nD UpRefIdeal.τ).loc UpRefIdeal.main_arg2) = m ((c : Thread UpIdeal.nD UpIdeal.τ).loc UpIdeal.main_arg2))
    (h3 : m' ((c : Thread UpRefIdeal.nD UpRefIdeal.τ).loc UpRefIdeal.main_arg3) = m ((c : Thread UpIdeal.nD UpIdeal.τ).loc UpIdeal.main_arg3))
    (h4 : m' ((c : Thread UpRefIdeal.nD UpRefIdeal.τ).loc UpRefIdeal.main_arg4) = m ((c : Thread UpIdeal.nD UpIdeal.τ).loc UpIdeal.main_arg4))
    (h5 : m' ((c : Thread UpRefIdeal.nD UpRefIdeal.τ).loc UpRefIdeal.main_arg5) = m ((c : Thread UpIdeal.nD UpIdeal.τ).loc UpIdeal.main_arg5))
    (h6 : m' ((c : Thread UpRefIdeal.nD UpRefIdeal.τ).loc UpRefIdeal.main_arg6) = m ((c : Thread UpIdeal.nD UpIdeal.τ).loc UpIdeal.main_arg6))
    (h7 : m' ((c : Thread UpRefIdeal.nD UpRefIdeal.τ).loc UpRefIdeal.main_arg7) = m ((c : Thread UpIdeal.nD UpIdeal.τ).loc UpIdeal.main_arg7)) :
    (UpIdeal.Hand.G m c : S16384x7680.Idx → EReal) = UpRefIdeal.Hand.G m' c := by
  obtain ⟨p0, p1, p2, p3, p4, p5, p6⟩ := pre_real hp c
  -- the arrays of the reference, from the kernel's arguments
  have q0 : R0 m' c = A0 m c := (r0_eq m' c).trans h0
  have q1 : R1 m' c = A1 m c := (r1_eq m' c).trans h1
  have q2 : ∀ ch, rd (R2 m' c) ![0, ch] = rd (A2 m c) ![ch] := fun ch => by
    by_cases hc : ch < 15360
    · exact (rd_row (R2 m' c) ⟨ch, hc⟩).trans ((r2_eq m' c ⟨ch, hc⟩).trans ((congrFun h2 _).trans (rd_vec (A2 m c) ⟨ch, hc⟩).symm))
    · rw [row_out _ hc, vec_out _ hc]
  have q3 : ∀ ch, rd (R3 m' c) ![0, ch] = rd (A3 m c) ![ch] := fun ch => by
    by_cases hc : ch < 15360
    · exact (rd_row (R3 m' c) ⟨ch, hc⟩).trans ((r3_eq m' c ⟨ch, hc⟩).trans ((congrFun h3 _).trans (rd_vec (A3 m c) ⟨ch, hc⟩).symm))
    · rw [row_out _ hc, vec_out _ hc]
  have q6 : ∀ ch, rd (R6 m' c) ![0, ch] = rd (A5 m c) ![ch] := fun ch => by
    by_cases hc : ch < 15360
    · exact (rd_row (R6 m' c) ⟨ch, hc⟩).trans ((r6_eq m' c ⟨ch, hc⟩).trans ((congrFun h5 _).trans (rd_vec (A5 m c) ⟨ch, hc⟩).symm))
    · rw [row_out _ hc, vec_out _ hc]
  have q4 : rd (s := UpRefIdeal.S1x1) (R4 m' c) ![0, 0] = rd (A6 m c) ![0] :=
    (rd_of (s := UpRefIdeal.S1x1) 0 (R4 m' c) (ix2 (0 : Fin 1) (0 : Fin 1)) _ (fun a => by match a with | ⟨0, _⟩ => rfl | ⟨1, _⟩ => rfl)).symm.trans
      ((r4_eq m' c).trans ((congrFun h6 _).trans (rd_one (A6 m c)).symm))
  have q7 : rd (s := UpRefIdeal.S1x1) (R7 m' c) ![0, 0] = rd (A7 m c) ![0] :=
    (rd_of (s := UpRefIdeal.S1x1) 0 (R7 m' c) (ix2 (0 : Fin 1) (0 : Fin 1)) _ (fun a => by match a with | ⟨0, _⟩ => rfl | ⟨1, _⟩ => rfl)).symm.trans
      ((r7_eq m' c).trans ((congrFun h7 _).trans (rd_one (A7 m c)).symm))
  have q5 : ∀ (n : Fin 9) ch, ch < 15360 → rd (s := UpRefIdeal.S9x1x1x1x15360) (R5 m' c) ![n.val, 0, 0, 0, ch] = rd (A4 m c) ![n.val / 3, n.val % 3, ch] := fun n ch hc =>
    (r5_eq m' c n ⟨ch, hc⟩).trans ((congrFun h4 _).trans (rd_of 0 (A4 m c) _ _ (fun a => by match a with | ⟨0, _⟩ => rfl | ⟨1, _⟩ => rfl | ⟨2, _⟩ => rfl)))
  -- the arrays of the kernel
  have k2 : ∀ ch, rd (UpIdeal.Hand.S m c) ![0, ch] = half * rd (A6 m c) ![0] * rd (A2 m c) ![ch] := fun ch => by
    by_cases hc : ch < 15360
    · rw [rd_one]
      exact (rd_row (UpIdeal.Hand.S m c) ⟨ch, hc⟩).trans ((s_eq m c ⟨ch, hc⟩).trans (congrArg (fun e : EReal => half * A6 m c (ix1 (0 : Fin 1)) * e) (rd_vec (A2 m c) ⟨ch, hc⟩).symm))
    · rw [row_out _ hc, vec_out _ hc, mul_zero]
  have k3 : ∀ ch, rd (UpIdeal.Hand.B m c) ![0, ch] = half * rd (A3 m c) ![ch] := fun ch => by
    by_cases hc : ch < 15360
    · exact (rd_row (UpIdeal.Hand.B m c) ⟨ch, hc⟩).trans ((b_eq m c ⟨ch, hc⟩).trans (congrArg (fun e : EReal => half * e) (rd_vec (A3 m c) ⟨ch, hc⟩).symm))
    · rw [row_out _ hc, vec_out _ hc, mul_zero]
  have k5 : ∀ (n : Fin 9) q ch, q < 16 → ch < 15360 → rd (UpIdeal.Hand.K m c) ![n.val, q, ch] = rd (A4 m c) ![n.val / 3, n.val % 3, ch] * fac ch := fun n q ch hq hc =>
    (rd_of 0 (UpIdeal.Hand.K m c) (ix3 n (⟨q, hq⟩ : Fin 16) (⟨ch, hc⟩ : Fin 15360)) _ (fun a => by match a with | ⟨0, _⟩ => rfl | ⟨1, _⟩ => rfl | ⟨2, _⟩ => rfl)).symm.trans
      ((k_eq m c n ⟨q, hq⟩ ⟨ch, hc⟩).trans (congrArg (fun e : EReal => e * fac ch) (rd_of 0 (A4 m c) _ _ (fun a => by match a with | ⟨0, _⟩ => rfl | ⟨1, _⟩ => rfl | ⟨2, _⟩ => rfl))))
  have k6 : ∀ ch, ch < 15360 → rd (UpIdeal.Hand.C m c) ![0, ch] = rd (A5 m c) ![ch] * fac ch := fun ch hc =>
    (rd_row (UpIdeal.Hand.C m c) ⟨ch, hc⟩).trans ((c_eq m c ⟨ch, hc⟩).trans (congrArg (fun e : EReal => e * fac ch) (rd_vec (A5 m c) ⟨ch, hc⟩).symm))
  have k7 : rd (UpIdeal.Hand.INV m c) ![0] = Ideal.div one (rd (A7 m c) ![0]) := by
    rw [rd_one, rd_one]
    exact inv_eq m c
  -- the activated product
  have hh : UpIdeal.Hand.hid m c = UpRefIdeal.Hand.hidOf (R0 m' c) (R1 m' c) (R4 m' c) (R2 m' c) (R3 m' c) := by
    funext r ch
    unfold UpIdeal.Hand.hid UpRefIdeal.Hand.hidOf
    rw [k2, k3, q2, q3, q4, q0, q1, x_eq, w_eq]
    exact act_lin (isReal_sum _ (fun k => (isReal_rd p0 _).mul (isReal_rd p1 _))) (isReal_rd p6 _) (isReal_rd p2 _) (isReal_rd p3 _)
  have hr : ∀ r ch, IsReal (UpIdeal.Hand.hid m c r ch) := fun r ch => by
    rw [hh]
    unfold UpRefIdeal.Hand.hidOf
    rw [q2, q3, q4, q0, q1]
    exact isReal_silu ((((isReal_sum _ (fun k => (isReal_rd p0 _).mul (isReal_rd p1 _))).mul (isReal_rd p6 _)).mul (isReal_rd p2 _)).add (isReal_rd p3 _))
  funext i
  have b1 : (i 1).val < 7680 := (i 1).isLt
  have hq : (i 0).val % 16 < 16 := by omega
  show UpIdeal.Hand.unit _ _ _ _ _ _ _ = UpRefIdeal.Hand.unit _ _ _ _ _ _ _
  unfold UpIdeal.Hand.unit UpRefIdeal.Hand.unit
  change clip (conv9 (fun n => imgTap (UpIdeal.Hand.hid m c) (i 0).val (n.val / 3) (n.val % 3) (i 1).val) (fun n => rd (UpIdeal.Hand.K m c) ![n.val, (i 0).val % 16, (i 1).val]) (rd (UpIdeal.Hand.C m c) ![0, (i 1).val])
      * act (conv9 (fun n => imgTap (UpIdeal.Hand.hid m c) (i 0).val (n.val / 3) (n.val % 3) (7680 + (i 1).val)) (fun n => rd (UpIdeal.Hand.K m c) ![n.val, (i 0).val % 16, 7680 + (i 1).val]) (rd (UpIdeal.Hand.C m c) ![0, 7680 + (i 1).val]))
      * rd (UpIdeal.Hand.INV m c) ![0])
    = clip (conv9 (fun n => imgTap (UpRefIdeal.Hand.hidOf (R0 m' c) (R1 m' c) (R4 m' c) (R2 m' c) (R3 m' c)) (i 0).val (n.val / 3) (n.val % 3) (i 1).val)
        (fun n => rd (s := UpRefIdeal.S9x1x1x1x15360) (R5 m' c) ![n.val, 0, 0, 0, (i 1).val]) (rd (R6 m' c) ![0, (i 1).val])
      * silu (conv9 (fun n => imgTap (UpRefIdeal.Hand.hidOf (R0 m' c) (R1 m' c) (R4 m' c) (R2 m' c) (R3 m' c)) (i 0).val (n.val / 3) (n.val % 3) (7680 + (i 1).val))
        (fun n => rd (s := UpRefIdeal.S9x1x1x1x15360) (R5 m' c) ![n.val, 0, 0, 0, 7680 + (i 1).val]) (rd (R6 m' c) ![0, 7680 + (i 1).val]))
      * Ideal.div one (rd (s := UpRefIdeal.S1x1) (R7 m' c) ![0, 0]))
  rw [← hh, k7, q7, q6, q6, k6 _ (by omega), k6 _ (by omega), funext fun n => k5 n _ _ hq (show (i 1).val < 15360 by omega), funext fun n => k5 n _ _ hq (show 7680 + (i 1).val < 15360 by omega),
    funext fun n => q5 n _ (show (i 1).val < 15360 by omega), funext fun n => q5 n _ (show 7680 + (i 1).val < 15360 by omega)]
  have f1 : fac (i 1).val = 1 := (if_pos b1).trans one_eq
  have f2 : fac (7680 + (i 1).val) = half := if_neg (by omega)
  rw [f1, f2, act_conv (fun n => isReal_tap hr _ _ _ _) (fun n => isReal_rd p4 _) (isReal_rd p5 _)]
  simp only [mul_one]

/-- The claim. -/
theorem algebraic : Cert.algebraic_UpIdeal_UpRefIdeal_pre_finite := by
  intro m ρ m' ρ' hp hagree
  refine ⟨fun c => UpIdeal.Hand.G m c, ?_, ?_⟩
  · exact (θ_run _ _ _).mono (fun _ h c => ⟨UpIdeal.Hand.result m h.1 c, UpIdeal.Hand.args_of_post (UpIdeal.Hand.tracked m) h.1 c⟩)
      (UpIdeal.Hand.run_main_quiescent ρ (UpIdeal.Hand.tracked m))
  · refine (θ_run _ _ _).mono (fun _ h c => ⟨((h c).1.trans (UpRefIdeal.Hand.final m' c)).trans ?_, (h c).2⟩) (UpRefIdeal.Value.run_blocks m' ρ')
    obtain ⟨a0, a1, a2, a3, a4, a5, a6, a7⟩ := hagree c
    exact (result_eq m m' hp c a0 a1 a2 a3 a4 a5 a6 a7).symm

end Cert.UpHand

end
-- ==== Proof.UpLoop.lean ====
/-
  The loop over the four value panels of `up_conv_glu`, one trip at a time. A trip runs the three generated inner
  loops (first row, middle rows, last row); what it leaves in the output block is a function of what it found there,
  named by the run itself, and the loop leaves the iterate of those functions.
-/
module

public import proofs.«01_k».proof.Proof.Gen.Up.Loops

@[expose] public section

set_option maxRecDepth 8192
set_option maxHeartbeats 4000000

noncomputable section

namespace Cert.Up.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Up.Gen

variable {F : FTy → Type} [FloatOps F]

local notation "𝕄" => MT nD τ sig Unit (Elt F) ℕ (UR sig nD τ) ℕ

variable (𝒱 : Variants) (c : Dev nD) (bd : Option 𝒱.V) (i : grid0.Coords)
  (arg1 : Memref sig .tc .smem S1 .f32) (harg1 : arg1.IsWhole)
  (arg2 : Memref sig .tc .vmem S1024x3072 .fp8e4m3) (harg2 : arg2.IsWhole)
  (arg3 : Memref sig .tc .vmem S3072x512 .fp8e4m3) (harg3 : arg3.IsWhole)
  (arg4 : Memref sig .tc .vmem S3072x512 .fp8e4m3) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S9x16x512 .bf16) (harg9 : arg9.IsWhole)
  (arg10 : Memref sig .tc .vmem S9x16x512 .bf16) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1024x512 .fp8e4m3) (harg13 : arg13.IsWhole)
  (arg14 : Memref sig .tc .vmem S8x4x144x128 .f32) (harg14 : arg14.IsWhole)
  (arg15 : Memref sig .tc .vmem S2x3x8x8x128x128 .bf16) (harg15 : arg15.IsWhole)
  (arg16 : Memref sig .tc .vmem S3x8x128x128 .bf16) (harg16 : arg16.IsWhole)
  (arg17 : Memref sig .tc .vmem S3x8x128x128 .bf16) (harg17 : arg17.IsWhole)
  (v6 : BitVec 32) (v17 : Elt F .f32)
  (X9 : BufTy.Contents (Elt F) arg9.view.ty) (X10 : BufTy.Contents (Elt F) arg10.view.ty) (X11 : BufTy.Contents (Elt F) arg11.view.ty) (X12 : BufTy.Contents (Elt F) arg12.view.ty) (X15 : BufTy.Contents (Elt F) arg15.view.ty) (X16 : BufTy.Contents (Elt F) arg16.view.ty) (X17 : BufTy.Contents (Elt F) arg17.view.ty)

/-- What a trip uses: the taps, the biases and the three halves of the window at their contents, the output block at any. -/
abbrev TripRes (f : BufTy.Contents (Elt F) arg13.view.ty) : sProp 𝕄 :=
  iprop((arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg13.view.loc (c : Thread nD τ) ↦[arg13.view.set]{fullShare} f))

/-- One trip: the output block it leaves, from the one it found. -/
@[irreducible] def trip (k : Fin k0_t2_loop.trips) :
    { N : BufTy.Contents (Elt F) arg13.view.ty → BufTy.Contents (Elt F) arg13.view.ty //
      ∀ (E : Set ℕ) (f : BufTy.Contents (Elt F) arg13.view.ty),
        TripRes (F := F) c arg9 arg10 arg11 arg12 arg13 arg15 arg16 arg17 X9 X10 X11 X12 X15 X16 X17 f
        ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 k PUnit.unit)
            (fun _ => TripRes (F := F) c arg9 arg10 arg11 arg12 arg13 arg15 arg16 arg17 X9 X10 X11 X12 X15 X16 X17 (N f)) } := by
  have hk : k.val < 4 := Nat.lt_of_lt_of_le k.isLt k0_t2_abs.2.1
  refine ⟨?_, fun E f => ?run⟩
  case run =>
    unfold k0_t2_body
    iintro ⟨H9, H10, H11, H12, H15, H16, H17, H13⟩
    sl_exec
    sl_step
    sl_close

/-- The output block before trip `k`, from the block before the loop. -/
def before (G : BufTy.Contents (Elt F) arg13.view.ty) : ℕ → BufTy.Contents (Elt F) arg13.view.ty
  | 0 => G
  | k + 1 => if h : k < k0_t2_loop.trips then
      (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 ⟨k, h⟩).1 (before G k)
    else before G k

theorem before_succ (G : BufTy.Contents (Elt F) arg13.view.ty) (k : Fin k0_t2_loop.trips) :
    before (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 G (k.val + 1)
      = (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 k).1 (before (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 G k.val) := by
  rw [before.eq_2]; exact dif_pos k.isLt

set_option warn.classDefReducibility false in
/-- The loop by its invariant. -/
@[sl_loop] def loopInv (E : Set ℕ) (G : BufTy.Contents (Elt F) arg13.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 where
  inv := fun k _ => iprop((arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (∃ f, (arg13.view.loc (c : Thread nD τ) ↦[arg13.view.set]{fullShare} f) ∗ ⌜f = before (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 G k⌝))
  step k acc := by
    iintro ⟨H9, H10, H11, H12, H15, H16, H17, ⟨%f, H13, %h⟩⟩
    iapply (wp_wand_r Idealize.ShloMosaic.frame (wpE (defs₀ (F := F)) 𝒱 (c : Thread nD τ) bd) E)
    isplitl [H9 H10 H11 H12 H15 H16 H17 H13]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v17 X9 X10 X11 X12 X15 X16 X17 k).2 E f)
      isplitl [H9]; · iexact H9
      isplitl [H10]; · iexact H10
      isplitl [H11]; · iexact H11
      isplitl [H12]; · iexact H12
      isplitl [H15]; · iexact H15
      isplitl [H16]; · iexact H16
      isplitl [H17]; · iexact H17
      iexact H13
    · iintro %_ ⟨H9, H10, H11, H12, H15, H16, H17, H13⟩
      isplitl [H9]; · iexact H9
      isplitl [H10]; · iexact H10
      isplitl [H11]; · iexact H11
      isplitl [H12]; · iexact H12
      isplitl [H15]; · iexact H15
      isplitl [H16]; · iexact H16
      isplitl [H17]; · iexact H17
      iexists _; isplitl [H13]; · iexact H13
      ipureintro; rw [before_succ, h]

end Cert.Up.Hand

end
-- ==== Proof.UpBody.lean ====
/-
  One run of the body of the gated unit's call: what it leaves in the output block and in its four scratch buffers, as functions of
  what it found there. The first grid point also clears the padded buffer and the row above; every later point does not.
-/
module

public import proofs.«01_k».proof.Proof.UpLoop

@[expose] public section

set_option maxRecDepth 8192
set_option maxHeartbeats 4000000

noncomputable section

namespace Cert.Up.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Up.Gen

variable {F : FTy → Type} [FloatOps F]

local notation "𝕄" => MT nD τ sig Unit (Elt F) ℕ (UR sig nD τ) ℕ

variable (𝒱 : Variants) (c : Dev nD) (bd : Option 𝒱.V) (i : grid0.Coords)
  (arg1 : Memref sig .tc .smem S1 .f32) (harg1 : arg1.IsWhole)
  (arg2 : Memref sig .tc .vmem S1024x3072 .fp8e4m3) (harg2 : arg2.IsWhole)
  (arg3 : Memref sig .tc .vmem S3072x512 .fp8e4m3) (harg3 : arg3.IsWhole)
  (arg4 : Memref sig .tc .vmem S3072x512 .fp8e4m3) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S9x16x512 .bf16) (harg9 : arg9.IsWhole)
  (arg10 : Memref sig .tc .vmem S9x16x512 .bf16) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1024x512 .fp8e4m3) (harg13 : arg13.IsWhole)
  (arg14 : Memref sig .tc .vmem S8x4x144x128 .f32) (harg14 : arg14.IsWhole)
  (arg15 : Memref sig .tc .vmem S2x3x8x8x128x128 .bf16) (harg15 : arg15.IsWhole)
  (arg16 : Memref sig .tc .vmem S3x8x128x128 .bf16) (harg16 : arg16.IsWhole)
  (arg17 : Memref sig .tc .vmem S3x8x128x128 .bf16) (harg17 : arg17.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty)

/-- The body's windows and scratch at their contents. -/
abbrev BodyRes (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12)
    ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17))

/-- The first grid point. -/
abbrev IsFirst : Prop := Scalar.cmpi .ne (Scalar.extui (Scalar.cmpi .eq (BitVec.ofNat 32 (i 0).val) 0#32) : BitVec 32) 0#32 = 1#1

/-- The body at a point that is not the first. -/
@[irreducible] def rest (hi : ¬ IsFirst i) :
    Σ' (N13 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg13.view.ty)
      (N14 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg14.view.ty)
      (N15 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg15.view.ty)
      (N16 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg16.view.ty),
      { N17 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg17.view.ty //
      ∀ (E : Set ℕ) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty),
        BodyRes (F := F) c arg1 arg2 arg3 arg4 arg5 arg6 arg7 arg8 arg9 arg10 arg11 arg12 arg13 arg14 arg15 arg16 arg17 X1 X2 X3 X4 X5 X6 X7 X8 X9 X10 X11 X12 f13 f14 f15 f16 f17
        ⊢ wp frame (wpE (defs₀ (F := F)) 𝒱 (c : Thread nD τ) bd) E (cc0_up_conv_glu (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
            (fun _ => BodyRes (F := F) c arg1 arg2 arg3 arg4 arg5 arg6 arg7 arg8 arg9 arg10 arg11 arg12 arg13 arg14 arg15 arg16 arg17 X1 X2 X3 X4 X5 X6 X7 X8 X9 X10 X11 X12 (N13 f13 f14 f15 f16 f17) (N14 f13 f14 f15 f16 f17) (N15 f13 f14 f15 f16 f17) (N16 f13 f14 f15 f16 f17) (N17 f13 f14 f15 f16 f17)) } := by
  refine ⟨?_, ?_, ?_, ?_, ?_, fun E f13 f14 f15 f16 f17 => ?run⟩
  case run =>
    rw [cc0_up_conv_glu_eq_skeleton]
    unfold cc0_up_conv_glu_skel
    iintro ⟨H1, H2, H3, H4, H5, H6, H7, H8, H9, H10, H11, H12, H13, H14, H15, H16, H17⟩
    sl_exec_parts
    sl_step
    sl_close

/-- The body at the first point. -/
@[irreducible] def first (hi : IsFirst i) :
    Σ' (N13 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg13.view.ty)
      (N14 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg14.view.ty)
      (N15 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg15.view.ty)
      (N16 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg16.view.ty),
      { N17 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg17.view.ty //
      ∀ (E : Set ℕ) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty),
        BodyRes (F := F) c arg1 arg2 arg3 arg4 arg5 arg6 arg7 arg8 arg9 arg10 arg11 arg12 arg13 arg14 arg15 arg16 arg17 X1 X2 X3 X4 X5 X6 X7 X8 X9 X10 X11 X12 f13 f14 f15 f16 f17
        ⊢ wp frame (wpE (defs₀ (F := F)) 𝒱 (c : Thread nD τ) bd) E (cc0_up_conv_glu (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
            (fun _ => BodyRes (F := F) c arg1 arg2 arg3 arg4 arg5 arg6 arg7 arg8 arg9 arg10 arg11 arg12 arg13 arg14 arg15 arg16 arg17 X1 X2 X3 X4 X5 X6 X7 X8 X9 X10 X11 X12 (N13 f13 f14 f15 f16 f17) (N14 f13 f14 f15 f16 f17) (N15 f13 f14 f15 f16 f17) (N16 f13 f14 f15 f16 f17) (N17 f13 f14 f15 f16 f17)) } := by
  refine ⟨?_, ?_, ?_, ?_, ?_, fun E f13 f14 f15 f16 f17 => ?run⟩
  case run =>
    rw [cc0_up_conv_glu_eq_skeleton]
    unfold cc0_up_conv_glu_skel
    iintro ⟨H1, H2, H3, H4, H5, H6, H7, H8, H9, H10, H11, H12, H13, H14, H15, H16, H17⟩
    sl_exec_parts
    sl_step
    sl_close

end Cert.Up.Hand

end
-- ==== Proof.UpRegion.lean ====
/-
  The gated unit's call, launched: the body's run at every grid point under an invariant of the four scratch buffers (`J`), the output
  block held to a predicate at every point (`O`). The frame takes both trivial; the value of the result takes them as the shifted
  panels in the scratch and the finished block of codes.
-/
module

public import proofs.«01_k».proof.Proof.UpBody
public import proofs.«01_k».proof.Proof.Gen.Up.Points
public import proofs.«01_k».proof.Proof.Gen.Up.Frame
public import Idealize.ShloMosaic.Lib.Pipeline.DatRel
public import Idealize.ShloMosaic.Lib.Pipeline.ArrRel

@[expose] public section

set_option maxRecDepth 8192
set_option maxHeartbeats 400000

noncomputable section

namespace Cert.Up.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)
open Cert.Up Cert.Up.Gen

variable {F : FTy → Type} [FloatOps F]

local notation "𝕄" => MT nD τ sig Unit (Elt F) ℕ (UR sig nD τ) ℕ

section Point

variable (𝒱 : Variants) (c : Dev nD) (bd : Option 𝒱.V) (i : grid0.Coords)
  (arg1 : Memref sig .tc .smem S1 .f32) (harg1 : arg1.IsWhole)
  (arg2 : Memref sig .tc .vmem S1024x3072 .fp8e4m3) (harg2 : arg2.IsWhole)
  (arg3 : Memref sig .tc .vmem S3072x512 .fp8e4m3) (harg3 : arg3.IsWhole)
  (arg4 : Memref sig .tc .vmem S3072x512 .fp8e4m3) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S9x16x512 .bf16) (harg9 : arg9.IsWhole)
  (arg10 : Memref sig .tc .vmem S9x16x512 .bf16) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1024x512 .fp8e4m3) (harg13 : arg13.IsWhole)
  (arg14 : Memref sig .tc .vmem S8x4x144x128 .f32) (harg14 : arg14.IsWhole)
  (arg15 : Memref sig .tc .vmem S2x3x8x8x128x128 .bf16) (harg15 : arg15.IsWhole)
  (arg16 : Memref sig .tc .vmem S3x8x128x128 .bf16) (harg16 : arg16.IsWhole)
  (arg17 : Memref sig .tc .vmem S3x8x128x128 .bf16) (harg17 : arg17.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty)

/-- What the body leaves (`g…`) where it found `f…`. -/
def After (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) : Prop :=
  (∃ hi : ¬ IsFirst i, g13 = (rest (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).1 f13 f14 f15 f16 f17 ∧ g14 = (rest (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.1 f13 f14 f15 f16 f17 ∧ g15 = (rest (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.1 f13 f14 f15 f16 f17 ∧ g16 = (rest (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.2.1 f13 f14 f15 f16 f17 ∧ g17 = (rest (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.2.2.1 f13 f14 f15 f16 f17)
  ∨ (∃ hi : IsFirst i, g13 = (first (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).1 f13 f14 f15 f16 f17 ∧ g14 = (first (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.1 f13 f14 f15 f16 f17 ∧ g15 = (first (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.1 f13 f14 f15 f16 f17 ∧ g16 = (first (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.2.1 f13 f14 f15 f16 f17 ∧ g17 = (first (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.2.2.1 f13 f14 f15 f16 f17)

/-- The body's run at any point. -/
theorem run_body (E : Set ℕ) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    BodyRes (F := F) c arg1 arg2 arg3 arg4 arg5 arg6 arg7 arg8 arg9 arg10 arg11 arg12 arg13 arg14 arg15 arg16 arg17 X1 X2 X3 X4 X5 X6 X7 X8 X9 X10 X11 X12 f13 f14 f15 f16 f17
    ⊢ wp frame (wpE (defs₀ (F := F)) 𝒱 (c : Thread nD τ) bd) E (cc0_up_conv_glu (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(∃ g13 g14 g15 g16 g17, ⌜After (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 f13 f14 f15 f16 f17 g13 g14 g15 g16 g17⌝
          ∗ BodyRes (F := F) c arg1 arg2 arg3 arg4 arg5 arg6 arg7 arg8 arg9 arg10 arg11 arg12 arg13 arg14 arg15 arg16 arg17 X1 X2 X3 X4 X5 X6 X7 X8 X9 X10 X11 X12 g13 g14 g15 g16 g17)) := by
  by_cases hi : IsFirst i
  · refine ((first (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.2.2.2 E f13 f14 f15 f16 f17).trans (wp_mono _ _ _ fun _ => ?_)
    iintro H
    iexists _, _, _, _, _
    isplitr; · ipureintro; exact .inr ⟨hi, rfl, rfl, rfl, rfl, rfl⟩
    iexact H
  · refine ((rest (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 hi).2.2.2.2.2 E f13 f14 f15 f16 f17).trans (wp_mono _ _ _ fun _ => ?_)
    iintro H
    iexists _, _, _, _, _
    isplitr; · ipureintro; exact .inl ⟨hi, rfl, rfl, rfl, rfl, rfl⟩
    iexact H

end Point

variable (m : (ℓ : Loc nD τ sig) → Buf (Elt F) ℓ) (ρ : Dev nD → PrngReg)

/-- What is held of the scratch buffers before each point, and of the output block after it; with a proof that the body keeps both. -/
structure Track where
  /-- The scratch buffers before point `t`. -/
  J : (c : Dev nD) → ℕ → Buf (Elt F) ((c : Thread nD τ).loc cc0_scratch0) → Buf (Elt F) ((c : Thread nD τ).loc cc0_scratch1) → Buf (Elt F) ((c : Thread nD τ).loc cc0_scratch2) → Buf (Elt F) ((c : Thread nD τ).loc cc0_scratch3) → Prop
  /-- The output block after point `t`. -/
  O : (c : Dev nD) → Fin cfg0.N → ((cfg0.win 12).block.Idx → Elt F (cfg0.win 12).elt) → Prop
  J_zero : ∀ c f14 f15 f16 f17, J c 0 f14 f15 f16 f17
  step : ∀ (c : Dev nD) (t : Fin cfg0.N) (X1 : BufTy.Contents (Elt F) (st0_0 t).view.ty) (X2 : BufTy.Contents (Elt F) (st0_1 t).view.ty) (X3 : BufTy.Contents (Elt F) (st0_2 t).view.ty) (X4 : BufTy.Contents (Elt F) (st0_3 t).view.ty) (X5 : BufTy.Contents (Elt F) (st0_4 t).view.ty) (X6 : BufTy.Contents (Elt F) (st0_5 t).view.ty) (X7 : BufTy.Contents (Elt F) (st0_6 t).view.ty) (X8 : BufTy.Contents (Elt F) (st0_7 t).view.ty) (X9 : BufTy.Contents (Elt F) (st0_8 t).view.ty) (X10 : BufTy.Contents (Elt F) (st0_9 t).view.ty) (X11 : BufTy.Contents (Elt F) (st0_10 t).view.ty) (X12 : BufTy.Contents (Elt F) (st0_11 t).view.ty) (f13 : BufTy.Contents (Elt F) (st0_12 t).view.ty) (f14 : Buf (Elt F) ((c : Thread nD τ).loc cc0_scratch0)) (f15 : Buf (Elt F) ((c : Thread nD τ).loc cc0_scratch1)) (f16 : Buf (Elt F) ((c : Thread nD τ).loc cc0_scratch2)) (f17 : Buf (Elt F) ((c : Thread nD τ).loc cc0_scratch3)) (g13 : BufTy.Contents (Elt F) (st0_12 t).view.ty) (g14 : Buf (Elt F) ((c : Thread nD τ).loc cc0_scratch0)) (g15 : Buf (Elt F) ((c : Thread nD τ).loc cc0_scratch1)) (g16 : Buf (Elt F) ((c : Thread nD τ).loc cc0_scratch2)) (g17 : Buf (Elt F) ((c : Thread nD τ).loc cc0_scratch3)),
    (st0_0 t).view.read (Elt F) X1 = iblk m c 0 t → (st0_1 t).view.read (Elt F) X2 = iblk m c 1 t → (st0_2 t).view.read (Elt F) X3 = iblk m c 2 t → (st0_3 t).view.read (Elt F) X4 = iblk m c 3 t → (st0_4 t).view.read (Elt F) X5 = iblk m c 4 t → (st0_5 t).view.read (Elt F) X6 = iblk m c 5 t → (st0_6 t).view.read (Elt F) X7 = iblk m c 6 t → (st0_7 t).view.read (Elt F) X8 = iblk m c 7 t → (st0_8 t).view.read (Elt F) X9 = iblk m c 8 t → (st0_9 t).view.read (Elt F) X10 = iblk m c 9 t → (st0_10 t).view.read (Elt F) X11 = iblk m c 10 t → (st0_11 t).view.read (Elt F) X12 = iblk m c 11 t →
    J c t.val f14 f15 f16 f17 →
    After (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) X1 X2 X3 X4 X5 X6 X7 X8 X9 X10 X11 X12 f13 f14 f15 f16 f17 g13 g14 g15 g16 g17 →
    J c (t.val + 1) g14 g15 g16 g17 ∧ O c t ((st0_12 t).view.read (Elt F) g13)

variable {m} (T : Track m)

/-- The region's invariant: the scratch at contents that meet `J`, and the generator's register. -/
def Phi (c : Dev nD) (n : ℕ) : sProp 𝕄 :=
  iprop((∃ f14 f15 f16 f17, ⌜T.J c n f14 f15 f16 f17⌝ ∗ (((c : Thread nD τ).loc cc0_scratch0) ↦{fullShare} f14) ∗ (((c : Thread nD τ).loc cc0_scratch1) ↦{fullShare} f15)
    ∗ (((c : Thread nD τ).loc cc0_scratch2) ↦{fullShare} f16) ∗ (((c : Thread nD τ).loc cc0_scratch3) ↦{fullShare} f17)) ∗ ∃ r, prngReg c r)

/-- The window that is written. -/
def isRes : Fin cfg0.W → Bool := fun w => decide (w.val = 12)

/-- The pipeline's proof data: the inputs' blocks left in place, the result's not named. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Dat.unnamed 12 t
  Φ t := Phi T c t.val
  q w := Pipeline.shareOf spec0 w
  owed _ := 0

theorem A_eq (c : Dev nD) (w : Fin cfg0.W) : (dat T c).A w = V m c (Pipeline.arrRef spec0 w) := by
  dsimp only [dat]
theorem after_0 (c : Dev nD) (t : Fin cfg0.N) : (dat T c).after 0 t = iblk m c 0 t := by dsimp only [dat]
theorem after_1 (c : Dev nD) (t : Fin cfg0.N) : (dat T c).after 1 t = iblk m c 1 t := by dsimp only [dat]
theorem after_2 (c : Dev nD) (t : Fin cfg0.N) : (dat T c).after 2 t = iblk m c 2 t := by dsimp only [dat]
theorem after_3 (c : Dev nD) (t : Fin cfg0.N) : (dat T c).after 3 t = iblk m c 3 t := by dsimp only [dat]
theorem after_4 (c : Dev nD) (t : Fin cfg0.N) : (dat T c).after 4 t = iblk m c 4 t := by dsimp only [dat]
theorem after_5 (c : Dev nD) (t : Fin cfg0.N) : (dat T c).after 5 t = iblk m c 5 t := by dsimp only [dat]
theorem after_6 (c : Dev nD) (t : Fin cfg0.N) : (dat T c).after 6 t = iblk m c 6 t := by dsimp only [dat]
theorem after_7 (c : Dev nD) (t : Fin cfg0.N) : (dat T c).after 7 t = iblk m c 7 t := by dsimp only [dat]
theorem after_8 (c : Dev nD) (t : Fin cfg0.N) : (dat T c).after 8 t = iblk m c 8 t := by dsimp only [dat]
theorem after_9 (c : Dev nD) (t : Fin cfg0.N) : (dat T c).after 9 t = iblk m c 9 t := by dsimp only [dat]
theorem after_10 (c : Dev nD) (t : Fin cfg0.N) : (dat T c).after 10 t = iblk m c 10 t := by dsimp only [dat]
theorem after_11 (c : Dev nD) (t : Fin cfg0.N) : (dat T c).after 11 t = iblk m c 11 t := by dsimp only [dat]
theorem before_0 (c : Dev nD) (t : Fin cfg0.N) (d) : (dat T c).before 0 t d = iblk m c 0 t :=
  before0_0_of m (dat T c) (A_eq T c 0) (after_0 T c) t d
theorem before_1 (c : Dev nD) (t : Fin cfg0.N) (d) : (dat T c).before 1 t d = iblk m c 1 t :=
  before0_1_of m (dat T c) (A_eq T c 1) (after_1 T c) t d
theorem before_2 (c : Dev nD) (t : Fin cfg0.N) (d) : (dat T c).before 2 t d = iblk m c 2 t :=
  before0_2_of m (dat T c) (A_eq T c 2) (after_2 T c) t d
theorem before_3 (c : Dev nD) (t : Fin cfg0.N) (d) : (dat T c).before 3 t d = iblk m c 3 t :=
  before0_3_of m (dat T c) (A_eq T c 3) (after_3 T c) t d
theorem before_4 (c : Dev nD) (t : Fin cfg0.N) (d) : (dat T c).before 4 t d = iblk m c 4 t :=
  before0_4_of m (dat T c) (A_eq T c 4) (after_4 T c) t d
theorem before_5 (c : Dev nD) (t : Fin cfg0.N) (d) : (dat T c).before 5 t d = iblk m c 5 t :=
  before0_5_of m (dat T c) (A_eq T c 5) (after_5 T c) t d
theorem before_6 (c : Dev nD) (t : Fin cfg0.N) (d) : (dat T c).before 6 t d = iblk m c 6 t :=
  before0_6_of m (dat T c) (A_eq T c 6) (after_6 T c) t d
theorem before_7 (c : Dev nD) (t : Fin cfg0.N) (d) : (dat T c).before 7 t d = iblk m c 7 t :=
  before0_7_of m (dat T c) (A_eq T c 7) (after_7 T c) t d
theorem before_8 (c : Dev nD) (t : Fin cfg0.N) (d) : (dat T c).before 8 t d = iblk m c 8 t :=
  before0_8_of m (dat T c) (A_eq T c 8) (after_8 T c) t d
theorem before_9 (c : Dev nD) (t : Fin cfg0.N) (d) : (dat T c).before 9 t d = iblk m c 9 t :=
  before0_9_of m (dat T c) (A_eq T c 9) (after_9 T c) t d
theorem before_10 (c : Dev nD) (t : Fin cfg0.N) (d) : (dat T c).before 10 t d = iblk m c 10 t :=
  before0_10_of m (dat T c) (A_eq T c 10) (after_10 T c) t d
theorem before_11 (c : Dev nD) (t : Fin cfg0.N) (d) : (dat T c).before 11 t d = iblk m c 11 t :=
  before0_11_of m (dat T c) (A_eq T c 11) (after_11 T c) t d

/-- The result's predicate, as one of every window. -/
def Rl (c : Dev nD) (w : Fin cfg0.W) (t : Fin cfg0.N) : ((cfg0.win w).block.Idx → Elt F (cfg0.win w).elt) → Prop :=
  match w with
  | ⟨12, _⟩ => fun X => T.O c t X
  | _ => fun _ => True

theorem defs₀_row (t : Fin cfg0.N) :
    defs₀ (F := F) .tc cfg0.body (cfg0.bodyArgs t (cfg0.slots t)) = bodyAt0 t := by
  unfold defs₀; rw [Defs.onTc_tc]

omit [FloatOps F] in
/-- A whole buffer held through its view is the buffer held. -/
theorem whole_pts (b : Ref sig .tc) (c : Dev nD) (f : Buf (Elt F) ((c : Thread nD τ).loc b)) :
    ((Memref.whole (sig := sig) (κ := .tc) b).view.loc (c : Thread nD τ) ↦[(Memref.whole (sig := sig) (κ := .tc) b).view.set]{fullShare} f)
      ⊢ (((c : Thread nD τ).loc b ↦{fullShare} f) : sProp 𝕄) := by
  simp only [Memref.view_whole, View.set_whole]; exact .rfl

def bodyPre (c : Dev nD) (t : Fin cfg0.N) : sProp 𝕄 :=
  iprop((dat T c).Φ t.castSucc ∗ (dat T c).owesAt () t.castSucc
    ∗ (∃ d, owns (c : Thread nD τ) (st0_0 t) fullShare ((dat T c).before 0 t d))
    ∗ (∃ d, owns (c : Thread nD τ) (st0_1 t) fullShare ((dat T c).before 1 t d))
    ∗ (∃ d, owns (c : Thread nD τ) (st0_2 t) fullShare ((dat T c).before 2 t d))
    ∗ (∃ d, owns (c : Thread nD τ) (st0_3 t) fullShare ((dat T c).before 3 t d))
    ∗ (∃ d, owns (c : Thread nD τ) (st0_4 t) fullShare ((dat T c).before 4 t d))
    ∗ (∃ d, owns (c : Thread nD τ) (st0_5 t) fullShare ((dat T c).before 5 t d))
    ∗ (∃ d, owns (c : Thread nD τ) (st0_6 t) fullShare ((dat T c).before 6 t d))
    ∗ (∃ d, owns (c : Thread nD τ) (st0_7 t) fullShare ((dat T c).before 7 t d))
    ∗ (∃ d, owns (c : Thread nD τ) (st0_8 t) fullShare ((dat T c).before 8 t d))
    ∗ (∃ d, owns (c : Thread nD τ) (st0_9 t) fullShare ((dat T c).before 9 t d))
    ∗ (∃ d, owns (c : Thread nD τ) (st0_10 t) fullShare ((dat T c).before 10 t d))
    ∗ (∃ d, owns (c : Thread nD τ) (st0_11 t) fullShare ((dat T c).before 11 t d))
    ∗ (∃ Y, ⌜((dat T c).toRRel isRes (Rl T c)).Finds 12 t Y⌝ ∗ owns (c : Thread nD τ) (st0_12 t) fullShare Y))

def bodyPost (c : Dev nD) (t : Fin cfg0.N) : sProp 𝕄 :=
  iprop((dat T c).Φ t.succ ∗ (dat T c).owesAt () t.succ
    ∗ owns (c : Thread nD τ) (st0_0 t) fullShare ((dat T c).after 0 t)
    ∗ owns (c : Thread nD τ) (st0_1 t) fullShare ((dat T c).after 1 t)
    ∗ owns (c : Thread nD τ) (st0_2 t) fullShare ((dat T c).after 2 t)
    ∗ owns (c : Thread nD τ) (st0_3 t) fullShare ((dat T c).after 3 t)
    ∗ owns (c : Thread nD τ) (st0_4 t) fullShare ((dat T c).after 4 t)
    ∗ owns (c : Thread nD τ) (st0_5 t) fullShare ((dat T c).after 5 t)
    ∗ owns (c : Thread nD τ) (st0_6 t) fullShare ((dat T c).after 6 t)
    ∗ owns (c : Thread nD τ) (st0_7 t) fullShare ((dat T c).after 7 t)
    ∗ owns (c : Thread nD τ) (st0_8 t) fullShare ((dat T c).after 8 t)
    ∗ owns (c : Thread nD τ) (st0_9 t) fullShare ((dat T c).after 9 t)
    ∗ owns (c : Thread nD τ) (st0_10 t) fullShare ((dat T c).after 10 t)
    ∗ owns (c : Thread nD τ) (st0_11 t) fullShare ((dat T c).after 11 t)
    ∗ (∃ X, ⌜Rl T c 12 t X⌝ ∗ owns (c : Thread nD τ) (st0_12 t) fullShare X))

theorem sound_body (c : Dev nD) (t : Fin cfg0.N) :
    bodyPre T c t ⊢ wp frame (wpE (defs₀ (F := F)) Variants.none c none) Set.univ (bodyAt0 t) (fun _ => bodyPost T c t) := by
  unfold bodyPre bodyPost bodyAt0
  simp only [before_0, after_0, before_1, after_1, before_2, after_2, before_3, after_3, before_4, after_4, before_5, after_5, before_6, after_6, before_7, after_7, before_8, after_8, before_9, after_9, before_10, after_10, before_11, after_11]
  rw [show (dat T c).Φ t.succ = Phi T c (t.val + 1) from rfl, show (dat T c).Φ t.castSucc = Phi T c t.val from rfl,
    show (dat T c).owesAt () t.succ = (dat T c).owesAt () t.castSucc from rfl]
  unfold owns Phi
  iintro ⟨⟨⟨%f14, %f15, %f16, %f17, %hJ, H14, H15, H16, H17⟩, Hr⟩, Ho, ⟨%d1, %X1, %e1, H1⟩, ⟨%d2, %X2, %e2, H2⟩, ⟨%d3, %X3, %e3, H3⟩, ⟨%d4, %X4, %e4, H4⟩, ⟨%d5, %X5, %e5, H5⟩, ⟨%d6, %X6, %e6, H6⟩, ⟨%d7, %X7, %e7, H7⟩, ⟨%d8, %X8, %e8, H8⟩, ⟨%d9, %X9, %e9, H9⟩, ⟨%d10, %X10, %e10, H10⟩, ⟨%d11, %X11, %e11, H11⟩, ⟨%d12, %X12, %e12, H12⟩, ⟨%Y, -, %f13, -, H13⟩⟩
  iapply (wp_wand_r Idealize.ShloMosaic.frame (wpE (defs₀ (F := F)) Variants.none (c : Thread nD τ) none) Set.univ)
  isplitl [H1 H2 H3 H4 H5 H6 H7 H8 H9 H10 H11 H12 H13 H14 H15 H16 H17]
  · iapply (run_body (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) X1 X2 X3 X4 X5 X6 X7 X8 X9 X10 X11 X12 Set.univ f13 f14 f15 f16 f17)
    unfold BodyRes
    simp only [Memref.view_whole, View.set_whole]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iintro %_ ⟨%g13, %g14, %g15, %g16, %g17, %hA, H1, H2, H3, H4, H5, H6, H7, H8, H9, H10, H11, H12, H13, H14, H15, H16, H17⟩
    have hs := T.step c t X1 X2 X3 X4 X5 X6 X7 X8 X9 X10 X11 X12 f13 f14 f15 f16 f17 g13 g14 g15 g16 g17 e1 e2 e3 e4 e5 e6 e7 e8 e9 e10 e11 e12 hJ hA
    isplitl [H14 H15 H16 H17 Hr]
    · isplitr [Hr]
      · iexists g14, g15, g16, g17
        isplitr; · ipureintro; exact hs.1
        isplitl [H14]; · iapply (whole_pts cc0_scratch0 c g14); iexact H14
        isplitl [H15]; · iapply (whole_pts cc0_scratch1 c g15); iexact H15
        isplitl [H16]; · iapply (whole_pts cc0_scratch2 c g16); iexact H16
        iapply (whole_pts cc0_scratch3 c g17); iexact H17
      · iexact Hr
    isplitl [Ho]; · iexact Ho
    isplitl [H1]
    · iexists X1; isplitr; · ipureintro; exact e1
      iexact H1
    isplitl [H2]
    · iexists X2; isplitr; · ipureintro; exact e2
      iexact H2
    isplitl [H3]
    · iexists X3; isplitr; · ipureintro; exact e3
      iexact H3
    isplitl [H4]
    · iexists X4; isplitr; · ipureintro; exact e4
      iexact H4
    isplitl [H5]
    · iexists X5; isplitr; · ipureintro; exact e5
      iexact H5
    isplitl [H6]
    · iexists X6; isplitr; · ipureintro; exact e6
      iexact H6
    isplitl [H7]
    · iexists X7; isplitr; · ipureintro; exact e7
      iexact H7
    isplitl [H8]
    · iexists X8; isplitr; · ipureintro; exact e8
      iexact H8
    isplitl [H9]
    · iexists X9; isplitr; · ipureintro; exact e9
      iexact H9
    isplitl [H10]
    · iexists X10; isplitr; · ipureintro; exact e10
      iexact H10
    isplitl [H11]
    · iexists X11; isplitr; · ipureintro; exact e11
      iexact H11
    isplitl [H12]
    · iexists X12; isplitr; · ipureintro; exact e12
      iexact H12
    iexists _; isplitr
    · ipureintro; exact hs.2
    · iexists g13; isplitr; · ipureintro; rfl
      iexact H13

theorem body_obligation (c : Dev nD) :
    Pipeline.BodyObligationRel (dat T c) (defs₀ (F := F)) Variants.none () Set.univ isRes (Rl T c) := fun t => by
  rw [bigSep_W0, bigSep_W0, defs₀_row]
  exact triple_restated (sound_body T c t) rfl .rfl fun _ => .rfl

theorem hin (c : Dev nD) : Pipeline.ΦA spec0 c ⊢ Phi T c 0 := by
  unfold Pipeline.ΦA Phi
  rw [scopedRest0_eq]
  iintro ⟨⟨⟨%f14, H14⟩, ⟨%f15, H15⟩, ⟨%f16, H16⟩, ⟨%f17, H17⟩⟩, Hr⟩
  isplitr [Hr]
  · iexists f14, f15, f16, f17
    isplitr; · ipureintro; exact T.J_zero c f14 f15 f16 f17
    isplitl [H14]; · iexact H14
    isplitl [H15]; · iexact H15
    isplitl [H16]; · iexact H16
    iexact H17
  · iexact Hr

theorem hout (c : Dev nD) (n : ℕ) : Phi T c n ⊢ Pipeline.ΦA spec0 c := by
  unfold Pipeline.ΦA Phi
  rw [scopedRest0_eq]
  iintro ⟨⟨%f14, %f15, %f16, %f17, -, H14, H15, H16, H17⟩, Hr⟩
  isplitr [Hr]
  · isplitl [H14]; · iexists f14; iexact H14
    isplitl [H15]; · iexists f15; iexact H15
    isplitl [H16]; · iexists f16; iexact H16
    iexists f17; iexact H17
  · iexact Hr

/-- The relational data of the launch. -/
def rdat (c : Dev nD) : RDat τ (Elt F) Unit ℕ (UR sig nD τ) ℕ cfg0 c := (dat T c).toRRel isRes (Rl T c)

set_option backward.isDefEq.respectTransparency.types false in
theorem run_main_quiescent : θ_run defs (onTc (τ := τ) (main (F := F))) (s₀ m ρ)
    (fun r => RDat.FramePost cfg0 (rdat T) (V m) r ∧ r.2.sem = fun _ => 0) :=
  RDat.θ_run_frame_track_shared (Q' := _) cfgs (0 : Fin 1) launch₀0 defs₀ Variants.none (rdat T) m ρ main
    (hbody := fun c => (body_obligation T c).toRRel) (hq := fun c w _ => rfl) (howed := fun _ _ => rfl)
    (V := V m) (hmain := hmain m Variants.none) (hA := fun c w => A_eq T c w) (hin := fun c => hin T c) (hout := fun c => hout T c _)

/-- The argument arrays end unchanged, whatever is tracked. -/
theorem args_of_post {r : PUnit × MemSt nD τ sig (Elt F)} (h : RDat.FramePost cfg0 (rdat T) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- Nothing tracked. -/
def untracked : Track m where
  J _ _ _ _ _ _ := True
  O _ _ _ := True
  J_zero := by intros; trivial
  step := by intros; exact ⟨trivial, trivial⟩

/-- The frame: every run ends, faults nowhere, leaves the arguments as they were and every semaphore at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨args_of_post untracked h.1, h.2⟩) (run_main_quiescent ρ (untracked (m := m)))

end Cert.Up.Hand

end
-- ==== Proof.lean ====
module

public import proofs.«01_k».proof.Proof.QuantValue
public import proofs.«01_k».proof.Proof.DownValue
public import proofs.«01_k».proof.Proof.UpValue
public import proofs.«01_k».proof.Proof.Gen.QuantIdeal.Value
public import proofs.«01_k».proof.Proof.Gen.QuantRefIdeal.Value
public import proofs.«01_k».proof.Proof.Gen.DownIdeal.Value
public import proofs.«01_k».proof.Proof.Gen.DownRefIdeal.Value
public import proofs.«01_k».proof.Proof.Gen.UpRefIdeal.Value
public import proofs.«01_k».proof.Proof.Gen.Pre_finite
public import proofs.«01_k».proof.Proof.UpRegion
public import proofs.«01_k».proof.Proof.UpIdealRegion
public import proofs.«01_k».proof.Proof.Gen.UpRefIdeal
public import proofs.«01_k».proof.Proof.Gen.UpRefIdeal.Skeleton
public import proofs.«01_k».proof.Proof.Gen.UpRefIdeal.Launch
public import proofs.«01_k».proof.Proof.Gen.UpRefIdeal.Points
public import proofs.«01_k».proof.Proof.Gen.UpRefIdeal.Frame
public import proofs.«01_k».proof.Defs
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantRefIdeal
public import proofs.«01_k».proof.Proof.Gen.QuantRefIdeal.Skeleton
public import proofs.«01_k».proof.Proof.Gen.QuantRefIdeal.Launch
public import proofs.«01_k».proof.Proof.Gen.QuantRefIdeal.Points
public import proofs.«01_k».proof.Proof.Gen.QuantRefIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import Idealize.ShloMosaic.Adequacy
public import Idealize.ShloMosaic.Init

@[expose] public section

noncomputable section

namespace Cert.Proof

open Idealize.ShloMosaic Idealize.SL.Sem Cert.Quant

theorem claim : Cert.Claim := ⟨Cert.Quant.Gen.facts, Cert.QuantIdeal.Gen.facts, Cert.QuantRefIdeal.Gen.facts,
  Cert.Up.Gen.facts, Cert.UpIdeal.Gen.facts, Cert.UpRefIdeal.Gen.facts, Cert.Down.Gen.facts, Cert.DownIdeal.Gen.facts, Cert.DownRefIdeal.Gen.facts,
  Cert.Pre_finite.Gen.facts,
  fun m ρ _ => Cert.Quant.Gen.frame m ρ, fun m ρ _ => Cert.QuantIdeal.Gen.frame m ρ, fun m ρ _ => Cert.QuantRefIdeal.Gen.frame m ρ,
  fun m ρ _ => Cert.Up.Hand.frame m ρ, fun m ρ _ => Cert.UpIdeal.Hand.frame m ρ, fun m ρ _ => Cert.UpIdeal.Hand.frame m ρ,
  fun m ρ _ => Cert.UpRefIdeal.Gen.frame m ρ, fun m ρ _ => Cert.UpRefIdeal.Gen.frame m ρ,
  fun m ρ _ => Cert.Down.Gen.frame m ρ, fun m ρ _ => Cert.DownIdeal.Gen.frame m ρ, fun m ρ _ => Cert.DownRefIdeal.Gen.frame m ρ,
  trivial, Cert.QuantHand.algebraic, trivial, Cert.UpHand.algebraic, trivial, Cert.DownHand.algebraic⟩

end Cert.Proof

end
